-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v4) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v22)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v22) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v89) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_v37) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v33)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v33) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v47) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v9_0)) (v1 : (c : Dev Cert.Kernel14Ideal.nD) → Buf (Elt Ideal) ((c.tc : Thread Cert.Kernel14Ideal.nD Cert.Kernel14Ideal.τ).loc Cert.Kernel14Ideal.main_v9_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v9_0) = v0 c
          ∧ r.2.mem ((c.tc : Thread Cert.Kernel14Ideal.nD Cert.Kernel14Ideal.τ).loc Cert.Kernel14Ideal.main_v9_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_v16) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v30)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v30) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v46) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite.lean ====
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S_ : Shape := ⟨0, ![]⟩

class Facts : Prop where
  bcast_S_S4x4096x16x128 : S_.BroadcastsInDim S4x4096x16x128 (![] : Fin 0 → Fin S4x4096x16x128.rank)
  bcast_S_S4x4096x16x64 : S_.BroadcastsInDim S4x4096x16x64 (![] : Fin 0 → Fin S4x4096x16x64.rank)
  bcast_S_S4x4096x64 : S_.BroadcastsInDim S4x4096x64 (![] : Fin 0 → Fin S4x4096x64.rank)

variable [Facts]

def fn {F : FTy → Type} [FloatOps F] (main_arg0 : FVec F S4x4096x16x128 .f32) (main_arg1 : FVec F S4x4096x16x64 .f32) (main_arg2 : FVec F S4x4096x16x128 .f32) (main_arg3 : FVec F S4x4096x64 .f32) (main_arg4 : FVec F S4x4096x16x128 .f32) : IVec S4x4096x16x128 1 × IVec S4x4096x16x64 1 × IVec S4x4096x16x128 1 × IVec S4x4096x64 1 :=
  let main_v0 : FVec F S4x4096x16x128 .f32 := Host.absf main_arg0
  let main_cst : FVec F S_ .f32 := constant S_ .f32 0x7F800000#32
  let main_v1 : FVec F S4x4096x16x128 .f32 := broadcastInDim S4x4096x16x128 ![] bcast_S_S4x4096x16x128 main_cst
  let main_v2 : IVec S4x4096x16x128 1 := cmpf .olt main_v0 main_v1
  let main_v3 : FVec F S4x4096x16x64 .f32 := Host.absf main_arg1
  let main_cst_0 : FVec F S_ .f32 := constant S_ .f32 0x7F800000#32
  let main_v4 : FVec F S4x4096x16x64 .f32 := broadcastInDim S4x4096x16x64 ![] bcast_S_S4x4096x16x64 main_cst_0
  let main_v5 : IVec S4x4096x16x64 1 := cmpf .olt main_v3 main_v4
  let main_v6 : FVec F S4x4096x16x128 .f32 := Host.absf main_arg2
  let main_cst_1 : FVec F S_ .f32 := constant S_ .f32 0x7F800000#32
  let main_v7 : FVec F S4x4096x16x128 .f32 := broadcastInDim S4x4096x16x128 ![] bcast_S_S4x4096x16x128 main_cst_1
  let main_v8 : IVec S4x4096x16x128 1 := cmpf .olt main_v6 main_v7
  let main_v9 : FVec F S4x4096x64 .f32 := Host.absf main_arg3
  let main_cst_2 : FVec F S_ .f32 := constant S_ .f32 0x7F800000#32
  let main_v10 : FVec F S4x4096x64 .f32 := broadcastInDim S4x4096x64 ![] bcast_S_S4x4096x64 main_cst_2
  let main_v11 : IVec S4x4096x64 1 := cmpf .olt main_v9 main_v10
  (main_v2, main_v5, main_v8, main_v11)
-- ==== Kernel.lean ====
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S_ : Shape := ⟨0, ![]⟩
abbrev S4x4096x16x192 : Shape := ⟨4, ![4, 4096, 16, 192]⟩
abbrev S4x4096x16x256 : Shape := ⟨4, ![4, 4096, 16, 256]⟩
abbrev S16384x16x256 : Shape := ⟨3, ![16384, 16, 256]⟩
abbrev S16x16384x256 : Shape := ⟨3, ![16, 16384, 256]⟩
abbrev S4x4096x1x64 : Shape := ⟨4, ![4, 4096, 1, 64]⟩
abbrev S16384x2048 : Shape := ⟨2, ![16384, 2048]⟩
abbrev S1x1024x256 : Shape := ⟨3, ![1, 1024, 256]⟩
abbrev S1x4096x256 : Shape := ⟨3, ![1, 4096, 256]⟩
abbrev S1024x128 : Shape := ⟨2, ![1024, 128]⟩
abbrev S4096x256 : Shape := ⟨2, ![4096, 256]⟩
abbrev S1x256x256 : Shape := ⟨3, ![1, 256, 256]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S256x128 : Shape := ⟨2, ![256, 128]⟩

abbrev nBuf : Space → Nat
  | .hbm => 29
  | .vmem => 8
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x16x64, .f32⟩
  | .hbm, ⟨2, _⟩ => ⟨S4x4096x16x128, .f32⟩
  | .hbm, ⟨3, _⟩ => ⟨S4x4096x64, .f32⟩
  | .hbm, ⟨4, _⟩ => ⟨S4x4096x16x128, .f32⟩
  | .hbm, ⟨5, _⟩ => ⟨S_, .f32⟩
  | .hbm, ⟨6, _⟩ => ⟨S4x4096x16x64, .f32⟩
  | .hbm, ⟨7, _⟩ => ⟨S4x4096x16x192, .f32⟩
  | .hbm, ⟨8, _⟩ => ⟨S4x4096x16x256, .f32⟩
  | .hbm, ⟨9, _⟩ => ⟨S_, .f32⟩
  | .hbm, ⟨10, _⟩ => ⟨S4x4096x16x256, .f32⟩
  | .hbm, ⟨11, _⟩ => ⟨S4x4096x16x256, .f32⟩
  | .hbm, ⟨12, _⟩ => ⟨S16384x16x256, .f32⟩
  | .hbm, ⟨13, _⟩ => ⟨S16x16384x256, .f32⟩
  | .hbm, ⟨14, _⟩ => ⟨S16x16384x256, .bf16⟩
  | .hbm, ⟨15, _⟩ => ⟨S4x4096x1x64, .f32⟩
  | .hbm, ⟨16, _⟩ => ⟨S4x4096x16x64, .f32⟩
  | .hbm, ⟨17, _⟩ => ⟨S4x4096x16x192, .f32⟩
  | .hbm, ⟨18, _⟩ => ⟨S4x4096x16x256, .f32⟩
  | .hbm, ⟨19, _⟩ => ⟨S16384x16x256, .f32⟩
  | .hbm, ⟨20, _⟩ => ⟨S16x16384x256, .f32⟩
  | .hbm, ⟨21, _⟩ => ⟨S16x16384x256, .bf16⟩
  | .hbm, ⟨22, _⟩ => ⟨S_, .f32⟩
  | .hbm, ⟨23, _⟩ => ⟨S4x4096x16x128, .f32⟩
  | .hbm, ⟨24, _⟩ => ⟨S4x4096x16x256, .f32⟩
  | .hbm, ⟨25, _⟩ => ⟨S16384x16x256, .f32⟩
  | .hbm, ⟨26, _⟩ => ⟨S16x16384x256, .f32⟩
  | .hbm, ⟨27, _⟩ => ⟨S16x16384x256, .bf16⟩
  | .hbm, ⟨28, _⟩ => ⟨S16384x2048, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1024x128, .bf16⟩
  | .local _ .vmem, ⟨7, _⟩ => ⟨S1024x128, .bf16⟩
  | _, _ => ⟨S4x4096x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  ![v1.toNat, arg0.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x16x128 : Shape := ⟨4, ![4, 4096, 16, 128]⟩
abbrev S4x4096x16x64 : Shape := ⟨4, ![4, 4096, 16, 64]⟩
abbrev S4x4096x64 : Shape := ⟨3, ![4, 4096, 64]⟩
abbrev S4x16x4096x4096 : Shape := ⟨4, ![4, 16, 4096, 4096]⟩
abbrev S4x4096x4096x16 : Shape := ⟨4, ![4, 4096, 4096, 16]⟩
abbrev S_ : Shape := ⟨0, ![]⟩
abbrev S4x16x4096 : Shape := ⟨3, ![4, 16, 4096]⟩
abbrev S4x16x4096x1 : Shape := ⟨4, ![4, 16, 4096, 1]⟩
abbrev S4x16x128x4096 : Shape := ⟨4, ![4, 16, 128, 4096]⟩
abbrev S16384x2048 : Shape := ⟨2, ![16384, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x16x128, .f32⟩
  | .hbm, ⟨1, _⟩ => ⟨S4x4096x16x64, .f32⟩
  | .hbm, ⟨2, _⟩ => ⟨S4x4096x16x128, .f32⟩
  | .hbm, ⟨3, _⟩ => ⟨S4x4096x64, .f32⟩
  | .hbm, ⟨4, _⟩ => ⟨S4x4096x16x128, .f32⟩
  | .hbm, ⟨5, _⟩ => ⟨S4x16x4096x4096, .f32⟩
  | .hbm, ⟨6, _⟩ => ⟨S4x4096x4096x16, .f32⟩
  | .hbm, ⟨7, _⟩ => ⟨S4x16x4096x4096, .f32⟩
  | .hbm, ⟨8, _⟩ => ⟨S4x16x4096x4096, .f32⟩
  | .hbm, ⟨9, _⟩ => ⟨S_, .f32⟩
  | .hbm, ⟨10, _⟩ => ⟨S4x16x4096x4096, .f32⟩
  | .hbm, ⟨11, _⟩ => ⟨S4x16x4096x4096, .f32⟩
  | .hbm, ⟨12, _⟩ => ⟨S_, .f32⟩
  | .hbm, ⟨13, _⟩ => ⟨S4x16x4096, .f32⟩
  | .hbm, ⟨14, _⟩ => ⟨S_, .f32⟩
  | .hbm, ⟨15, _⟩ => ⟨S4x16x4096, .f32⟩
  | .hbm, ⟨16, _⟩ => ⟨S4x16x4096, .f32⟩
  | .hbm, ⟨17, _⟩ => ⟨S4x16x4096x1, .f32⟩
  | .hbm, ⟨18, _⟩ => ⟨S4x16x4096x4096, .f32⟩
  | .hbm, ⟨19, _⟩ => ⟨S4x16x4096x4096, .f32⟩
  | .hbm, ⟨20, _⟩ => ⟨S4x16x4096x4096, .f32⟩
  | .hbm, ⟨21, _⟩ => ⟨S_, .f32⟩
  | .hbm, ⟨22, _⟩ => ⟨S4x16x4096, .f32⟩
  | .hbm, ⟨23, _⟩ => ⟨S4x16x4096x1, .f32⟩
  | .hbm, ⟨24, _⟩ => ⟨S4x16x4096x4096, .f32⟩
  | .hbm, ⟨25, _⟩ => ⟨S4x16x4096x4096, .f32⟩
  | .hbm, ⟨26, _⟩ => ⟨S4x16x128x4096, .f32⟩
  | .hbm, ⟨27, _⟩ => ⟨S4x4096x16x128, .f32⟩
  | .hbm, ⟨28, _⟩ => ⟨S16384x2048, .f32⟩
  | .hbm, ⟨29, _⟩ => ⟨S16384x2048, .bf16⟩
  | _, _ => ⟨S4x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S4x4096x4096 : Shape := ⟨3, ![4, 4096, 4096]⟩
abbrev S4096x22016 : Shape := ⟨2, ![4096, 22016]⟩
abbrev S3x11008 : Shape := ⟨2, ![3, 11008]⟩
abbrev S11008 : Shape := ⟨1, ![11008]⟩
abbrev S16384x4096 : Shape := ⟨2, ![16384, 4096]⟩
abbrev S1x11008 : Shape := ⟨2, ![1, 11008]⟩
abbrev S16384x11008 : Shape := ⟨2, ![16384, 11008]⟩
abbrev S1024x4096 : Shape := ⟨2, ![1024, 4096]⟩
abbrev S16x4096 : Shape := ⟨2, ![16, 4096]⟩
abbrev S4096x256 : Shape := ⟨2, ![4096, 256]⟩
abbrev S3x256 : Shape := ⟨2, ![3, 256]⟩
abbrev S1x256 : Shape := ⟨2, ![1, 256]⟩
abbrev S1024x256 : Shape := ⟨2, ![1024, 256]⟩
abbrev S1056x4096 : Shape := ⟨2, ![1056, 4096]⟩
abbrev S1056x256 : Shape := ⟨2, ![1056, 256]⟩

abbrev nBuf : Space → Nat
  | .hbm => 9
  | .vmem => 17
  | .smem => 0
  | _ => 0

abbrev bufTy : (tb : Table) → Fin (tcTables nBuf tb) → BufTy
  | .hbm, ⟨0, _⟩ => ⟨S4x4096x4096, .f32⟩
  | .hbm, ⟨1, _⟩ => ⟨S4096x22016, .f32⟩
  | .hbm, ⟨2, _⟩ => ⟨S3x11008, .f32⟩
  | .hbm, ⟨3, _⟩ => ⟨S11008, .f32⟩
  | .hbm, ⟨4, _⟩ => ⟨S16384x4096, .f32⟩
  | .hbm, ⟨5, _⟩ => ⟨S16384x4096, .bf16⟩
  | .hbm, ⟨6, _⟩ => ⟨S4096x22016, .bf16⟩
  | .hbm, ⟨7, _⟩ => ⟨S1x11008, .f32⟩
  | .hbm, ⟨8, _⟩ => ⟨S16384x11008, .bf16⟩
  | .local _ .vmem, ⟨0, _⟩ => ⟨S1024x4096, .bf16⟩
  | .local _ .vmem, ⟨1, _⟩ => ⟨S1024x4096, .bf16⟩
  | .local _ .vmem, ⟨2, _⟩ => ⟨S16x4096, .bf16⟩
  | .local _ .vmem, ⟨3, _⟩ => ⟨S16x4096, .bf16⟩
  | .local _ .vmem, ⟨4, _⟩ => ⟨S16x4096, .bf16⟩
  | .local _ .vmem, ⟨5, _⟩ => ⟨S16x4096, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S3x256, .f32⟩
  | .local _ .vmem, ⟨11, _⟩ => ⟨S3x256, .f32⟩
  | .local _ .vmem, ⟨12, _⟩ => ⟨S1x256, .f32⟩
  | .local _ .vmem, ⟨13, _⟩ => ⟨S1x256, .f32⟩
  | .local _ .vmem, ⟨14, _⟩ => ⟨S1024x256, .bf16⟩
  | .local _ .vmem, ⟨15, _⟩ => ⟨S1024x256, .bf16⟩
  | .local _ .vmem, ⟨16, _⟩ => ⟨S1056x4096, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x4096x4096 : Shape := ⟨3, ![4, 4096, 4096]⟩
abbrev S4096x22016 : Shape := ⟨2, ![4096, 22016]⟩
abbrev S3x11008 : Shape := ⟨2, ![3, 11008]⟩
abbrev S11008 : Shape := ⟨1, ![11008]⟩
abbrev S4x4096x22016 : Shape := ⟨3, ![4, 4096, 22016]⟩
abbrev S4x4096x11008 : Shape := ⟨3, ![4, 4096, 11008]⟩
abbrev S1x11008 : Shape := ⟨2, ![1, 11008]⟩
abbrev S4x4095x11008 : Shape := ⟨3, ![4, 4095, 11008]⟩
abbrev S_ : Shape := ⟨0, ![]⟩
abbrev S1x1x11008 : Shape := ⟨3, ![1, 1, 11008]⟩
abbrev S16384x11008 : Shape := ⟨2, ![16384, 11008]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x22016, .f32⟩
  | .hbm, ⟨2, _⟩ => ⟨S3x11008, .f32⟩
  | .hbm, ⟨3, _⟩ => ⟨S11008, .f32⟩
  | .hbm, ⟨4, _⟩ => ⟨S4x4096x22016, .f32⟩
  | .hbm, ⟨5, _⟩ => ⟨S4x4096x11008, .f32⟩
  | .hbm, ⟨6, _⟩ => ⟨S4x4096x11008, .f32⟩
  | .hbm, ⟨7, _⟩ => ⟨S1x11008, .f32⟩
  | .hbm, ⟨8, _⟩ => ⟨S11008, .f32⟩
  | .hbm, ⟨9, _⟩ => ⟨S4x4095x11008, .f32⟩
  | .hbm, ⟨10, _⟩ => ⟨S_, .i32⟩
  | .hbm, ⟨11, _⟩ => ⟨S_, .f32⟩
  | .hbm, ⟨12, _⟩ => ⟨S4x4096x11008, .f32⟩
  | .hbm, ⟨13, _⟩ => ⟨S1x1x11008, .f32⟩
  | .hbm, ⟨14, _⟩ => ⟨S4x4096x11008, .f32⟩
  | .hbm, ⟨15, _⟩ => ⟨S4x4096x11008, .f32⟩
  | .hbm, ⟨16, _⟩ => ⟨S1x11008, .f32⟩
  | .hbm, ⟨17, _⟩ => ⟨S11008, .f32⟩
  | .hbm, ⟨18, _⟩ => ⟨S1x1x11008, .f32⟩
  | .hbm, ⟨19, _⟩ => ⟨S4x4096x11008, .f32⟩
  | .hbm, ⟨20, _⟩ => ⟨S4x4096x11008, .f32⟩
  | .hbm, ⟨21, _⟩ => ⟨S4x4096x11008, .f32⟩
  | .hbm, ⟨22, _⟩ => ⟨S1x11008, .f32⟩
  | .hbm, ⟨23, _⟩ => ⟨S11008, .f32⟩
  | .hbm, ⟨24, _⟩ => ⟨S4x4095x11008, .f32⟩
  | .hbm, ⟨25, _⟩ => ⟨S_, .i32⟩
  | .hbm, ⟨26, _⟩ => ⟨S_, .f32⟩
  | .hbm, ⟨27, _⟩ => ⟨S4x4096x11008, .f32⟩
  | .hbm, ⟨28, _⟩ => ⟨S1x1x11008, .f32⟩
  | .hbm, ⟨29, _⟩ => ⟨S4x4096x11008, .f32⟩
  | .hbm, ⟨30, _⟩ => ⟨S4x4096x11008, .f32⟩
  | .hbm, ⟨31, _⟩ => ⟨S4x4096x11008, .f32⟩
  | .hbm, ⟨32, _⟩ => ⟨S1x1x11008, .f32⟩
  | .hbm, ⟨33, _⟩ => ⟨S4x4096x11008, .f32⟩
  | .hbm, ⟨34, _⟩ => ⟨S4x4096x11008, .f32⟩
  | .hbm, ⟨35, _⟩ => ⟨S4x4096x11008, .f32⟩
  | .hbm, ⟨36, _⟩ => ⟨S4x4096x11008, .f32⟩
  | .hbm, ⟨37, _⟩ => ⟨S_, .f32⟩
  | .hbm, ⟨38, _⟩ => ⟨S4x4096x11008, .f32⟩
  | .hbm, ⟨39, _⟩ => ⟨S4x4096x11008, .f32⟩
  | .hbm, ⟨40, _⟩ => ⟨S_, .f32⟩
  | .hbm, ⟨41, _⟩ => ⟨S4x4096x11008, .f32⟩
  | .hbm, ⟨42, _⟩ => ⟨S4x4096x11008, .f32⟩
  | .hbm, ⟨43, _⟩ => ⟨S4x4096x11008, .f32⟩
  | .hbm, ⟨44, _⟩ => ⟨S4x4096x11008, .f32⟩
  | .hbm, ⟨45, _⟩ => ⟨S16384x11008, .f32⟩
  | .hbm, ⟨46, _⟩ => ⟨S16384x11008, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_0 : Ref sig .tc := ⟨.hbm, 25, rfl⟩
abbrev main_call1_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call2_v0 : Ref sig .tc := ⟨.hbm, 35, rfl⟩
abbrev main_call2_v1 : Ref sig .tc := ⟨.hbm, 36, rfl⟩
abbrev main_call2_cst : Ref sig .tc := ⟨.hbm, 37, rfl⟩
abbrev main_call2_v2 : Ref sig .tc := ⟨.hbm, 38, rfl⟩
abbrev main_call2_v3 : Ref sig .tc := ⟨.hbm, 39, rfl⟩
abbrev main_call2_cst_0 : Ref sig .tc := ⟨.hbm, 40, rfl⟩
abbrev main_call2_v4 : Ref sig .tc := ⟨.hbm, 41, rfl⟩
abbrev main_call2_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel3.lean ====
abbrev S4x4096x4096 : Shape := ⟨3, ![4, 4096, 4096]⟩
abbrev S4x4096x11008 : Shape := ⟨3, ![4, 4096, 11008]⟩
abbrev S11008x4096 : Shape := ⟨2, ![11008, 4096]⟩
abbrev S16384x11008 : Shape := ⟨2, ![16384, 11008]⟩
abbrev S16384x4096 : Shape := ⟨2, ![16384, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4x4096x11008, .f32⟩
  | .hbm, ⟨2, _⟩ => ⟨S11008x4096, .f32⟩
  | .hbm, ⟨3, _⟩ => ⟨S16384x11008, .f32⟩
  | .hbm, ⟨4, _⟩ => ⟨S16384x11008, .bf16⟩
  | .hbm, ⟨5, _⟩ => ⟨S11008x4096, .bf16⟩
  | .hbm, ⟨6, _⟩ => ⟨S16384x4096, .f32⟩
  | .hbm, ⟨7, _⟩ => ⟨S16384x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x4096x4096 : Shape := ⟨3, ![4, 4096, 4096]⟩
abbrev S4x4096x11008 : Shape := ⟨3, ![4, 4096, 11008]⟩
abbrev S11008x4096 : Shape := ⟨2, ![11008, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x11008, .f32⟩
  | .hbm, ⟨2, _⟩ => ⟨S11008x4096, .f32⟩
  | .hbm, ⟨3, _⟩ => ⟨S4x4096x4096, .f32⟩
  | .hbm, ⟨4, _⟩ => ⟨S4x4096x4096, .f32⟩
  | .hbm, ⟨5, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel4.lean ====
abbrev S4x4096x4096 : Shape := ⟨3, ![4, 4096, 4096]⟩
abbrev S4096x29120 : Shape := ⟨2, ![4096, 29120]⟩
abbrev S16384x4096 : Shape := ⟨2, ![16384, 4096]⟩
abbrev S4096x12288 : Shape := ⟨2, ![4096, 12288]⟩
abbrev S16384x12288 : Shape := ⟨2, ![16384, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x29120, .f32⟩
  | .hbm, ⟨2, _⟩ => ⟨S16384x4096, .f32⟩
  | .hbm, ⟨3, _⟩ => ⟨S16384x4096, .bf16⟩
  | .hbm, ⟨4, _⟩ => ⟨S4096x12288, .f32⟩
  | .hbm, ⟨5, _⟩ => ⟨S4096x12288, .bf16⟩
  | .hbm, ⟨6, _⟩ => ⟨S16384x12288, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4x4096x4096 : Shape := ⟨3, ![4, 4096, 4096]⟩
abbrev S4096x29120 : Shape := ⟨2, ![4096, 29120]⟩
abbrev S4x4096x29120 : Shape := ⟨3, ![4, 4096, 29120]⟩
abbrev S4x4096x6528 : Shape := ⟨3, ![4, 4096, 6528]⟩
abbrev S4x4096x2112 : Shape := ⟨3, ![4, 4096, 2112]⟩
abbrev S4x4096x8192 : Shape := ⟨3, ![4, 4096, 8192]⟩
abbrev S4x4096x12288 : Shape := ⟨3, ![4, 4096, 12288]⟩
abbrev S4x4096x3x4096 : Shape := ⟨4, ![4, 4096, 3, 4096]⟩
abbrev S_ : Shape := ⟨0, ![]⟩
abbrev S16384x12288 : Shape := ⟨2, ![16384, 12288]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x29120, .f32⟩
  | .hbm, ⟨2, _⟩ => ⟨S4x4096x29120, .f32⟩
  | .hbm, ⟨3, _⟩ => ⟨S4x4096x6528, .f32⟩
  | .hbm, ⟨4, _⟩ => ⟨S4x4096x2112, .f32⟩
  | .hbm, ⟨5, _⟩ => ⟨S4x4096x8192, .f32⟩
  | .hbm, ⟨6, _⟩ => ⟨S4x4096x12288, .f32⟩
  | .hbm, ⟨7, _⟩ => ⟨S4x4096x3x4096, .f32⟩
  | .hbm, ⟨8, _⟩ => ⟨S4x4096x3x4096, .f32⟩
  | .hbm, ⟨9, _⟩ => ⟨S4x4096x3x4096, .f32⟩
  | .hbm, ⟨10, _⟩ => ⟨S_, .f32⟩
  | .hbm, ⟨11, _⟩ => ⟨S4x4096x3x4096, .f32⟩
  | .hbm, ⟨12, _⟩ => ⟨S4x4096x3x4096, .f32⟩
  | .hbm, ⟨13, _⟩ => ⟨S_, .f32⟩
  | .hbm, ⟨14, _⟩ => ⟨S4x4096x3x4096, .f32⟩
  | .hbm, ⟨15, _⟩ => ⟨S4x4096x3x4096, .f32⟩
  | .hbm, ⟨16, _⟩ => ⟨S16384x12288, .f32⟩
  | .hbm, ⟨17, _⟩ => ⟨S16384x12288, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel5.lean ====
abbrev S4x4096x2048 : Shape := ⟨3, ![4, 4096, 2048]⟩
abbrev S6144x4096 : Shape := ⟨2, ![6144, 4096]⟩
abbrev S4x4096x3x4096 : Shape := ⟨4, ![4, 4096, 3, 4096]⟩
abbrev S16384x2048 : Shape := ⟨2, ![16384, 2048]⟩
abbrev S3x2048x4096 : Shape := ⟨3, ![3, 2048, 4096]⟩
abbrev S16384x12288 : Shape := ⟨2, ![16384, 12288]⟩
abbrev S16384x4096 : Shape := ⟨2, ![16384, 4096]⟩
abbrev S1024x2048 : Shape := ⟨2, ![1024, 2048]⟩
abbrev S3x2048x512 : Shape := ⟨3, ![3, 2048, 512]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 16
  | .vmem => 16
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S6144x4096, .f32⟩
  | .hbm, ⟨4, _⟩ => ⟨S4x4096x3x4096, .f32⟩
  | .hbm, ⟨5, _⟩ => ⟨S16384x2048, .f32⟩
  | .hbm, ⟨6, _⟩ => ⟨S16384x2048, .bf16⟩
  | .hbm, ⟨7, _⟩ => ⟨S16384x2048, .f32⟩
  | .hbm, ⟨8, _⟩ => ⟨S16384x2048, .bf16⟩
  | .hbm, ⟨9, _⟩ => ⟨S16384x2048, .f32⟩
  | .hbm, ⟨10, _⟩ => ⟨S16384x2048, .bf16⟩
  | .hbm, ⟨11, _⟩ => ⟨S3x2048x4096, .f32⟩
  | .hbm, ⟨12, _⟩ => ⟨S3x2048x4096, .bf16⟩
  | .hbm, ⟨13, _⟩ => ⟨S16384x12288, .f32⟩
  | .hbm, ⟨14, _⟩ => ⟨S16384x12288, .bf16⟩
  | .hbm, ⟨15, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S3x2048x512, .bf16⟩
  | .local _ .vmem, ⟨7, _⟩ => ⟨S3x2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S4x4096x2048 : Shape := ⟨3, ![4, 4096, 2048]⟩
abbrev S6144x4096 : Shape := ⟨2, ![6144, 4096]⟩
abbrev S4x4096x3x4096 : Shape := ⟨4, ![4, 4096, 3, 4096]⟩
abbrev S2048x4096 : Shape := ⟨2, ![2048, 4096]⟩
abbrev S4x4096x1x4096 : Shape := ⟨4, ![4, 4096, 1, 4096]⟩
abbrev S4x4096x4096 : Shape := ⟨3, ![4, 4096, 4096]⟩
abbrev S16384x4096 : Shape := ⟨2, ![16384, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S6144x4096, .f32⟩
  | .hbm, ⟨4, _⟩ => ⟨S4x4096x3x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S4x4096x1x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x1x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S4x4096x1x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S16384x4096, .f32⟩
  | .hbm, ⟨23, _⟩ => ⟨S16384x4096, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== Kernel6.lean ====
abbrev S4x4096x4096 : Shape := ⟨3, ![4, 4096, 4096]⟩
abbrev S4096x4096 : Shape := ⟨2, ![4096, 4096]⟩
abbrev S16384x4096 : Shape := ⟨2, ![16384, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4096x4096, .f32⟩
  | .hbm, ⟨3, _⟩ => ⟨S16384x4096, .f32⟩
  | .hbm, ⟨4, _⟩ => ⟨S16384x4096, .bf16⟩
  | .hbm, ⟨5, _⟩ => ⟨S4096x4096, .bf16⟩
  | .hbm, ⟨6, _⟩ => ⟨S16384x4096, .f32⟩
  | .hbm, ⟨7, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x4096x4096 : Shape := ⟨3, ![4, 4096, 4096]⟩
abbrev S4096x4096 : Shape := ⟨2, ![4096, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096x4096, .f32⟩
  | .hbm, ⟨2, _⟩ => ⟨S4096x4096, .f32⟩
  | .hbm, ⟨3, _⟩ => ⟨S4x4096x4096, .f32⟩
  | .hbm, ⟨4, _⟩ => ⟨S4x4096x4096, .f32⟩
  | .hbm, ⟨5, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel7.lean ====
abbrev S4x4096x4096 : Shape := ⟨3, ![4, 4096, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel7Ideal.lean ====
abbrev S4x4096x4096 : Shape := ⟨3, ![4, 4096, 4096]⟩
  | .hbm, ⟨0, _⟩ => ⟨S4x4096x4096, .f32⟩
  | _, _ => ⟨S4x4096x4096, .f32⟩
-- ==== Reference7Ideal.lean ====
abbrev S4x4096x4096 : Shape := ⟨3, ![4, 4096, 4096]⟩
abbrev S4096 : Shape := ⟨1, ![4096]⟩
abbrev S_ : Shape := ⟨0, ![]⟩
abbrev S4x4096 : Shape := ⟨2, ![4, 4096]⟩
abbrev S4x4096x1 : Shape := ⟨3, ![4, 4096, 1]⟩
abbrev S1x1x4096 : Shape := ⟨3, ![1, 1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096, .f32⟩
  | .hbm, ⟨2, _⟩ => ⟨S4x4096x4096, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x4096, .f32⟩
  | .hbm, ⟨14, _⟩ => ⟨S4x4096x4096, .f32⟩
  | .hbm, ⟨15, _⟩ => ⟨S1x1x4096, .f32⟩
  | .hbm, ⟨16, _⟩ => ⟨S4x4096x4096, .f32⟩
  | .hbm, ⟨17, _⟩ => ⟨S4x4096x4096, .f32⟩
  | .hbm, ⟨18, _⟩ => ⟨S16384x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S4x4096x4096 : Shape := ⟨3, ![4, 4096, 4096]⟩
abbrev S4096x29120 : Shape := ⟨2, ![4096, 29120]⟩
abbrev S4096x6528 : Shape := ⟨2, ![4096, 6528]⟩
abbrev S_ : Shape := ⟨0, ![]⟩
abbrev S4096x6656 : Shape := ⟨2, ![4096, 6656]⟩
abbrev S16384x4096 : Shape := ⟨2, ![16384, 4096]⟩
abbrev S16384x6656 : Shape := ⟨2, ![16384, 6656]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 10
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x29120, .f32⟩
  | .hbm, ⟨2, _⟩ => ⟨S4096x6528, .f32⟩
  | .hbm, ⟨3, _⟩ => ⟨S_, .i32⟩
  | .hbm, ⟨4, _⟩ => ⟨S_, .f32⟩
  | .hbm, ⟨5, _⟩ => ⟨S4096x6656, .f32⟩
  | .hbm, ⟨6, _⟩ => ⟨S4096x6656, .bf16⟩
  | .hbm, ⟨7, _⟩ => ⟨S16384x4096, .f32⟩
  | .hbm, ⟨8, _⟩ => ⟨S16384x4096, .bf16⟩
  | .hbm, ⟨9, _⟩ => ⟨S16384x6656, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 13], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4x4096x4096 : Shape := ⟨3, ![4, 4096, 4096]⟩
abbrev S4096x29120 : Shape := ⟨2, ![4096, 29120]⟩
abbrev S4x4096x29120 : Shape := ⟨3, ![4, 4096, 29120]⟩
abbrev S4x4096x6528 : Shape := ⟨3, ![4, 4096, 6528]⟩
abbrev S4x4096x2112 : Shape := ⟨3, ![4, 4096, 2112]⟩
abbrev S4x4096x8192 : Shape := ⟨3, ![4, 4096, 8192]⟩
abbrev S4x4096x12288 : Shape := ⟨3, ![4, 4096, 12288]⟩
abbrev S16384x6528 : Shape := ⟨2, ![16384, 6528]⟩
abbrev S_ : Shape := ⟨0, ![]⟩
abbrev S16384x6656 : Shape := ⟨2, ![16384, 6656]⟩

abbrev nBuf : Space → Nat
  | .hbm => 12
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x29120, .f32⟩
  | .hbm, ⟨2, _⟩ => ⟨S4x4096x29120, .f32⟩
  | .hbm, ⟨3, _⟩ => ⟨S4x4096x6528, .f32⟩
  | .hbm, ⟨4, _⟩ => ⟨S4x4096x2112, .f32⟩
  | .hbm, ⟨5, _⟩ => ⟨S4x4096x8192, .f32⟩
  | .hbm, ⟨6, _⟩ => ⟨S4x4096x12288, .f32⟩
  | .hbm, ⟨7, _⟩ => ⟨S16384x6528, .f32⟩
  | .hbm, ⟨8, _⟩ => ⟨S_, .i32⟩
  | .hbm, ⟨9, _⟩ => ⟨S_, .f32⟩
  | .hbm, ⟨10, _⟩ => ⟨S16384x6656, .f32⟩
  | .hbm, ⟨11, _⟩ => ⟨S16384x6656, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel9.lean ====
abbrev S4x4096x4096 : Shape := ⟨3, ![4, 4096, 4096]⟩
abbrev S4096x29120 : Shape := ⟨2, ![4096, 29120]⟩
abbrev S4096x4096 : Shape := ⟨2, ![4096, 4096]⟩
abbrev S16384x4096 : Shape := ⟨2, ![16384, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S4096x29120, .f32⟩
  | .hbm, ⟨2, _⟩ => ⟨S4096x4096, .f32⟩
  | .hbm, ⟨3, _⟩ => ⟨S4096x4096, .bf16⟩
  | .hbm, ⟨4, _⟩ => ⟨S16384x4096, .f32⟩
  | .hbm, ⟨5, _⟩ => ⟨S16384x4096, .bf16⟩
  | .hbm, ⟨6, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4x4096x4096 : Shape := ⟨3, ![4, 4096, 4096]⟩
abbrev S4096x29120 : Shape := ⟨2, ![4096, 29120]⟩
abbrev S4x4096x29120 : Shape := ⟨3, ![4, 4096, 29120]⟩
abbrev S4x4096x6528 : Shape := ⟨3, ![4, 4096, 6528]⟩
abbrev S4x4096x2112 : Shape := ⟨3, ![4, 4096, 2112]⟩
abbrev S4x4096x8192 : Shape := ⟨3, ![4, 4096, 8192]⟩
abbrev S4x4096x12288 : Shape := ⟨3, ![4, 4096, 12288]⟩
abbrev S4x4096x2048 : Shape := ⟨3, ![4, 4096, 2048]⟩
abbrev S_ : Shape := ⟨0, ![]⟩
abbrev S16384x4096 : Shape := ⟨2, ![16384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x29120, .f32⟩
  | .hbm, ⟨2, _⟩ => ⟨S4x4096x29120, .f32⟩
  | .hbm, ⟨3, _⟩ => ⟨S4x4096x6528, .f32⟩
  | .hbm, ⟨4, _⟩ => ⟨S4x4096x2112, .f32⟩
  | .hbm, ⟨5, _⟩ => ⟨S4x4096x8192, .f32⟩
  | .hbm, ⟨6, _⟩ => ⟨S4x4096x12288, .f32⟩
  | .hbm, ⟨7, _⟩ => ⟨S4x4096x2048, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x2048, .f32⟩
  | .hbm, ⟨13, _⟩ => ⟨S_, .f32⟩
  | .hbm, ⟨14, _⟩ => ⟨S4x4096x2048, .f32⟩
  | .hbm, ⟨15, _⟩ => ⟨S4x4096x2048, .f32⟩
  | .hbm, ⟨16, _⟩ => ⟨S_, .f32⟩
  | .hbm, ⟨17, _⟩ => ⟨S4x4096x2048, .f32⟩
  | .hbm, ⟨18, _⟩ => ⟨S4x4096x2048, .f32⟩
  | .hbm, ⟨19, _⟩ => ⟨S4x4096x2048, .f32⟩
  | .hbm, ⟨20, _⟩ => ⟨S4x4096x4096, .f32⟩
  | .hbm, ⟨21, _⟩ => ⟨S16384x4096, .f32⟩
  | .hbm, ⟨22, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩

abbrev nD : Nat := 1
abbrev τ : Topo := Topo.v7x

variable {F : FTy → Type} [FloatOps F]
-- ==== Kernel10.lean ====
abbrev S4x4096x4096 : Shape := ⟨3, ![4, 4096, 4096]⟩
abbrev S4096x29120 : Shape := ⟨2, ![4096, 29120]⟩
abbrev S128 : Shape := ⟨1, ![128]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x128 : Shape := ⟨2, ![4096, 128]⟩
abbrev S4096x4096 : Shape := ⟨2, ![4096, 4096]⟩
abbrev S16384x4096 : Shape := ⟨2, ![16384, 4096]⟩
abbrev S1024x4096 : Shape := ⟨2, ![1024, 4096]⟩
abbrev S4096x1024 : Shape := ⟨2, ![4096, 1024]⟩
abbrev S1024x128 : Shape := ⟨2, ![1024, 128]⟩
abbrev S1024x1024 : Shape := ⟨2, ![1024, 1024]⟩

abbrev nBuf : Space → Nat
  | .hbm => 29
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4096x29120, .f32⟩
  | .hbm, ⟨2, _⟩ => ⟨S128, .f32⟩
  | .hbm, ⟨3, _⟩ => ⟨S_, .f32⟩
  | .hbm, ⟨4, _⟩ => ⟨S128, .f32⟩
  | .hbm, ⟨5, _⟩ => ⟨S128, .f32⟩
  | .hbm, ⟨6, _⟩ => ⟨S_, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S4096, .f32⟩
  | .hbm, ⟨17, _⟩ => ⟨S4096x1, .f32⟩
  | .hbm, ⟨18, _⟩ => ⟨S1x128, .f32⟩
  | .hbm, ⟨19, _⟩ => ⟨S4096x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S4096x128, .f32⟩
  | .hbm, ⟨24, _⟩ => ⟨S4096x4096, .f32⟩
  | .hbm, ⟨25, _⟩ => ⟨S4096x4096, .bf16⟩
  | .hbm, ⟨26, _⟩ => ⟨S16384x4096, .f32⟩
  | .hbm, ⟨27, _⟩ => ⟨S16384x4096, .bf16⟩
  | .hbm, ⟨28, _⟩ => ⟨S16384x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1024, .bf16⟩
  | .local _ .vmem, ⟨9, _⟩ => ⟨S1024x1024, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S4x4096x4096 : Shape := ⟨3, ![4, 4096, 4096]⟩
abbrev S4096x29120 : Shape := ⟨2, ![4096, 29120]⟩
abbrev S4096 : Shape := ⟨1, ![4096]⟩
abbrev S4x4096x29120 : Shape := ⟨3, ![4, 4096, 29120]⟩
abbrev S4x4096x6528 : Shape := ⟨3, ![4, 4096, 6528]⟩
abbrev S4x4096x2112 : Shape := ⟨3, ![4, 4096, 2112]⟩
abbrev S4x4096x8192 : Shape := ⟨3, ![4, 4096, 8192]⟩
abbrev S4x4096x12288 : Shape := ⟨3, ![4, 4096, 12288]⟩
abbrev S4x4096x2048 : Shape := ⟨3, ![4, 4096, 2048]⟩
abbrev S4x4096x8x256 : Shape := ⟨4, ![4, 4096, 8, 256]⟩
abbrev S128 : Shape := ⟨1, ![128]⟩
abbrev S_ : Shape := ⟨0, ![]⟩
abbrev S4096x1 : Shape := ⟨2, ![4096, 1]⟩
abbrev S1x128 : Shape := ⟨2, ![1, 128]⟩
abbrev S4096x128 : Shape := ⟨2, ![4096, 128]⟩
abbrev S4096x1x128 : Shape := ⟨3, ![4096, 1, 128]⟩
abbrev S4x4096x8x128 : Shape := ⟨4, ![4, 4096, 8, 128]⟩
abbrev S1x4096x1x128 : Shape := ⟨4, ![1, 4096, 1, 128]⟩
abbrev S16384x2048 : Shape := ⟨2, ![16384, 2048]⟩
abbrev S16384x4096 : Shape := ⟨2, ![16384, 4096]⟩

abbrev nBuf : Space → Nat
  | .hbm => 101
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x29120, .f32⟩
  | .hbm, ⟨2, _⟩ => ⟨S4096, .i32⟩
  | .hbm, ⟨3, _⟩ => ⟨S4x4096x29120, .f32⟩
  | .hbm, ⟨4, _⟩ => ⟨S4x4096x6528, .f32⟩
  | .hbm, ⟨5, _⟩ => ⟨S4x4096x2112, .f32⟩
  | .hbm, ⟨6, _⟩ => ⟨S4x4096x8192, .f32⟩
  | .hbm, ⟨7, _⟩ => ⟨S4x4096x12288, .f32⟩
  | .hbm, ⟨8, _⟩ => ⟨S4x4096x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S4x4096x8x256, .f32⟩
  | .hbm, ⟨13, _⟩ => ⟨S128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S4096, .f32⟩
  | .hbm, ⟨28, _⟩ => ⟨S4096x1, .f32⟩
  | .hbm, ⟨29, _⟩ => ⟨S1x128, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S4096x1x128, .f32⟩
  | .hbm, ⟨34, _⟩ => ⟨S4096x1x128, .f32⟩
  | .hbm, ⟨35, _⟩ => ⟨S4096x1x128, .f32⟩
  | .hbm, ⟨36, _⟩ => ⟨S4x4096x8x128, .f32⟩
  | .hbm, ⟨37, _⟩ => ⟨S4x4096x8x128, .f32⟩
  | .hbm, ⟨38, _⟩ => ⟨S1x4096x1x128, .f32⟩
  | .hbm, ⟨39, _⟩ => ⟨S4x4096x8x128, .f32⟩
  | .hbm, ⟨40, _⟩ => ⟨S4x4096x8x128, .f32⟩
  | .hbm, ⟨41, _⟩ => ⟨S1x4096x1x128, .f32⟩
  | .hbm, ⟨42, _⟩ => ⟨S4x4096x8x128, .f32⟩
  | .hbm, ⟨43, _⟩ => ⟨S4x4096x8x128, .f32⟩
  | .hbm, ⟨44, _⟩ => ⟨S4x4096x8x128, .f32⟩
  | .hbm, ⟨45, _⟩ => ⟨S1x4096x1x128, .f32⟩
  | .hbm, ⟨46, _⟩ => ⟨S4x4096x8x128, .f32⟩
  | .hbm, ⟨47, _⟩ => ⟨S4x4096x8x128, .f32⟩
  | .hbm, ⟨48, _⟩ => ⟨S1x4096x1x128, .f32⟩
  | .hbm, ⟨49, _⟩ => ⟨S4x4096x8x128, .f32⟩
  | .hbm, ⟨50, _⟩ => ⟨S4x4096x8x128, .f32⟩
  | .hbm, ⟨51, _⟩ => ⟨S4x4096x8x128, .f32⟩
  | .hbm, ⟨52, _⟩ => ⟨S4x4096x8x256, .f32⟩
  | .hbm, ⟨53, _⟩ => ⟨S_, .f32⟩
  | .hbm, ⟨54, _⟩ => ⟨S4x4096x8x256, .f32⟩
  | .hbm, ⟨55, _⟩ => ⟨S4x4096x8x256, .f32⟩
  | .hbm, ⟨56, _⟩ => ⟨S4x4096x8x256, .f32⟩
  | .hbm, ⟨57, _⟩ => ⟨S128, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S4096, .f32⟩
  | .hbm, ⟨72, _⟩ => ⟨S4096x1, .f32⟩
  | .hbm, ⟨73, _⟩ => ⟨S1x128, .f32⟩
  | .hbm, ⟨74, _⟩ => ⟨S4096x128, .f32⟩
  | .hbm, ⟨75, _⟩ => ⟨S4096x128, .f32⟩
  | .hbm, ⟨76, _⟩ => ⟨S4096x128, .f32⟩
  | .hbm, ⟨77, _⟩ => ⟨S4096x1x128, .f32⟩
  | .hbm, ⟨78, _⟩ => ⟨S4096x1x128, .f32⟩
  | .hbm, ⟨79, _⟩ => ⟨S4096x1x128, .f32⟩
  | .hbm, ⟨80, _⟩ => ⟨S4x4096x8x128, .f32⟩
  | .hbm, ⟨81, _⟩ => ⟨S4x4096x8x128, .f32⟩
  | .hbm, ⟨82, _⟩ => ⟨S1x4096x1x128, .f32⟩
  | .hbm, ⟨83, _⟩ => ⟨S4x4096x8x128, .f32⟩
  | .hbm, ⟨84, _⟩ => ⟨S4x4096x8x128, .f32⟩
  | .hbm, ⟨85, _⟩ => ⟨S1x4096x1x128, .f32⟩
  | .hbm, ⟨86, _⟩ => ⟨S4x4096x8x128, .f32⟩
  | .hbm, ⟨87, _⟩ => ⟨S4x4096x8x128, .f32⟩
  | .hbm, ⟨88, _⟩ => ⟨S4x4096x8x128, .f32⟩
  | .hbm, ⟨89, _⟩ => ⟨S1x4096x1x128, .f32⟩
  | .hbm, ⟨90, _⟩ => ⟨S4x4096x8x128, .f32⟩
  | .hbm, ⟨91, _⟩ => ⟨S4x4096x8x128, .f32⟩
  | .hbm, ⟨92, _⟩ => ⟨S1x4096x1x128, .f32⟩
  | .hbm, ⟨93, _⟩ => ⟨S4x4096x8x128, .f32⟩
  | .hbm, ⟨94, _⟩ => ⟨S4x4096x8x128, .f32⟩
  | .hbm, ⟨95, _⟩ => ⟨S4x4096x8x128, .f32⟩
  | .hbm, ⟨96, _⟩ => ⟨S4x4096x8x256, .f32⟩
  | .hbm, ⟨97, _⟩ => ⟨S16384x2048, .f32⟩
  | .hbm, ⟨98, _⟩ => ⟨S16384x2048, .f32⟩
  | .hbm, ⟨99, _⟩ => ⟨S16384x4096, .f32⟩
  | .hbm, ⟨100, _⟩ => ⟨S16384x4096, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_4 : Ref sig .tc := ⟨.hbm, 58, rfl⟩
abbrev main_v51 : Ref sig .tc := ⟨.hbm, 59, rfl⟩
abbrev main_v52 : Ref sig .tc := ⟨.hbm, 60, rfl⟩
abbrev main_cst_5 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_6 : Ref sig .tc := ⟨.hbm, 65, rfl⟩
abbrev main_v56 : Ref sig .tc := ⟨.hbm, 66, rfl⟩
abbrev main_v57 : Ref sig .tc := ⟨.hbm, 67, rfl⟩
abbrev main_cst_7 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩

abbrev nD : Nat := 1
abbrev τ : Topo := Topo.v7x

variable {F : FTy → Type} [FloatOps F]
-- ==== Kernel11.lean ====
abbrev S4x4096x4096 : Shape := ⟨3, ![4, 4096, 4096]⟩
abbrev S4096x29120 : Shape := ⟨2, ![4096, 29120]⟩
abbrev S1536 : Shape := ⟨1, ![1536]⟩
abbrev S512 : Shape := ⟨1, ![512]⟩
abbrev S4096x2048 : Shape := ⟨2, ![4096, 2048]⟩
abbrev S16384x4096 : Shape := ⟨2, ![16384, 4096]⟩
abbrev S1x1536 : Shape := ⟨2, ![1, 1536]⟩
abbrev S1x512 : Shape := ⟨2, ![1, 512]⟩
abbrev S16384x1536 : Shape := ⟨2, ![16384, 1536]⟩
abbrev S16384x512 : Shape := ⟨2, ![16384, 512]⟩
abbrev S512x4096 : Shape := ⟨2, ![512, 4096]⟩
abbrev S512x1536 : Shape := ⟨2, ![512, 1536]⟩
abbrev S512x512 : Shape := ⟨2, ![512, 512]⟩
abbrev S512x2048 : Shape := ⟨2, ![512, 2048]⟩
abbrev S512x1 : Shape := ⟨2, ![512, 1]⟩

abbrev nBuf : Space → Nat
  | .hbm => 12
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096x29120, .f32⟩
  | .hbm, ⟨2, _⟩ => ⟨S1536, .f32⟩
  | .hbm, ⟨3, _⟩ => ⟨S512, .f32⟩
  | .hbm, ⟨4, _⟩ => ⟨S4096x2048, .f32⟩
  | .hbm, ⟨5, _⟩ => ⟨S4096x2048, .bf16⟩
  | .hbm, ⟨6, _⟩ => ⟨S16384x4096, .f32⟩
  | .hbm, ⟨7, _⟩ => ⟨S16384x4096, .bf16⟩
  | .hbm, ⟨8, _⟩ => ⟨S1x1536, .f32⟩
  | .hbm, ⟨9, _⟩ => ⟨S1x512, .f32⟩
  | .hbm, ⟨10, _⟩ => ⟨S16384x1536, .bf16⟩
  | .hbm, ⟨11, _⟩ => ⟨S16384x512, .bf16⟩
  | .local _ .vmem, ⟨0, _⟩ => ⟨S512x4096, .bf16⟩
  | .local _ .vmem, ⟨1, _⟩ => ⟨S512x4096, .bf16⟩
  | .local _ .vmem, ⟨2, _⟩ => ⟨S4096x2048, .bf16⟩
  | .local _ .vmem, ⟨3, _⟩ => ⟨S1x1536, .f32⟩
  | .local _ .vmem, ⟨4, _⟩ => ⟨S1x512, .f32⟩
  | .local _ .vmem, ⟨5, _⟩ => ⟨S512x1536, .bf16⟩
  | .local _ .vmem, ⟨6, _⟩ => ⟨S512x1536, .bf16⟩
  | .local _ .vmem, ⟨7, _⟩ => ⟨S512x512, .bf16⟩
  | .local _ .vmem, ⟨8, _⟩ => ⟨S512x512, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S4x4096x4096 : Shape := ⟨3, ![4, 4096, 4096]⟩
abbrev S4096x29120 : Shape := ⟨2, ![4096, 29120]⟩
abbrev S1536 : Shape := ⟨1, ![1536]⟩
abbrev S512 : Shape := ⟨1, ![512]⟩
abbrev S4x4096x29120 : Shape := ⟨3, ![4, 4096, 29120]⟩
abbrev S4x4096x6528 : Shape := ⟨3, ![4, 4096, 6528]⟩
abbrev S4x4096x2112 : Shape := ⟨3, ![4, 4096, 2112]⟩
abbrev S4x4096x8192 : Shape := ⟨3, ![4, 4096, 8192]⟩
abbrev S4x4096x12288 : Shape := ⟨3, ![4, 4096, 12288]⟩
abbrev S4x4096x1536 : Shape := ⟨3, ![4, 4096, 1536]⟩
abbrev S4x4096x512 : Shape := ⟨3, ![4, 4096, 512]⟩
abbrev S4x4096x64 : Shape := ⟨3, ![4, 4096, 64]⟩
abbrev S_ : Shape := ⟨0, ![]⟩
abbrev S4x4096 : Shape := ⟨2, ![4, 4096]⟩
abbrev S4x4096x1 : Shape := ⟨3, ![4, 4096, 1]⟩
abbrev S1x1x1536 : Shape := ⟨3, ![1, 1, 1536]⟩
abbrev S16384x1536 : Shape := ⟨2, ![16384, 1536]⟩
abbrev S1x1x512 : Shape := ⟨3, ![1, 1, 512]⟩
abbrev S16384x512 : Shape := ⟨2, ![16384, 512]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x29120, .f32⟩
  | .hbm, ⟨2, _⟩ => ⟨S1536, .f32⟩
  | .hbm, ⟨3, _⟩ => ⟨S512, .f32⟩
  | .hbm, ⟨4, _⟩ => ⟨S4x4096x29120, .f32⟩
  | .hbm, ⟨5, _⟩ => ⟨S4x4096x6528, .f32⟩
  | .hbm, ⟨6, _⟩ => ⟨S4x4096x2112, .f32⟩
  | .hbm, ⟨7, _⟩ => ⟨S4x4096x8192, .f32⟩
  | .hbm, ⟨8, _⟩ => ⟨S4x4096x12288, .f32⟩
  | .hbm, ⟨9, _⟩ => ⟨S4x4096x1536, .f32⟩
  | .hbm, ⟨10, _⟩ => ⟨S4x4096x512, .f32⟩
  | .hbm, ⟨11, _⟩ => ⟨S4x4096x64, .f32⟩
  | .hbm, ⟨12, _⟩ => ⟨S4x4096x1536, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x1536, .f32⟩
  | .hbm, ⟨24, _⟩ => ⟨S4x4096x1536, .f32⟩
  | .hbm, ⟨25, _⟩ => ⟨S1x1x1536, .f32⟩
  | .hbm, ⟨26, _⟩ => ⟨S4x4096x1536, .f32⟩
  | .hbm, ⟨27, _⟩ => ⟨S4x4096x1536, .f32⟩
  | .hbm, ⟨28, _⟩ => ⟨S16384x1536, .f32⟩
  | .hbm, ⟨29, _⟩ => ⟨S16384x1536, .bf16⟩
  | .hbm, ⟨30, _⟩ => ⟨S4x4096x512, .f32⟩
  | .hbm, ⟨31, _⟩ => ⟨S_, .f32⟩
  | .hbm, ⟨32, _⟩ => ⟨S4x4096, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S_, .f32⟩
  | .hbm, ⟨38, _⟩ => ⟨S4x4096x1, .f32⟩
  | .hbm, ⟨39, _⟩ => ⟨S4x4096x1, .f32⟩
  | .hbm, ⟨40, _⟩ => ⟨S4x4096x1, .f32⟩
  | .hbm, ⟨41, _⟩ => ⟨S4x4096x512, .f32⟩
  | .hbm, ⟨42, _⟩ => ⟨S4x4096x512, .f32⟩
  | .hbm, ⟨43, _⟩ => ⟨S1x1x512, .f32⟩
  | .hbm, ⟨44, _⟩ => ⟨S4x4096x512, .f32⟩
  | .hbm, ⟨45, _⟩ => ⟨S4x4096x512, .f32⟩
  | .hbm, ⟨46, _⟩ => ⟨S16384x512, .f32⟩
  | .hbm, ⟨47, _⟩ => ⟨S16384x512, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== Kernel12.lean ====
abbrev S4x4096x1536 : Shape := ⟨3, ![4, 4096, 1536]⟩
abbrev S1536x3072 : Shape := ⟨2, ![1536, 3072]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1536x16x192 : Shape := ⟨3, ![1536, 16, 192]⟩
abbrev S1536x16x64 : Shape := ⟨3, ![1536, 16, 64]⟩
abbrev S1536x16x128 : Shape := ⟨3, ![1536, 16, 128]⟩
abbrev S1536x16x32 : Shape := ⟨3, ![1536, 16, 32]⟩
abbrev S1536x16x256 : Shape := ⟨3, ![1536, 16, 256]⟩
abbrev S16x1536x256 : Shape := ⟨3, ![16, 1536, 256]⟩
abbrev S16384x1536 : Shape := ⟨2, ![16384, 1536]⟩
abbrev S16x16384x256 : Shape := ⟨3, ![16, 16384, 256]⟩
abbrev S2048x1536 : Shape := ⟨2, ![2048, 1536]⟩
abbrev S1x1536x256 : Shape := ⟨3, ![1, 1536, 256]⟩
abbrev S2048x128 : Shape := ⟨2, ![2048, 128]⟩
abbrev S1x2048x256 : Shape := ⟨3, ![1, 2048, 256]⟩
abbrev S1536x256 : Shape := ⟨2, ![1536, 256]⟩
abbrev S2048x256 : Shape := ⟨2, ![2048, 256]⟩

abbrev nBuf : Space → Nat
  | .hbm => 41
  | .vmem => 10
  | .smem => 0
  | _ => 0

abbrev bufTy : (tb : Table) → Fin (tcTables nBuf tb) → BufTy
  | .hbm, ⟨0, _⟩ => ⟨S4x4096x1536, .f32⟩
  | .hbm, ⟨1, _⟩ => ⟨S1536x3072, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S_, .f32⟩
  | .hbm, ⟨25, _⟩ => ⟨S4096x64, .f32⟩
  | .hbm, ⟨26, _⟩ => ⟨S4096x128, .f32⟩
  | .hbm, ⟨27, _⟩ => ⟨S4096x32, .f32⟩
  | .hbm, ⟨28, _⟩ => ⟨S4096x128, .f32⟩
  | .hbm, ⟨29, _⟩ => ⟨S1536x16x192, .f32⟩
  | .hbm, ⟨30, _⟩ => ⟨S1536x16x64, .f32⟩
  | .hbm, ⟨31, _⟩ => ⟨S1536x16x128, .f32⟩
  | .hbm, ⟨32, _⟩ => ⟨S1536x16x32, .f32⟩
  | .hbm, ⟨33, _⟩ => ⟨S1536x16x32, .f32⟩
  | .hbm, ⟨34, _⟩ => ⟨S1536x16x64, .f32⟩
  | .hbm, ⟨35, _⟩ => ⟨S1536x16x256, .f32⟩
  | .hbm, ⟨36, _⟩ => ⟨S16x1536x256, .f32⟩
  | .hbm, ⟨37, _⟩ => ⟨S16x1536x256, .bf16⟩
  | .hbm, ⟨38, _⟩ => ⟨S16384x1536, .f32⟩
  | .hbm, ⟨39, _⟩ => ⟨S16384x1536, .bf16⟩
  | .hbm, ⟨40, _⟩ => ⟨S16x16384x256, .bf16⟩
  | .local _ .vmem, ⟨0, _⟩ => ⟨S2048x1536, .bf16⟩
  | .local _ .vmem, ⟨1, _⟩ => ⟨S2048x1536, .bf16⟩
  | .local _ .vmem, ⟨2, _⟩ => ⟨S1x1536x256, .bf16⟩
  | .local _ .vmem, ⟨3, _⟩ => ⟨S1x1536x256, .bf16⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x2048x256, .bf16⟩
  | .local _ .vmem, ⟨9, _⟩ => ⟨S1x2048x256, .bf16⟩
  | _, _ => ⟨S4x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1536x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference12Ideal.lean ====
abbrev S4x4096x1536 : Shape := ⟨3, ![4, 4096, 1536]⟩
abbrev S1536x3072 : Shape := ⟨2, ![1536, 3072]⟩
abbrev S4096 : Shape := ⟨1, ![4096]⟩
abbrev S4x4096x3072 : Shape := ⟨3, ![4, 4096, 3072]⟩
abbrev S4x4096x16x192 : Shape := ⟨4, ![4, 4096, 16, 192]⟩
abbrev S4x4096x16x128 : Shape := ⟨4, ![4, 4096, 16, 128]⟩
abbrev S4x4096x16x64 : Shape := ⟨4, ![4, 4096, 16, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096x16x32 : Shape := ⟨4, ![4, 4096, 16, 32]⟩
abbrev S1x4096x1x32 : Shape := ⟨4, ![1, 4096, 1, 32]⟩
abbrev S4x4096x16x256 : Shape := ⟨4, ![4, 4096, 16, 256]⟩
abbrev S16384x16x256 : Shape := ⟨3, ![16384, 16, 256]⟩
abbrev S16x16384x256 : Shape := ⟨3, ![16, 16384, 256]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x1536, .f32⟩
  | .hbm, ⟨1, _⟩ => ⟨S1536x3072, .f32⟩
  | .hbm, ⟨2, _⟩ => ⟨S4096, .i32⟩
  | .hbm, ⟨3, _⟩ => ⟨S4x4096x3072, .f32⟩
  | .hbm, ⟨4, _⟩ => ⟨S4x4096x16x192, .f32⟩
  | .hbm, ⟨5, _⟩ => ⟨S4x4096x16x128, .f32⟩
  | .hbm, ⟨6, _⟩ => ⟨S4x4096x16x64, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S4096, .f32⟩
  | .hbm, ⟨22, _⟩ => ⟨S4096x1, .f32⟩
  | .hbm, ⟨23, _⟩ => ⟨S1x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S4096x1x32, .f32⟩
  | .hbm, ⟨28, _⟩ => ⟨S4096x1x32, .f32⟩
  | .hbm, ⟨29, _⟩ => ⟨S4096x1x32, .f32⟩
  | .hbm, ⟨30, _⟩ => ⟨S4x4096x16x32, .f32⟩
  | .hbm, ⟨31, _⟩ => ⟨S4x4096x16x32, .f32⟩
  | .hbm, ⟨32, _⟩ => ⟨S1x4096x1x32, .f32⟩
  | .hbm, ⟨33, _⟩ => ⟨S4x4096x16x32, .f32⟩
  | .hbm, ⟨34, _⟩ => ⟨S4x4096x16x32, .f32⟩
  | .hbm, ⟨35, _⟩ => ⟨S1x4096x1x32, .f32⟩
  | .hbm, ⟨36, _⟩ => ⟨S4x4096x16x32, .f32⟩
  | .hbm, ⟨37, _⟩ => ⟨S4x4096x16x32, .f32⟩
  | .hbm, ⟨38, _⟩ => ⟨S4x4096x16x32, .f32⟩
  | .hbm, ⟨39, _⟩ => ⟨S1x4096x1x32, .f32⟩
  | .hbm, ⟨40, _⟩ => ⟨S4x4096x16x32, .f32⟩
  | .hbm, ⟨41, _⟩ => ⟨S4x4096x16x32, .f32⟩
  | .hbm, ⟨42, _⟩ => ⟨S1x4096x1x32, .f32⟩
  | .hbm, ⟨43, _⟩ => ⟨S4x4096x16x32, .f32⟩
  | .hbm, ⟨44, _⟩ => ⟨S4x4096x16x32, .f32⟩
  | .hbm, ⟨45, _⟩ => ⟨S4x4096x16x32, .f32⟩
  | .hbm, ⟨46, _⟩ => ⟨S4x4096x16x64, .f32⟩
  | .hbm, ⟨47, _⟩ => ⟨S4x4096x16x192, .f32⟩
  | .hbm, ⟨48, _⟩ => ⟨S_, .f32⟩
  | .hbm, ⟨49, _⟩ => ⟨S4x4096x16x192, .f32⟩
  | .hbm, ⟨50, _⟩ => ⟨S4x4096x16x192, .f32⟩
  | .hbm, ⟨51, _⟩ => ⟨S_, .i32⟩
  | .hbm, ⟨52, _⟩ => ⟨S_, .f32⟩
  | .hbm, ⟨53, _⟩ => ⟨S4x4096x16x256, .f32⟩
  | .hbm, ⟨54, _⟩ => ⟨S16384x16x256, .f32⟩
  | .hbm, ⟨55, _⟩ => ⟨S16x16384x256, .f32⟩
  | .hbm, ⟨56, _⟩ => ⟨S16x16384x256, .bf16⟩
  | _, _ => ⟨S4x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_cst_3 : Ref sig .tc := ⟨.hbm, 48, rfl⟩
abbrev main_v42 : Ref sig .tc := ⟨.hbm, 49, rfl⟩
abbrev main_v43 : Ref sig .tc := ⟨.hbm, 50, rfl⟩
abbrev main_c : Ref sig .tc := ⟨.hbm, 51, rfl⟩
abbrev main_call0_v0 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]
-- ==== Kernel13.lean ====
abbrev S8x2048x4096 : Shape := ⟨3, ![8, 2048, 4096]⟩
abbrev S4096 : Shape := ⟨1, ![4096]⟩
abbrev S16384x4096 : Shape := ⟨2, ![16384, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S16384x4096, .f32⟩
  | .hbm, ⟨3, _⟩ => ⟨S1x4096, .f32⟩
  | .hbm, ⟨4, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S8x2048x4096 : Shape := ⟨3, ![8, 2048, 4096]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S16384x4096 : Shape := ⟨2, ![16384, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096, .f32⟩
  | .hbm, ⟨2, _⟩ => ⟨S8x2048x4096, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S_, .f32⟩
  | .hbm, ⟨7, _⟩ => ⟨S8x2048x1, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S8x2048x1, .f32⟩
  | .hbm, ⟨13, _⟩ => ⟨S8x2048x4096, .f32⟩
  | .hbm, ⟨14, _⟩ => ⟨S8x2048x4096, .f32⟩
  | .hbm, ⟨15, _⟩ => ⟨S1x1x4096, .f32⟩
  | .hbm, ⟨16, _⟩ => ⟨S8x2048x4096, .f32⟩
  | .hbm, ⟨17, _⟩ => ⟨S8x2048x4096, .f32⟩
  | .hbm, ⟨18, _⟩ => ⟨S16384x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel14.lean ====
abbrev S4x4096x512 : Shape := ⟨3, ![4, 4096, 512]⟩
abbrev S4x4096x64 : Shape := ⟨3, ![4, 4096, 64]⟩
abbrev S512x4096 : Shape := ⟨2, ![512, 4096]⟩
abbrev S512x16x256 : Shape := ⟨3, ![512, 16, 256]⟩
abbrev S16x512x256 : Shape := ⟨3, ![16, 512, 256]⟩
abbrev S16384x64 : Shape := ⟨2, ![16384, 64]⟩
abbrev S_ : Shape := ⟨0, ![]⟩
abbrev S16384x128 : Shape := ⟨2, ![16384, 128]⟩
abbrev S16384x512 : Shape := ⟨2, ![16384, 512]⟩
abbrev S16x16384x256 : Shape := ⟨3, ![16, 16384, 256]⟩
abbrev S2048x512 : Shape := ⟨2, ![2048, 512]⟩
abbrev S1x512x256 : Shape := ⟨3, ![1, 512, 256]⟩
abbrev S2048x128 : Shape := ⟨2, ![2048, 128]⟩
abbrev S1x2048x256 : Shape := ⟨3, ![1, 2048, 256]⟩
abbrev S512x256 : Shape := ⟨2, ![512, 256]⟩
abbrev S2048x256 : Shape := ⟨2, ![2048, 256]⟩

abbrev nBuf : Space → Nat
  | .hbm => 15
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S4x4096x64, .f32⟩
  | .hbm, ⟨2, _⟩ => ⟨S512x4096, .f32⟩
  | .hbm, ⟨3, _⟩ => ⟨S512x16x256, .f32⟩
  | .hbm, ⟨4, _⟩ => ⟨S16x512x256, .f32⟩
  | .hbm, ⟨5, _⟩ => ⟨S16x512x256, .bf16⟩
  | .hbm, ⟨6, _⟩ => ⟨S16384x64, .f32⟩
  | .hbm, ⟨7, _⟩ => ⟨S_, .f32⟩
  | .hbm, ⟨8, _⟩ => ⟨S16384x64, .f32⟩
  | .hbm, ⟨9, _⟩ => ⟨S16384x128, .f32⟩
  | .hbm, ⟨10, _⟩ => ⟨S16384x128, .bf16⟩
  | .hbm, ⟨11, _⟩ => ⟨S16384x512, .f32⟩
  | .hbm, ⟨12, _⟩ => ⟨S16384x512, .bf16⟩
  | .hbm, ⟨13, _⟩ => ⟨S16x16384x256, .bf16⟩
  | .hbm, ⟨14, _⟩ => ⟨S16x16384x256, .bf16⟩
  | .local _ .vmem, ⟨0, _⟩ => ⟨S2048x512, .bf16⟩
  | .local _ .vmem, ⟨1, _⟩ => ⟨S2048x512, .bf16⟩
  | .local _ .vmem, ⟨2, _⟩ => ⟨S1x512x256, .bf16⟩
  | .local _ .vmem, ⟨3, _⟩ => ⟨S1x512x256, .bf16⟩
  | .local _ .vmem, ⟨4, _⟩ => ⟨S2048x128, .bf16⟩
  | .local _ .vmem, ⟨5, _⟩ => ⟨S2048x128, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference14Ideal.lean ====
abbrev S4x4096x512 : Shape := ⟨3, ![4, 4096, 512]⟩
abbrev S4x4096x64 : Shape := ⟨3, ![4, 4096, 64]⟩
abbrev S512x4096 : Shape := ⟨2, ![512, 4096]⟩
abbrev S4x4096x4096 : Shape := ⟨3, ![4, 4096, 4096]⟩
abbrev S4x4096x16x256 : Shape := ⟨4, ![4, 4096, 16, 256]⟩
abbrev S4x4096x16x128 : Shape := ⟨4, ![4, 4096, 16, 128]⟩
abbrev S4x4096x1x64 : Shape := ⟨4, ![4, 4096, 1, 64]⟩
abbrev S4x4096x16x64 : Shape := ⟨4, ![4, 4096, 16, 64]⟩
abbrev S_ : Shape := ⟨0, ![]⟩
abbrev S4x4096x16x192 : Shape := ⟨4, ![4, 4096, 16, 192]⟩
abbrev S16384x16x256 : Shape := ⟨3, ![16384, 16, 256]⟩
abbrev S16x16384x256 : Shape := ⟨3, ![16, 16384, 256]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x64, .f32⟩
  | .hbm, ⟨2, _⟩ => ⟨S512x4096, .f32⟩
  | .hbm, ⟨3, _⟩ => ⟨S4x4096x4096, .f32⟩
  | .hbm, ⟨4, _⟩ => ⟨S4x4096x16x256, .f32⟩
  | .hbm, ⟨5, _⟩ => ⟨S4x4096x16x128, .f32⟩
  | .hbm, ⟨6, _⟩ => ⟨S4x4096x16x128, .f32⟩
  | .hbm, ⟨7, _⟩ => ⟨S4x4096x1x64, .f32⟩
  | .hbm, ⟨8, _⟩ => ⟨S4x4096x16x64, .f32⟩
  | .hbm, ⟨9, _⟩ => ⟨S_, .f32⟩
  | .hbm, ⟨10, _⟩ => ⟨S4x4096x16x64, .f32⟩
  | .hbm, ⟨11, _⟩ => ⟨S4x4096x16x192, .f32⟩
  | .hbm, ⟨12, _⟩ => ⟨S4x4096x16x256, .f32⟩
  | .hbm, ⟨13, _⟩ => ⟨S_, .f32⟩
  | .hbm, ⟨14, _⟩ => ⟨S4x4096x16x128, .f32⟩
  | .hbm, ⟨15, _⟩ => ⟨S4x4096x16x256, .f32⟩
  | .hbm, ⟨16, _⟩ => ⟨S16384x16x256, .f32⟩
  | .hbm, ⟨17, _⟩ => ⟨S16x16384x256, .f32⟩
  | .hbm, ⟨18, _⟩ => ⟨S16x16384x256, .bf16⟩
  | .hbm, ⟨19, _⟩ => ⟨S16384x16x256, .f32⟩
  | .hbm, ⟨20, _⟩ => ⟨S16x16384x256, .f32⟩
  | .hbm, ⟨21, _⟩ => ⟨S16x16384x256, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel15.lean ====
abbrev S4x4096x4096 : Shape := ⟨3, ![4, 4096, 4096]⟩
abbrev S4096x29120 : Shape := ⟨2, ![4096, 29120]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S16384x4096 : Shape := ⟨2, ![16384, 4096]⟩
abbrev S16384x128 : Shape := ⟨2, ![16384, 128]⟩
abbrev S1024x4096 : Shape := ⟨2, ![1024, 4096]⟩
abbrev S1024x128 : Shape := ⟨2, ![1024, 128]⟩

abbrev nBuf : Space → Nat
  | .hbm => 38
  | .vmem => 9
  | .smem => 0
  | _ => 0

abbrev bufTy : (tb : Table) → Fin (tcTables nBuf tb) → BufTy
  | .hbm, ⟨0, _⟩ => ⟨S4x4096x4096, .f32⟩
  | .hbm, ⟨1, _⟩ => ⟨S4096x29120, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S_, .f32⟩
  | .hbm, ⟨25, _⟩ => ⟨S4096x64, .f32⟩
  | .hbm, ⟨26, _⟩ => ⟨S4096x128, .f32⟩
  | .hbm, ⟨27, _⟩ => ⟨S4096x32, .f32⟩
  | .hbm, ⟨28, _⟩ => ⟨S4096x128, .f32⟩
  | .hbm, ⟨29, _⟩ => ⟨S4096x64, .f32⟩
  | .hbm, ⟨30, _⟩ => ⟨S4096x32, .f32⟩
  | .hbm, ⟨31, _⟩ => ⟨S4096x32, .f32⟩
  | .hbm, ⟨32, _⟩ => ⟨S4096x64, .f32⟩
  | .hbm, ⟨33, _⟩ => ⟨S4096x128, .f32⟩
  | .hbm, ⟨34, _⟩ => ⟨S4096x128, .bf16⟩
  | .hbm, ⟨35, _⟩ => ⟨S16384x4096, .f32⟩
  | .hbm, ⟨36, _⟩ => ⟨S16384x4096, .bf16⟩
  | .hbm, ⟨37, _⟩ => ⟨S16384x128, .bf16⟩
  | .local _ .vmem, ⟨0, _⟩ => ⟨S1024x4096, .bf16⟩
  | .local _ .vmem, ⟨1, _⟩ => ⟨S1024x4096, .bf16⟩
  | .local _ .vmem, ⟨2, _⟩ => ⟨S4096x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .bf16⟩
  | .local _ .vmem, ⟨8, _⟩ => ⟨S1024x128, .bf16⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S4x4096x4096 : Shape := ⟨3, ![4, 4096, 4096]⟩
abbrev S4096x29120 : Shape := ⟨2, ![4096, 29120]⟩
abbrev S4096 : Shape := ⟨1, ![4096]⟩
abbrev S4x4096x29120 : Shape := ⟨3, ![4, 4096, 29120]⟩
abbrev S4x4096x6528 : Shape := ⟨3, ![4, 4096, 6528]⟩
abbrev S4x4096x2112 : Shape := ⟨3, ![4, 4096, 2112]⟩
abbrev S4x4096x8192 : Shape := ⟨3, ![4, 4096, 8192]⟩
abbrev S4x4096x12288 : Shape := ⟨3, ![4, 4096, 12288]⟩
abbrev S4x4096x1536 : Shape := ⟨3, ![4, 4096, 1536]⟩
abbrev S4x4096x512 : Shape := ⟨3, ![4, 4096, 512]⟩
abbrev S4x4096x64 : Shape := ⟨3, ![4, 4096, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4x4096x32 : Shape := ⟨3, ![4, 4096, 32]⟩
abbrev S1x4096x32 : Shape := ⟨3, ![1, 4096, 32]⟩
abbrev S16384x64 : Shape := ⟨2, ![16384, 64]⟩
abbrev S16384x128 : Shape := ⟨2, ![16384, 128]⟩

abbrev nBuf : Space → Nat
  | .hbm => 55
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x29120, .f32⟩
  | .hbm, ⟨2, _⟩ => ⟨S4096, .i32⟩
  | .hbm, ⟨3, _⟩ => ⟨S4x4096x29120, .f32⟩
  | .hbm, ⟨4, _⟩ => ⟨S4x4096x6528, .f32⟩
  | .hbm, ⟨5, _⟩ => ⟨S4x4096x2112, .f32⟩
  | .hbm, ⟨6, _⟩ => ⟨S4x4096x8192, .f32⟩
  | .hbm, ⟨7, _⟩ => ⟨S4x4096x12288, .f32⟩
  | .hbm, ⟨8, _⟩ => ⟨S4x4096x1536, .f32⟩
  | .hbm, ⟨9, _⟩ => ⟨S4x4096x512, .f32⟩
  | .hbm, ⟨10, _⟩ => ⟨S4x4096x64, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S4096, .f32⟩
  | .hbm, ⟨26, _⟩ => ⟨S4096x1, .f32⟩
  | .hbm, ⟨27, _⟩ => ⟨S1x32, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x32, .f32⟩
  | .hbm, ⟨32, _⟩ => ⟨S4096x32, .f32⟩
  | .hbm, ⟨33, _⟩ => ⟨S4x4096x32, .f32⟩
  | .hbm, ⟨34, _⟩ => ⟨S4x4096x32, .f32⟩
  | .hbm, ⟨35, _⟩ => ⟨S1x4096x32, .f32⟩
  | .hbm, ⟨36, _⟩ => ⟨S4x4096x32, .f32⟩
  | .hbm, ⟨37, _⟩ => ⟨S4x4096x32, .f32⟩
  | .hbm, ⟨38, _⟩ => ⟨S1x4096x32, .f32⟩
  | .hbm, ⟨39, _⟩ => ⟨S4x4096x32, .f32⟩
  | .hbm, ⟨40, _⟩ => ⟨S4x4096x32, .f32⟩
  | .hbm, ⟨41, _⟩ => ⟨S4x4096x32, .f32⟩
  | .hbm, ⟨42, _⟩ => ⟨S1x4096x32, .f32⟩
  | .hbm, ⟨43, _⟩ => ⟨S4x4096x32, .f32⟩
  | .hbm, ⟨44, _⟩ => ⟨S4x4096x32, .f32⟩
  | .hbm, ⟨45, _⟩ => ⟨S1x4096x32, .f32⟩
  | .hbm, ⟨46, _⟩ => ⟨S4x4096x32, .f32⟩
  | .hbm, ⟨47, _⟩ => ⟨S4x4096x32, .f32⟩
  | .hbm, ⟨48, _⟩ => ⟨S4x4096x32, .f32⟩
  | .hbm, ⟨49, _⟩ => ⟨S4x4096x64, .f32⟩
  | .hbm, ⟨50, _⟩ => ⟨S16384x64, .f32⟩
  | .hbm, ⟨51, _⟩ => ⟨S_, .i32⟩
  | .hbm, ⟨52, _⟩ => ⟨S_, .f32⟩
  | .hbm, ⟨53, _⟩ => ⟨S16384x128, .f32⟩
  | .hbm, ⟨54, _⟩ => ⟨S16384x128, .bf16⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_c : Ref sig .tc := ⟨.hbm, 51, rfl⟩
abbrev main_call0_v0 : Ref sig .tc := ⟨.hbm, 52, rfl⟩
abbrev main_v45 : Ref sig .tc := ⟨.hbm, 53, rfl⟩
abbrev main_v46 : Ref sig .tc := ⟨.hbm, 54, rfl⟩

abbrev nD : Nat := 1
abbrev τ : Topo := Topo.v7x

variable {F : FTy → Type} [FloatOps F]
-- ==== Proof.AttnMath.lean ====
/- The mathematics of one attention row, over the extended reals: softmax weights against values, written once as
   "weighted sum over the weights, divided by the sum of the weights" and once as "sum of the normalised weights
   against the values"; the two agree when the scores are real numbers. -/
module

public import Idealize.ShloMosaic.PureOps.Ideal
public import Idealize.ShloMosaic.PureOps.Ideal.Laws
public import Idealize.ShloMosaic.Lib.Pointwise

@[expose] public section

namespace Cert.Proof.AttnMath

open Idealize.ShloMosaic

/-- A nonnegative real factor on the right goes into a finite sum. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The maximum of real scores is a real number that none of them exceeds. -/
theorem fold_max_coe {n : ℕ} [NeZero n] (s : Fin n → ℝ) :
    ∃ M : ℝ, (Finset.univ : Finset (Fin n)).fold max (⊥ : EReal) (fun k => (s k : EReal)) = (M : EReal) := by
  refine ⟨Finset.univ.sup' Finset.univ_nonempty s, ?_⟩
  have h : (Finset.univ : Finset (Fin n)).fold max (⊥ : EReal) (fun k => (s k : EReal))
      = Finset.univ.sup fun k => (s k : EReal) := rfl
  rw [h]
  apply le_antisymm
  · refine Finset.sup_le fun k hk => ?_
    exact_mod_cast Finset.le_sup' s hk
  · obtain ⟨k, hk, e⟩ := Finset.exists_mem_eq_sup' Finset.univ_nonempty s
    rw [e]
    exact Finset.le_sup (f := fun k => (s k : EReal)) hk

/-- A finite sum of real numbers, read as extended reals, is their real sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real strictly between the infinities in absolute value is a real number. -/
theorem exists_coe_of_abs_lt {x : EReal} (h : max x (-x) < ⊤) : ∃ r : ℝ, x = (r : EReal) := by
  induction x using EReal.rec with
  | bot => simp at h
  | top => simp at h
  | coe r => exact ⟨r, rfl⟩

/-- One row of attention with the normaliser taken last: the weights are `exp (score - largest score)`, and column
    `v` of the values meets the column `o` of ones beside it. -/
noncomputable def row {n : ℕ} (s v o : Fin n → EReal) : EReal :=
  Ideal.div (∑ k, Ideal.exp (s k - Finset.univ.fold max ⊥ s) * v k)
    (∑ k, Ideal.exp (s k - Finset.univ.fold max ⊥ s) * o k)

/-- One row of attention with the weights normalised first. -/
noncomputable def softmaxRow {n : ℕ} (s v : Fin n → EReal) : EReal :=
  ∑ k, v k * Ideal.div (Ideal.exp (s k - Finset.univ.fold max ⊥ s)) (∑ k, Ideal.exp (s k - Finset.univ.fold max ⊥ s))

/-- On real scores the two orders of normalising give one value, whatever the values are. -/
theorem row_eq_softmaxRow {n : ℕ} [NeZero n] (s : Fin n → ℝ) (v : Fin n → EReal) :
    row (fun k => (s k : EReal)) v (fun _ => 1) = softmaxRow (fun k => (s k : EReal)) v := by
  obtain ⟨M, hM⟩ := fold_max_coe s
  unfold row softmaxRow
  rw [hM]
  have e (k : Fin n) : Ideal.exp ((s k : EReal) - (M : EReal)) = ((Real.exp (s k - M) : ℝ) : EReal) := by
    rw [← EReal.coe_sub]; rfl
  simp only [e, mul_one]
  rw [← coe_sum]
  have hZ : 0 < ∑ k, Real.exp (s k - M) := Finset.sum_pos (fun _ _ => Real.exp_pos _) Finset.univ_nonempty
  rw [Ideal.div_coe hZ.ne', sum_mul_coe _ _ _ (one_div_nonneg.2 hZ.le)]
  refine Finset.sum_congr rfl fun k _ => ?_
  rw [Ideal.div_coe hZ.ne', mul_comm (v k), mul_assoc, mul_assoc, mul_comm (v k)]

/-- Being a real number: not an infinity. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-- `row_eq_softmaxRow` for scores that are known to be real. -/
theorem row_eq {n : ℕ} [NeZero n] (s v : Fin n → EReal) (hs : ∀ k, IsReal (s k)) :
    row s v (fun _ => 1) = softmaxRow s v := by
  choose g hg using hs
  obtain rfl : s = fun k => (g k : EReal) := funext hg
  exact row_eq_softmaxRow g v

/-- The scale that the scores are multiplied by (the word of `192 ^ (-1/2)`), a positive real number. -/
noncomputable def scale : EReal := Ideal.ofBits FTy.f32 0x3D93CD3A#32

theorem scale_coe : ∃ r : ℝ, 0 ≤ r ∧ scale = (r : EReal) := by
  unfold scale
  simp only [Ideal.ofBits, Ideal.ieee]
  refine ⟨(9686330 * 2 ^ (-27 : ℤ) : ℝ), by positivity, ?_⟩
  simp

/-- The score of query `q` against key `k` of batch `b` and head `h`: both parts of the query against both parts of the
    key, the second part of the key shared by the heads. -/
noncomputable def score (qn : (⟨4, ![4, 4096, 16, 128]⟩ : Shape).Idx → EReal) (qp : (⟨4, ![4, 4096, 16, 64]⟩ : Shape).Idx → EReal)
    (kn : (⟨4, ![4, 4096, 16, 128]⟩ : Shape).Idx → EReal) (kp : (⟨3, ![4, 4096, 64]⟩ : Shape).Idx → EReal)
    (b : Fin 4) (h : Fin 16) (q k : Fin 4096) : EReal :=
  (∑ x : Fin 128, qn (ix4 b q h x) * kn (ix4 b k h x) + ∑ x : Fin 64, kp (ix3 b k x) * qp (ix4 b q h x)) * scale

theorem score_real (qn qp kn kp) (hqn : ∀ i, IsReal (qn i)) (hqp : ∀ i, IsReal (qp i)) (hkn : ∀ i, IsReal (kn i))
    (hkp : ∀ i, IsReal (kp i)) (b h q k) : IsReal (score qn qp kn kp b h q k) := by
  obtain ⟨r, -, e⟩ := scale_coe
  exact ((IsReal.sum _ _ fun _ => (hqn _).mul (hkn _)).add (IsReal.sum _ _ fun _ => (hkp _).mul (hqp _))).mul ⟨r, e⟩

/-- The whole attention, at token `i 0` and column `i 1` of its result. -/
noncomputable def attention (qn : (⟨4, ![4, 4096, 16, 128]⟩ : Shape).Idx → EReal) (qp : (⟨4, ![4, 4096, 16, 64]⟩ : Shape).Idx → EReal)
    (kn : (⟨4, ![4, 4096, 16, 128]⟩ : Shape).Idx → EReal) (kp : (⟨3, ![4, 4096, 64]⟩ : Shape).Idx → EReal)
    (v : (⟨4, ![4, 4096, 16, 128]⟩ : Shape).Idx → EReal) (r : Fin 16384) (d : Fin 2048) : EReal :=
  softmaxRow (fun k => score qn qp kn kp ⟨r / 4096, by omega⟩ ⟨d / 128, by omega⟩ ⟨r % 4096, by omega⟩ k)
    (fun k => v (ix4 ⟨r / 4096, by omega⟩ k ⟨d / 128, by omega⟩ ⟨d % 128, by omega⟩))

end Cert.Proof.AttnMath
-- ==== Proof.AttnTile.lean ====
/- What each of the attention body's four stores holds at an index: one attention row of the query tile. -/
module

public import proofs.«01_k».proof.Proof.Gen.KernelIdeal.Value
public import proofs.«01_k».proof.Proof.AttnMath
public import Idealize.ShloMosaic.Lib.Pointwise
public import Idealize.ShloMosaic.Lib.Pipeline.ValueKit

@[expose] public section

set_option maxRecDepth 16384

noncomputable section

namespace Cert.Proof.AttnTile

open Idealize.ShloMosaic Idealize.ShloMosaic.TcCoe Idealize.SL.Sem
open Cert.KernelIdeal Cert.KernelIdeal.Gen Cert.Proof.AttnMath

/-- The second tile's result is the first tile's expression at its own queries. -/
theorem pay1_eq {F : FTy → Type} [FloatOps F] (k v : Vec F S1x4096x256 .bf16) (q : Vec F S1x256x256 .bf16) :
    k0_pay1 (k0_pay5 v) (k0_pay8 k q) = k0_pay7 k v q := rfl

/-- The third tile's result is the first tile's expression at its own queries. -/
theorem pay2_eq {F : FTy → Type} [FloatOps F] (k v : Vec F S1x4096x256 .bf16) (q : Vec F S1x256x256 .bf16) :
    k0_pay2 (k0_pay5 v) (k0_pay6 k q) = k0_pay7 k v q := rfl

/-- The fourth tile's result is the first tile's expression at its own queries. -/
theorem pay3_eq {F : FTy → Type} [FloatOps F] (k v : Vec F S1x4096x256 .bf16) (q : Vec F S1x256x256 .bf16) :
    k0_pay3 (k0_pay4 k) (k0_pay5 v) q = k0_pay7 k v q := rfl

/-- One store at an index: the attention row of that query, its values and normaliser the two halves of the value
    block's columns. -/
theorem tile_apply (k v : Vec Ideal S1x4096x256 .bf16) (q : Vec Ideal S1x256x256 .bf16) (r : Fin 256) (d : Fin 128) :
    k0_pay7 k v q (ix2 r d)
      = row (fun n : Fin 4096 => ∑ j : Fin 256, (q (ix3 0 r j) * k (ix3 0 n j) : EReal))
          (fun n => v (ix3 0 n ⟨d, by omega⟩)) (fun n => v (ix3 0 n ⟨128 + d, by omega⟩)) := by
  unfold row
  have e : Ideal.ofBits FTy.f32 4286578688#32 = ⊥ := by simp [Ideal.ofBits, Ideal.ieee]
  pointwise [k0_pay7, k0_pay4, k0_pay5]
  rw [e]

/-- The body's output block at an index, from its three input blocks. -/
theorem out_apply (q : Vec Ideal S1x1024x256 .bf16) (k v : Vec Ideal S1x4096x256 .bf16) (r : Fin 1024) (d : Fin 128) :
    out0_3 q k v (ix2 r d)
      = row (fun n : Fin 4096 => ∑ j : Fin 256, (q (ix3 0 r j) * k (ix3 0 n j) : EReal))
          (fun n => v (ix3 0 n ⟨d, by omega⟩)) (fun n => v (ix3 0 n ⟨128 + d, by omega⟩)) := by
  unfold_out out0_3
  rw [pay1_eq, pay2_eq, pay3_eq]
  canon_tiles x h
  all_goals
    idx_vars x
    rw [tile_apply]
    have h0' : (r : ℕ) = _ := h0
    have h1' : (d : ℕ) = _ := h1
    pointwise []
    simp only [h1', show r = ⟨_, h0'.ge.trans_lt r.isLt⟩ from Fin.ext h0']

end Cert.Proof.AttnTile

end
-- ==== Proof.AttnValue.lean ====
/- The attention kernel's result array after its run: at token `4096 * b + t` and column `128 * h + d` the attention row
   of query `t` of batch `b` and head `h`, read off the packed queries, keys and values that the launch is given. -/
module

public import proofs.«01_k».proof.Proof.AttnTile
public import Idealize.ShloMosaic.Lib.Pipeline.Covers

@[expose] public section

set_option maxRecDepth 16384

noncomputable section

namespace Cert.Proof.AttnValue

open Idealize.ShloMosaic Idealize.ShloMosaic.TcCoe Idealize.SL.Sem
open Cert.KernelIdeal Cert.KernelIdeal.Gen Cert.Proof.AttnMath Cert.Proof.AttnTile

variable (m : (ℓ : Loc nD τ sig) → Buf (Elt Ideal) ℓ)

/-- The attention of packed queries, keys and values (heads first): head `h`, batch `b`, query row `r`, value column `d`. -/
def cell (q k v : S16x16384x256.Idx → EReal) (h : Fin 16) (b : Fin 4) (r : Fin 16384) (d : Fin 128) : EReal :=
  row (fun n : Fin 4096 => ∑ j : Fin 256, q (ix3 h r j) * k (ix3 h ⟨(b : ℕ) * 4096 + n, by omega⟩ j))
    (fun n => v (ix3 h ⟨(b : ℕ) * 4096 + n, by omega⟩ ⟨d, by omega⟩))
    (fun n => v (ix3 h ⟨(b : ℕ) * 4096 + n, by omega⟩ ⟨128 + d, by omega⟩))

/-- The same at token `i 0` and column `i 1` of the result array. -/
def packed (q k v : S16x16384x256.Idx → EReal) (i : S16384x2048.Idx) : EReal :=
  cell q k v ⟨(i 1 : ℕ) / 128, by have : (i 1 : ℕ) < 2048 := (i 1).isLt; omega⟩
    ⟨(i 0 : ℕ) / 4096, by have : (i 0 : ℕ) < 16384 := (i 0).isLt; omega⟩ (i 0) ⟨(i 1 : ℕ) % 128, by omega⟩

/-- The block each window holds at a grid point (head, batch, query block). -/
theorem index_q : ∀ t : Fin grid0.N, win0_0.index t
    = ![(grid0.coords t 0).val, (grid0.coords t 1).val * 4 + (grid0.coords t 2).val, 0] := by decide +kernel
theorem index_k : ∀ t : Fin grid0.N, win0_1.index t = ![(grid0.coords t 0).val, (grid0.coords t 1).val, 0] := by decide +kernel
theorem index_v : ∀ t : Fin grid0.N, win0_2.index t = ![(grid0.coords t 0).val, (grid0.coords t 1).val, 0] := by decide +kernel
theorem index_o : ∀ t : Fin grid0.N, win0_3.index t
    = ![(grid0.coords t 1).val * 4 + (grid0.coords t 2).val, (grid0.coords t 0).val] := by decide +kernel

/-- Every block of the result is written back by some grid point. -/
theorem covers : (cfg0.win 3).Covers :=
  by decide +kernel

/-- The grid's three coordinates: head, batch, query block. -/
theorem coord0 (t : Fin grid0.N) : (grid0.coords t 0).val < 16 := (grid0.coords t 0).isLt
theorem coord1 (t : Fin grid0.N) : (grid0.coords t 1).val < 4 := (grid0.coords t 1).isLt
theorem coord2 (t : Fin grid0.N) : (grid0.coords t 2).val < 4 := (grid0.coords t 2).isLt

/-- A query block read at an index is the packed queries at its place. -/
theorem read_q (c : Dev nD) (t : Fin grid0.N) (r : Fin 1024) (j : Fin 256) :
    (iblk m c 0 t : Vec Ideal S1x1024x256 .bf16) (ix3 0 r j)
      = V m c main_v7 (ix3 ⟨(grid0.coords t 0).val, coord0 t⟩
          ⟨((grid0.coords t 1).val * 4 + (grid0.coords t 2).val) * 1024 + r,
            by have := coord1 t; have := coord2 t; omega⟩ j) := by
  blk_ext [iblk, index_q t]

theorem read_k (c : Dev nD) (t : Fin grid0.N) (n : Fin 4096) (j : Fin 256) :
    (iblk m c 1 t : Vec Ideal S1x4096x256 .bf16) (ix3 0 n j)
      = V m c main_v14 (ix3 ⟨(grid0.coords t 0).val, coord0 t⟩
          ⟨(grid0.coords t 1).val * 4096 + n, by have := coord1 t; omega⟩ j) := by
  blk_ext [iblk, index_k t]

theorem read_v (c : Dev nD) (t : Fin grid0.N) (n : Fin 4096) (j : Fin 256) :
    (iblk m c 2 t : Vec Ideal S1x4096x256 .bf16) (ix3 0 n j)
      = V m c main_v19 (ix3 ⟨(grid0.coords t 0).val, coord0 t⟩
          ⟨(grid0.coords t 1).val * 4096 + n, by have := coord1 t; omega⟩ j) := by
  blk_ext [iblk, index_v t]

/-- Reading the result at an index of known head, batch, row and column. -/
theorem packed_of (q k v : S16x16384x256.Idx → EReal) (i : S16384x2048.Idx) (h : Fin 16) (b : Fin 4) (r : Fin 16384)
    (d : Fin 128) (h0 : (i 0 : ℕ) = r) (hb : (r : ℕ) / 4096 = b) (h1 : (i 1 : ℕ) = h * 128 + d) :
    packed q k v i = cell q k v h b r d := by
  unfold packed
  congr 1 <;> apply Fin.ext
  · show (i 1 : ℕ) / 128 = h; omega
  · show (i 0 : ℕ) / 4096 = b; omega
  · exact h0
  · show (i 1 : ℕ) % 128 = d; omega

/-- The result array after the run. -/
theorem arr_eq (c : Dev nD) :
    (dats m 0 c).arrAt 3 cfg0.N = packed (V m c main_v7) (V m c main_v14) (V m c main_v19) := by
  refine (dats m 0 c).arrAt_eq_of_covers 3 _ covers fun t hf y => ?_
  blk_simp
  rw [after0_3]
  idx_vars y
  have c0 := coord0 t
  have c1 := coord1 t
  have c2 := coord2 t
  rw [out_apply, packed_of _ _ _ _ ⟨(grid0.coords t 0).val, c0⟩ ⟨(grid0.coords t 1).val, c1⟩
    ⟨((grid0.coords t 1).val * 4 + (grid0.coords t 2).val) * 1024 + y0, by omega⟩ y1
    (by blk_simp [index_o t]) (by dsimp only; omega) (by blk_simp [index_o t])]
  unfold cell
  simp only [read_q, read_k, read_v]

end Cert.Proof.AttnValue

end
-- ==== Proof.AttnHost.lean ====
/- The packed queries, keys and values that the attention launch is given, read at an index of the arguments. -/
module

public import proofs.«01_k».proof.Proof.Gen.KernelIdeal.Value
public import proofs.«01_k».proof.Proof.AttnMath
public import Idealize.ShloMosaic.Lib.Pointwise
public import Idealize.ShloMosaic.Lib.Pipeline.ValueKit

@[expose] public section

set_option maxRecDepth 16384

noncomputable section

namespace Cert.Proof.AttnHost

open Idealize.ShloMosaic Idealize.ShloMosaic.TcCoe Idealize.SL.Sem
open Cert.KernelIdeal Cert.KernelIdeal.Gen Cert.Proof.AttnMath

variable (m : (ℓ : Loc nD τ sig) → Buf (Elt Ideal) ℓ)

/-- The packed queries: the two parts of the query side by side, zeros behind them, all times the scale. -/
theorem q_at (c : Dev nD) (h : Fin 16) (r : Fin 16384) (j : Fin 256) :
    V m c main_v7 (ix3 h r j)
      = HMul.hMul (α := EReal) (β := EReal) (if h1 : (j : ℕ) < 192 then
          (if h2 : (j : ℕ) < 128 then
            m ((c : Thread nD τ).loc main_arg0) (ix4 ⟨r / 4096, by omega⟩ ⟨r % 4096, by omega⟩ h ⟨j, h2⟩)
          else m ((c : Thread nD τ).loc main_arg1) (ix4 ⟨r / 4096, by omega⟩ ⟨r % 4096, by omega⟩ h ⟨j - 128, by omega⟩))
        else (0 : EReal)) scale := by
  entry_read
  pointwise
  rfl

/-- The packed keys: the two parts of the key side by side, zeros behind them. -/
theorem k_at (c : Dev nD) (h : Fin 16) (r : Fin 16384) (j : Fin 256) :
    V m c main_v14 (ix3 h r j)
      = (if h1 : (j : ℕ) < 192 then
          (if h2 : (j : ℕ) < 128 then
            m ((c : Thread nD τ).loc main_arg2) (ix4 ⟨r / 4096, by omega⟩ ⟨r % 4096, by omega⟩ h ⟨j, h2⟩)
          else m ((c : Thread nD τ).loc main_arg3) (ix3 ⟨r / 4096, by omega⟩ ⟨r % 4096, by omega⟩ ⟨j - 128, by omega⟩))
        else (0 : EReal)) := by
  entry_read
  pointwise

/-- The packed values: the values, and a block of ones beside them. -/
theorem v_at (c : Dev nD) (h : Fin 16) (r : Fin 16384) (j : Fin 256) :
    V m c main_v19 (ix3 h r j)
      = (if h1 : (j : ℕ) < 128 then
          m ((c : Thread nD τ).loc main_arg4) (ix4 ⟨r / 4096, by omega⟩ ⟨r % 4096, by omega⟩ h ⟨j, h1⟩)
        else (1 : EReal) : EReal) := by
  entry_read
  pointwise

/-- A sum over the packed columns of two products, cut where the packing cuts. -/
theorem split_sum (a b : Fin 128 → EReal) (x y : Fin 64 → EReal) (C : EReal) :
    (∑ j : Fin (128 + 64 + 64), ((if h1 : (j : ℕ) < 192 then (if h2 : (j : ℕ) < 128 then a ⟨j, h2⟩ else x ⟨j - 128, by omega⟩) else 0) * C)
        * (if h1 : (j : ℕ) < 192 then (if h2 : (j : ℕ) < 128 then b ⟨j, h2⟩ else y ⟨j - 128, by omega⟩) else 0))
      = ∑ i : Fin 128, a i * b i * C + ∑ i : Fin 64, y i * x i * C := by
  rw [Fin.sum_univ_add, Fin.sum_univ_add]
  refine congrArg₂ _ (congrArg₂ _ (Finset.sum_congr rfl fun i _ => ?_) (Finset.sum_congr rfl fun i _ => ?_)) (Finset.sum_eq_zero fun i _ => ?_) |>.trans (add_zero _)
  · have h1 : ((Fin.castAdd 64 (Fin.castAdd 64 i) : Fin (128 + 64 + 64)) : ℕ) < 192 := by simp; omega
    have h2 : ((Fin.castAdd 64 (Fin.castAdd 64 i) : Fin (128 + 64 + 64)) : ℕ) < 128 := by simp
    rw [dif_pos h1, dif_pos h1, dif_pos h2, dif_pos h2, mul_right_comm]
    rfl
  · have h1 : ((Fin.castAdd 64 (Fin.natAdd 128 i) : Fin (128 + 64 + 64)) : ℕ) < 192 := by simp; omega
    have h2 : ¬ ((Fin.castAdd 64 (Fin.natAdd 128 i) : Fin (128 + 64 + 64)) : ℕ) < 128 := by simp
    rw [dif_pos h1, dif_pos h1, dif_neg h2, dif_neg h2, mul_right_comm, mul_comm (y i)]
    simp
  · rw [dif_neg (by simp), dif_neg (by simp)]
    simp

/-- A packed query against a packed key is the score. -/
theorem score_eq (c : Dev nD) (h : Fin 16) (r s : Fin 16384) (hb : (s : ℕ) / 4096 = r / 4096) :
    (∑ j : Fin 256, HMul.hMul (α := EReal) (β := EReal) (V m c main_v7 (ix3 h r j)) (V m c main_v14 (ix3 h s j)))
      = score (m ((c : Thread nD τ).loc main_arg0)) (m ((c : Thread nD τ).loc main_arg1))
          (m ((c : Thread nD τ).loc main_arg2)) (m ((c : Thread nD τ).loc main_arg3))
          ⟨r / 4096, by omega⟩ h ⟨r % 4096, by omega⟩ ⟨s % 4096, by omega⟩ := by
  obtain ⟨C, hC, e⟩ := scale_coe
  unfold score
  rw [e, EReal.right_distrib_of_nonneg_of_ne_top (by exact_mod_cast hC) (EReal.coe_ne_top C), sum_mul_coe _ _ _ hC,
    sum_mul_coe _ _ _ hC]
  refine (Finset.sum_congr rfl fun j _ => ?_).trans (split_sum
    (fun x => m ((c : Thread nD τ).loc main_arg0) (ix4 ⟨r / 4096, by omega⟩ ⟨r % 4096, by omega⟩ h x))
    (fun x => m ((c : Thread nD τ).loc main_arg2) (ix4 ⟨r / 4096, by omega⟩ ⟨s % 4096, by omega⟩ h x))
    (fun x => m ((c : Thread nD τ).loc main_arg1) (ix4 ⟨r / 4096, by omega⟩ ⟨r % 4096, by omega⟩ h x))
    (fun x => m ((c : Thread nD τ).loc main_arg3) (ix3 ⟨r / 4096, by omega⟩ ⟨s % 4096, by omega⟩ x)) C)
  have hs : ∀ p, (⟨(s : ℕ) / 4096, p⟩ : Fin 4) = ⟨r / 4096, by omega⟩ := fun p => Fin.ext hb
  refine congrArg₂ (HMul.hMul (α := EReal) (β := EReal)) ((q_at m c h r j).trans (by rw [e])) ((k_at m c h s j).trans (by rw [hs]))

end Cert.Proof.AttnHost

end
-- ==== Proof.AttnRef.lean ====
/- The reference's attention read at an index. -/
module

public import proofs.«01_k».proof.Proof.Gen.ReferenceIdeal.Run
public import proofs.«01_k».proof.Proof.AttnMath
public import Idealize.ShloMosaic.Lib.Pointwise

@[expose] public section

set_option maxRecDepth 16384

noncomputable section

namespace Cert.Proof.AttnRef

open Idealize.ShloMosaic Idealize.ShloMosaic.TcCoe Idealize.SL.Sem
open Cert.ReferenceIdeal Cert.ReferenceIdeal.Gen Cert.Proof.AttnMath

variable (m : (ℓ : Loc nD τ sig) → Buf (Elt Ideal) ℓ) (ρ : Dev nD → PrngReg)

/-- The scores, all at once. -/
def scores (qn : FVec Ideal S4x4096x16x128 .f32) (qp : FVec Ideal S4x4096x16x64 .f32) (kn : FVec Ideal S4x4096x16x128 .f32)
    (kp : FVec Ideal S4x4096x64 .f32) : FVec Ideal S4x16x4096x4096 .f32 :=
  mulf (addf (Host.dotGeneral dot_S4x4096x16x128_S4x4096x16x128_S4x16x4096x4096_3_3_1_1_02_02 none qn kn)
      (transpose S4x16x4096x4096 [0, 3, 2, 1] (Host.dotGeneral dot_S4x4096x64_S4x4096x16x64_S4x4096x4096x16_2_3_1_12_0_0 none kp qp)
        transposes_S4x4096x4096x16_S4x16x4096x4096_0_3_2_1))
    (broadcastInDim S4x16x4096x4096 ![] bcast_S_S4x16x4096x4096 (constant S_ .f32 0x3D93CD3A#32))

/-- A row's exponentials: of its scores, less the largest of them. -/
def exps (s : FVec Ideal S4x16x4096x4096 .f32) : FVec Ideal S4x16x4096x4096 .f32 :=
  Host.exp (subf s (broadcastInDim S4x16x4096x4096 ![0, 1, 2, 3] bcast_S4x16x4096x1_S4x16x4096x4096_0_1_2_3
    (broadcastInDim S4x16x4096x1 ![0, 1, 2] bcast_S4x16x4096_S4x16x4096x1_0_1_2
      (maximumf (broadcastInDim S4x16x4096 ![] bcast_S_S4x16x4096 (constant S_ .f32 0xFF800000#32))
        (Host.reduce FloatOps.maximumf s (constant S_ .f32 0xFF800000#32) reducesTo_S4x16x4096x4096_S4x16x4096_d3 h_S_)))))

/-- The weights: a row's exponentials over their sum. -/
def weights (e : FVec Ideal S4x16x4096x4096 .f32) : FVec Ideal S4x16x4096x4096 .f32 :=
  Host.divf e (broadcastInDim S4x16x4096x4096 ![0, 1, 2, 3] bcast_S4x16x4096x1_S4x16x4096x4096_0_1_2_3
    (broadcastInDim S4x16x4096x1 ![0, 1, 2] bcast_S4x16x4096_S4x16x4096x1_0_1_2
      (Host.reduceAdd e (constant S_ .f32 0x00000000#32) reducesTo_S4x16x4096x4096_S4x16x4096_d3 h_S_)))

/-- The weighted values, the heads side by side. -/
def out (v : FVec Ideal S4x4096x16x128 .f32) (w : FVec Ideal S4x16x4096x4096 .f32) : FVec Ideal S16384x2048 .bf16 :=
  truncf .bf16 (shapeCast _ (transpose S4x4096x16x128 [0, 3, 1, 2]
    (Host.dotGeneral dot_S4x4096x16x128_S4x16x4096x4096_S4x16x128x4096_1_3_3_2_02_01 none v w)
    transposes_S4x16x128x4096_S4x4096x16x128_0_3_1_2) shapeCasts_S4x4096x16x128_S16384x2048) bitsLt_bf16_f32

/-- The scores of the first parts. -/
theorem nope_at (qn kn : FVec Ideal S4x4096x16x128 .f32) (b : Fin 4) (h : Fin 16) (q k : Fin 4096) :
    Host.dotGeneral dot_S4x4096x16x128_S4x4096x16x128_S4x16x4096x4096_3_3_1_1_02_02 none qn kn (ix4 b h q k)
      = ∑ x : Fin 128, HMul.hMul (α := EReal) (β := EReal) (qn (ix4 b q h x)) (kn (ix4 b k h x)) := by
  pointwise

/-- The scores of the second parts, the key's shared by the heads. -/
theorem rope_at (kp : FVec Ideal S4x4096x64 .f32) (qp : FVec Ideal S4x4096x16x64 .f32) (b : Fin 4) (h : Fin 16) (q k : Fin 4096) :
    Host.dotGeneral dot_S4x4096x64_S4x4096x16x64_S4x4096x4096x16_2_3_1_12_0_0 none kp qp (ix4 b k q h)
      = ∑ x : Fin 64, HMul.hMul (α := EReal) (β := EReal) (kp (ix3 b k x)) (qp (ix4 b q h x)) := by
  pointwise

theorem scaled_at (x : FVec Ideal S4x4096x4096x16 .f32) (y : FVec Ideal S4x16x4096x4096 .f32) (b : Fin 4) (h : Fin 16)
    (q k : Fin 4096) :
    mulf (addf y (transpose S4x16x4096x4096 [0, 3, 2, 1] x transposes_S4x4096x4096x16_S4x16x4096x4096_0_3_2_1))
        (broadcastInDim S4x16x4096x4096 ![] bcast_S_S4x16x4096x4096 (constant S_ .f32 0x3D93CD3A#32)) (ix4 b h q k)
      = HMul.hMul (α := EReal) (β := EReal)
          (HAdd.hAdd (α := EReal) (β := EReal) (y (ix4 b h q k)) (x (ix4 b k q h))) scale := by
  unfold scale
  pointwise

theorem scores_at' (qn : FVec Ideal S4x4096x16x128 .f32) (qp : FVec Ideal S4x4096x16x64 .f32) (kn : FVec Ideal S4x4096x16x128 .f32)
    (kp : FVec Ideal S4x4096x64 .f32) (b : Fin 4) (h : Fin 16) (q k : Fin 4096) :
    scores qn qp kn kp (ix4 b h q k) = HMul.hMul (α := EReal) (β := EReal)
      (HAdd.hAdd (α := EReal) (β := EReal) (∑ x : Fin 128, HMul.hMul (α := EReal) (β := EReal) (qn (ix4 b q h x)) (kn (ix4 b k h x)) : EReal)
        (∑ x : Fin 64, HMul.hMul (α := EReal) (β := EReal) (kp (ix3 b k x)) (qp (ix4 b q h x)) : EReal)) scale := by
  have e1 := nope_at qn kn b h q k
  have e2 := rope_at kp qp b h q k
  exact (scaled_at _ _ b h q k).trans
    (congrArg (fun x : EReal => x * scale) (congrArg₂ (HAdd.hAdd (α := EReal) (β := EReal)) e1 e2))

theorem score_def (qn : FVec Ideal S4x4096x16x128 .f32) (qp : FVec Ideal S4x4096x16x64 .f32) (kn : FVec Ideal S4x4096x16x128 .f32)
    (kp : FVec Ideal S4x4096x64 .f32) (b : Fin 4) (h : Fin 16) (q k : Fin 4096) :
    HMul.hMul (α := EReal) (β := EReal)
      (HAdd.hAdd (α := EReal) (β := EReal) (∑ x : Fin 128, HMul.hMul (α := EReal) (β := EReal) (qn (ix4 b q h x)) (kn (ix4 b k h x)) : EReal)
        (∑ x : Fin 64, HMul.hMul (α := EReal) (β := EReal) (kp (ix3 b k x)) (qp (ix4 b q h x)) : EReal)) scale = score qn qp kn kp b h q k := rfl

theorem scores_at (qn : FVec Ideal S4x4096x16x128 .f32) (qp : FVec Ideal S4x4096x16x64 .f32) (kn : FVec Ideal S4x4096x16x128 .f32)
    (kp : FVec Ideal S4x4096x64 .f32) (b : Fin 4) (h : Fin 16) (q k : Fin 4096) :
    scores qn qp kn kp (ix4 b h q k) = score qn qp kn kp b h q k :=
  (scores_at' qn qp kn kp b h q k).trans (score_def qn qp kn kp b h q k)

/-- A row's largest score. -/
theorem rowmax_at (s : FVec Ideal S4x16x4096x4096 .f32) (b : Fin 4) (h : Fin 16) (q : Fin 4096) :
    Host.reduce FloatOps.maximumf s (constant (F := Ideal) S_ .f32 0xFF800000#32) reducesTo_S4x16x4096x4096_S4x16x4096_d3 h_S_
        (ix3 b h q)
      = Finset.univ.fold max (Ideal.ofBits FTy.f32 0xFF800000#32) fun k' => (s (ix4 b h q k') : EReal) := by
  pointwise

theorem less_at (y : FVec Ideal S4x16x4096 .f32) (s : FVec Ideal S4x16x4096x4096 .f32) (b : Fin 4) (h : Fin 16) (q k : Fin 4096) :
    subf s (broadcastInDim S4x16x4096x4096 ![0, 1, 2, 3] bcast_S4x16x4096x1_S4x16x4096x4096_0_1_2_3
        (broadcastInDim S4x16x4096x1 ![0, 1, 2] bcast_S4x16x4096_S4x16x4096x1_0_1_2
          (maximumf (broadcastInDim S4x16x4096 ![] bcast_S_S4x16x4096 (constant S_ .f32 0xFF800000#32)) y))) (ix4 b h q k)
      = HSub.hSub (α := EReal) (β := EReal) (s (ix4 b h q k)) (max (Ideal.ofBits FTy.f32 0xFF800000#32) (y (ix3 b h q))) := by
  pointwise

theorem max_bot (x : EReal) : max (Ideal.ofBits FTy.f32 0xFF800000#32) x = x := by
  have e : Ideal.ofBits FTy.f32 0xFF800000#32 = ⊥ := by simp [Ideal.ofBits, Ideal.ieee]
  rw [e]
  exact max_eq_right bot_le

theorem exps_at (s : FVec Ideal S4x16x4096x4096 .f32) (b : Fin 4) (h : Fin 16) (q k : Fin 4096) :
    exps s (ix4 b h q k) = Ideal.exp (HSub.hSub (α := EReal) (β := EReal) (s (ix4 b h q k))
      (Finset.univ.fold max ⊥ fun k' => (s (ix4 b h q k') : EReal))) := by
  have e : Ideal.ofBits FTy.f32 0xFF800000#32 = ⊥ := by simp [Ideal.ofBits, Ideal.ieee]
  have e1 := rowmax_at s b h q
  rw [e] at e1
  exact congrArg Ideal.exp ((less_at _ s b h q k).trans
    (congrArg (HSub.hSub (α := EReal) (β := EReal) (s (ix4 b h q k))) ((max_bot _).trans e1)))

theorem weights_at (e : FVec Ideal S4x16x4096x4096 .f32) (b : Fin 4) (h : Fin 16) (q k : Fin 4096) :
    weights e (ix4 b h q k) = Ideal.div (e (ix4 b h q k)) (∑ k', e (ix4 b h q k') : EReal) := by
  unfold weights
  pointwise

theorem out_at (v : FVec Ideal S4x4096x16x128 .f32) (w : FVec Ideal S4x16x4096x4096 .f32) (r : Fin 16384) (d : Fin 2048) :
    out v w (ix2 r d) = ∑ k : Fin 4096, HMul.hMul (α := EReal) (β := EReal)
      (v (ix4 ⟨r / 4096, by omega⟩ k ⟨d / 128, by omega⟩ ⟨d % 128, by omega⟩))
      (w (ix4 ⟨r / 4096, by omega⟩ ⟨d / 128, by omega⟩ ⟨r % 4096, by omega⟩ k)) := by
  unfold out
  pointwise

theorem all_at (qn qp kn kp v) (r : Fin 16384) (d : Fin 2048) :
    out v (weights (exps (scores qn qp kn kp))) (ix2 r d) = attention qn qp kn kp v r d := by
  rw [out_at]
  simp only [weights_at, exps_at, scores_at]
  rfl

theorem run : θ_run defs (onTc (τ := τ) (main (F := Ideal))) ⟨m, fun _ => 0, ρ⟩ fun r => ∀ c : Dev nD,
      r.2.mem ((c.tc : Thread nD τ).loc main_v20) = (fun i => attention (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4)) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨?_, (h c).2⟩) (Cert.ReferenceIdeal.Value.run (F := Ideal) m ρ)
  refine (h c).1.trans ?_
  change out (m ((c.tc : Thread nD τ).loc main_arg4)) (weights (exps (scores (m ((c.tc : Thread nD τ).loc main_arg0))
    (m ((c.tc : Thread nD τ).loc main_arg1)) (m ((c.tc : Thread nD τ).loc main_arg2)) (m ((c.tc : Thread nD τ).loc main_arg3))))) = _
  funext i
  obtain ⟨r, d, rfl⟩ : ∃ (r : Fin 16384) (d : Fin 2048), i = ix2 r d := ⟨i 0, i 1, by idx_vars i⟩
  exact all_at _ _ _ _ _ r d

end Cert.Proof.AttnRef

end
-- ==== Proof.AttnClaim.lean ====
/- The attention claim: where queries and keys are finite numbers the kernel's run ends at the attention of its arguments. -/
module

public import proofs.«01_k».proof.Proof.AttnValue
public import proofs.«01_k».proof.Proof.AttnHost
public import proofs.«01_k».proof.Proof.AttnRef
public import proofs.«01_k».proof.Defs

@[expose] public section

set_option maxRecDepth 16384

noncomputable section

namespace Cert.Proof.AttnClaim

open Idealize.ShloMosaic Idealize.ShloMosaic.TcCoe Idealize.SL.Sem
open Cert.KernelIdeal Cert.KernelIdeal.Gen Cert.Proof.AttnMath Cert.Proof.AttnValue Cert.Proof.AttnHost

variable (m : (ℓ : Loc nD τ sig) → Buf (Elt Ideal) ℓ)

/-- The precondition's shape facts. -/
theorem preFacts : Cert.Pre_finite.Facts := ⟨by decide, by decide, by decide⟩

/-- An entry below the word of infinity in absolute value is a real number. -/
theorem real_of_cmp {s : Shape} (x : FVec Ideal s .f32) (h : (⟨0, ![]⟩ : Shape).BroadcastsInDim s (![] : Fin 0 → Fin s.rank))
    (e : cmpf .olt (Host.absf x) (broadcastInDim s ![] h (constant ⟨0, ![]⟩ .f32 0x7F800000#32)) = fun _ => 1#1) (i : s.Idx) :
    IsReal (x i) := by
  have e1 := congrFun e i
  have top : Ideal.ofBits FTy.f32 0x7F800000#32 = ⊤ := by simp [Ideal.ofBits, Ideal.ieee]
  refine exists_coe_of_abs_lt ?_
  pointwise at e1
  rw [top] at e1
  have e2 : max (x i) (-x i : EReal) < ⊤ := by
    by_contra hn
    exact absurd (e1.symm.trans (congrArg BitVec.ofBool (decide_eq_false hn))) (by decide)
  exact e2

/-- The kernel's result under the precondition. -/
theorem packed_eq (c : Dev nD) (hqn : ∀ i, IsReal (m ((c : Thread nD τ).loc main_arg0) i))
    (hqp : ∀ i, IsReal (m ((c : Thread nD τ).loc main_arg1) i)) (hkn : ∀ i, IsReal (m ((c : Thread nD τ).loc main_arg2) i))
    (hkp : ∀ i, IsReal (m ((c : Thread nD τ).loc main_arg3) i)) (r : Fin 16384) (d : Fin 2048) :
    packed (V m c main_v7) (V m c main_v14) (V m c main_v19) (ix2 r d)
      = attention (m ((c : Thread nD τ).loc main_arg0)) (m ((c : Thread nD τ).loc main_arg1))
          (m ((c : Thread nD τ).loc main_arg2)) (m ((c : Thread nD τ).loc main_arg3)) (m ((c : Thread nD τ).loc main_arg4)) r d := by
  have hr := r.isLt
  have hd := d.isLt
  rw [packed_of _ _ _ _ ⟨d / 128, by omega⟩ ⟨r / 4096, by omega⟩ r ⟨d % 128, by omega⟩ rfl rfl
    (show (d : ℕ) = d / 128 * 128 + d % 128 by omega)]
  unfold cell attention
  have hs : ∀ n : Fin 4096, (∑ j : Fin 256, HMul.hMul (α := EReal) (β := EReal) (V m c main_v7 (ix3 ⟨d / 128, by omega⟩ r j))
        (V m c main_v14 (ix3 ⟨d / 128, by omega⟩ ⟨(r : ℕ) / 4096 * 4096 + n, by omega⟩ j)))
      = score (m ((c : Thread nD τ).loc main_arg0)) (m ((c : Thread nD τ).loc main_arg1))
          (m ((c : Thread nD τ).loc main_arg2)) (m ((c : Thread nD τ).loc main_arg3))
          ⟨r / 4096, by omega⟩ ⟨d / 128, by omega⟩ ⟨r % 4096, by omega⟩ n := fun n => by
    rw [score_eq m c _ r _ (by dsimp only; omega)]
    congr 1
    apply Fin.ext
    dsimp only
    omega
  have hv : ∀ n : Fin 4096, V m c main_v19 (ix3 ⟨d / 128, by omega⟩ ⟨(r : ℕ) / 4096 * 4096 + n, by omega⟩ ⟨d % 128, by omega⟩)
      = m ((c : Thread nD τ).loc main_arg4) (ix4 ⟨r / 4096, by omega⟩ n ⟨d / 128, by omega⟩ ⟨d % 128, by omega⟩) := fun n => by
    rw [v_at, dif_pos (by dsimp only; omega)]
    congr 2 <;> apply Fin.ext <;> dsimp only <;> omega
  have ho : ∀ n : Fin 4096, V m c main_v19 (ix3 ⟨d / 128, by omega⟩ ⟨(r : ℕ) / 4096 * 4096 + n, by omega⟩
      ⟨128 + d % 128, by omega⟩) = (1 : EReal) := fun n => by
    rw [v_at, dif_neg (by dsimp only; omega)]
  refine Eq.trans ?_ (row_eq _ _ fun k => score_real _ _ _ _ hqn hqp hkn hkp _ _ _ k)
  exact congr (congr (congrArg row (funext hs)) (funext hv)) (funext ho)

/-- The claim: both programs run, and end at the attention of their arguments. -/
theorem algebraic : Cert.algebraic_KernelIdeal_ReferenceIdeal_pre_finite (hKernelIdeal := Cert.KernelIdeal.Gen.facts)
    (hReferenceIdeal := Cert.ReferenceIdeal.Gen.facts) (hPre_finite := preFacts) := fun m ρ m' ρ' hpre hag => by
  refine ⟨fun c i => attention (m ((c : Thread nD τ).loc main_arg0)) (m ((c : Thread nD τ).loc main_arg1))
      (m ((c : Thread nD τ).loc main_arg2)) (m ((c : Thread nD τ).loc main_arg3)) (m ((c : Thread nD τ).loc main_arg4))
      (i 0) (i 1), ?_, ?_⟩
  · refine (θ_run defs _ _).mono (fun r h c => ⟨(h c).1.trans ?_, (h c).2⟩) (Cert.KernelIdeal.Value.run_blocks (F := Ideal) m ρ)
    rw [arr_eq]
    have h0 := real_of_cmp _ _ (hpre c).1
    have h1 := real_of_cmp _ _ (hpre c).2.1
    have h2 := real_of_cmp _ _ (hpre c).2.2.1
    have h3 := real_of_cmp _ _ (hpre c).2.2.2
    funext i
    obtain ⟨r, d, rfl⟩ : ∃ (r : Fin 16384) (d : Fin 2048), i = ix2 r d := ⟨i 0, i 1, by idx_vars i⟩
    exact packed_eq m c h0 h1 h2 h3 r d
  · refine (θ_run _ _ _).mono (fun r h c => ⟨(h c).1.trans ?_, (h c).2⟩) (Cert.Proof.AttnRef.run m' ρ')
    obtain ⟨e0, e1, e2, e3, e4⟩ := hag c
    rw [e0, e1, e2, e3, e4]
    rfl

end Cert.Proof.AttnClaim

end
-- ==== Proof.LayerMath.lean ====
/- What the layer's matrix products share: a product read at an index, tokens laid end to end, and a residual product
   over whole arrays read off its blocks or off a batched product. -/
module

public import Idealize.ShloMosaic.PureOps.Ideal
public import Idealize.ShloMosaic.PureOps.Ideal.Laws
public import Idealize.ShloMosaic.Lib.Pointwise
public import Idealize.ShloMosaic.Lib.Pipeline.Value
public import Idealize.ShloMosaic.Lib.Pipeline.ValueKit
public import Idealize.ShloMosaic.Lib.Pipeline.Covers

@[expose] public section

noncomputable section

namespace Cert.Proof.LayerMath

open Idealize.ShloMosaic

/-- A matrix product at row `r` and column `n`. -/
def prodAt {M K N : ℕ} (a : (⟨2, ![M, K]⟩ : Shape).Idx → EReal) (w : (⟨2, ![K, N]⟩ : Shape).Idx → EReal)
    (r : Fin M) (n : Fin N) : EReal := ∑ k : Fin K, a (ix2 r k) * w (ix2 k n)

/-- A product of blocks is the product at the place the blocks come from. -/
theorem prodAt_congr {M K N M' N' : ℕ} {a : (⟨2, ![M, K]⟩ : Shape).Idx → EReal} {w : (⟨2, ![K, N]⟩ : Shape).Idx → EReal}
    {a' : (⟨2, ![M', K]⟩ : Shape).Idx → EReal} {w' : (⟨2, ![K, N']⟩ : Shape).Idx → EReal} {r : Fin M} {n : Fin N}
    {r' : Fin M'} {n' : Fin N'} (ha : ∀ k, a (ix2 r k) = a' (ix2 r' k)) (hw : ∀ k, w (ix2 k n) = w' (ix2 k n')) :
    prodAt a w r n = prodAt a' w' r' n' :=
  Finset.sum_congr rfl fun k _ => congrArg₂ _ (ha k) (hw k)

/-- An index of known row and column. -/
theorem idx_eq {M N : ℕ} (i : (⟨2, ![M, N]⟩ : Shape).Idx) (r : Fin M) (n : Fin N) (h0 : (i 0 : ℕ) = r) (h1 : (i 1 : ℕ) = n) :
    i = ix2 r n := by
  funext a
  match a with
  | ⟨0, _⟩ => exact Fin.ext h0
  | ⟨1, _⟩ => exact Fin.ext h1

/-- The batch's tokens end to end: row `r` is position `r % 4096` of sequence `r / 4096`. -/
def rows {K : ℕ} (x : (⟨3, ![4, 4096, K]⟩ : Shape).Idx → EReal) : (⟨2, ![16384, K]⟩ : Shape).Idx → EReal :=
  fun i => x (ix3 ⟨(i 0 : ℕ) / 4096, by have : (i 0 : ℕ) < 16384 := (i 0).isLt; omega⟩ ⟨(i 0 : ℕ) % 4096, by omega⟩ (i 1))

/-- Reshaping a batch of sequences to rows lays its tokens end to end. -/
theorem rows_cast {K : ℕ} (x : (⟨3, ![4, 4096, K]⟩ : Shape).Idx → EReal)
    (h : (⟨3, ![4, 4096, K]⟩ : Shape).ShapeCasts ⟨2, ![16384, K]⟩) : shapeCast ⟨2, ![16384, K]⟩ x h = rows x := by
  funext i
  refine shapeCast_apply x h i _ ?_
  rw [Shape.rowMajor_val_succ, Shape.rowMajor_val_succ, Shape.rowMajor_val_one, Shape.rowMajor_val_succ, Shape.rowMajor_val_one]
  simp [Shape.numel, Fin.prod_univ_succ]
  rw [← Nat.add_assoc, ← Nat.mul_assoc, ← Nat.add_mul, Nat.div_add_mod']

/-- A batched product with one weight matrix, its tokens end to end, is the product of the rows. -/
theorem rows_dot {K N : ℕ} (a : (⟨3, ![4, 4096, K]⟩ : Shape).Idx → EReal) (w : (⟨2, ![K, N]⟩ : Shape).Idx → EReal)
    (y : (⟨3, ![4, 4096, N]⟩ : Shape).Idx → EReal)
    (hy : ∀ b t n, y (ix3 b t n) = ∑ k : Fin K, a (ix3 b t k) * w (ix2 k n)) (i : (⟨2, ![16384, N]⟩ : Shape).Idx) :
    rows y i = prodAt (rows a) w (i 0) (i 1) := hy _ _ _

/-- A product with a residual, at an index. -/
def resid {M K N : ℕ} (a : (⟨2, ![M, K]⟩ : Shape).Idx → EReal) (w : (⟨2, ![K, N]⟩ : Shape).Idx → EReal)
    (x : (⟨2, ![M, N]⟩ : Shape).Idx → EReal) : (⟨2, ![M, N]⟩ : Shape).Idx → EReal :=
  fun i => prodAt a w (i 0) (i 1) + x i

/-- The residual product of three blocks is the residual product at the place the blocks come from. -/
theorem resid_block {M K N M' N' : ℕ} {a : (⟨2, ![M, K]⟩ : Shape).Idx → EReal} {w : (⟨2, ![K, N]⟩ : Shape).Idx → EReal}
    {x : (⟨2, ![M, N]⟩ : Shape).Idx → EReal} {a' : (⟨2, ![M', K]⟩ : Shape).Idx → EReal}
    {w' : (⟨2, ![K, N']⟩ : Shape).Idx → EReal} {x' : (⟨2, ![M', N']⟩ : Shape).Idx → EReal} {r' : Fin M'} {n' : Fin N'}
    {r : Fin M} {n : Fin N} {i : (⟨2, ![M, N]⟩ : Shape).Idx} (h0 : (i 0 : ℕ) = r) (h1 : (i 1 : ℕ) = n)
    (ha : ∀ k, a' (ix2 r' k) = a (ix2 r k)) (hw : ∀ k, w' (ix2 k n') = w (ix2 k n)) (hx : x' (ix2 r' n') = x (ix2 r n)) :
    prodAt a' w' r' n' + x' (ix2 r' n') = resid a w x i := by
  rw [idx_eq i r n h0 h1]
  exact congrArg₂ _ (prodAt_congr ha hw) hx

/-- `x` plus a batched product, reshaped to rows, is the residual product of the rows. -/
theorem resid_ref {K N : ℕ} (x : (⟨3, ![4, 4096, N]⟩ : Shape).Idx → EReal) (a : (⟨3, ![4, 4096, K]⟩ : Shape).Idx → EReal)
    (w : (⟨2, ![K, N]⟩ : Shape).Idx → EReal) (y : (⟨3, ![4, 4096, N]⟩ : Shape).Idx → EReal)
    (h : (⟨3, ![4, 4096, N]⟩ : Shape).ShapeCasts ⟨2, ![16384, N]⟩)
    (hy : ∀ b t n, y (ix3 b t n) = ∑ k : Fin K, a (ix3 b t k) * w (ix2 k n)) :
    shapeCast ⟨2, ![16384, N]⟩ (fun j => x j + y j) h = resid (rows a) w (rows x) := by
  rw [rows_cast]
  exact funext fun i => (add_comm _ _).trans (congrArg (· + rows x i) (rows_dot a w y hy i))

end Cert.Proof.LayerMath

end
-- ==== Proof.Down.lean ====
/- The feed-forward block's down projection with its residual: both programs end at `x + act @ weight`, tokens end to
   end. -/
module

public import proofs.«01_k».proof.Proof.Gen.Kernel3Ideal.Value
public import proofs.«01_k».proof.Proof.Gen.Reference3Ideal.Run
public import proofs.«01_k».proof.Proof.LayerMath
public import proofs.«01_k».proof.Defs

@[expose] public section

set_option maxRecDepth 16384

noncomputable section

namespace Cert.Proof.Down

open Idealize.ShloMosaic Idealize.ShloMosaic.TcCoe Idealize.SL.Sem
open Cert.Kernel3Ideal Cert.Kernel3Ideal.Gen Cert.Proof.LayerMath

variable (m : (ℓ : Loc nD τ sig) → Buf (Elt Ideal) ℓ)

/-- The host arrays the launch is given are the arguments. -/
theorem act_eq (c : Dev nD) : (V m c main_v1 : S16384x11008.Idx → EReal) = rows (m ((c : Thread nD τ).loc main_arg1)) := by
  entry_read
  exact rows_cast _ _

theorem weight_eq (c : Dev nD) : (V m c main_v2 : S11008x4096.Idx → EReal) = m ((c : Thread nD τ).loc main_arg2) := by
  entry_read
  rfl

theorem res_eq (c : Dev nD) : (V m c main_v3 : S16384x4096.Idx → EReal) = rows (m ((c : Thread nD τ).loc main_arg0)) := by
  entry_read
  exact rows_cast _ _

/-- The body's output block at an index, from its three input blocks. -/
theorem out_apply (a : Vec Ideal S512x11008 .bf16) (w : Vec Ideal S11008x512 .bf16) (x : Vec Ideal S512x512 .f32)
    (r : Fin 512) (n : Fin 512) : out0_3 a w x (ix2 r n) = (prodAt a w r n + x (ix2 r n) : EReal) := by
  unfold out0_3 prodAt
  rw [View.canon_unit_zero (by decide)]
  pointwise [k0_pay1]

/-- The block each window holds at a grid point (row block, column block). -/
theorem index_a : ∀ t : Fin grid0.N, win0_0.index t = ![(grid0.coords t 0).val, 0] := by decide +kernel
theorem index_w : ∀ t : Fin grid0.N, win0_1.index t = ![0, (grid0.coords t 1).val] := by decide +kernel
theorem index_x : ∀ t : Fin grid0.N, win0_2.index t = ![(grid0.coords t 0).val, (grid0.coords t 1).val] := by decide +kernel
theorem index_o : ∀ t : Fin grid0.N, win0_3.index t = ![(grid0.coords t 0).val, (grid0.coords t 1).val] := by decide +kernel

/-- Every block of the result is written back by some grid point. -/
theorem covers : (cfg0.win 3).Covers := by decide +kernel

/-- The row and the column of the result that a place of a point's block is. -/
def row (t : Fin grid0.N) (r : Fin 512) : Fin 16384 :=
  ⟨(grid0.coords t 0).val * 512 + r, by have : (grid0.coords t 0).val < 32 := (grid0.coords t 0).isLt; omega⟩
def col (t : Fin grid0.N) (n : Fin 512) : Fin 4096 :=
  ⟨(grid0.coords t 1).val * 512 + n, by have : (grid0.coords t 1).val < 8 := (grid0.coords t 1).isLt; omega⟩

/-- The blocks read at an index are the host arrays at their place. -/
theorem read_a (c : Dev nD) (t : Fin grid0.N) (r : Fin 512) (k : Fin 11008) :
    (iblk m c 0 t : Vec Ideal S512x11008 .bf16) (ix2 r k) = V m c main_v1 (ix2 (row t r) k) := by
  blk_ext [iblk, index_a t, row]

theorem read_w (c : Dev nD) (t : Fin grid0.N) (k : Fin 11008) (n : Fin 512) :
    (iblk m c 1 t : Vec Ideal S11008x512 .bf16) (ix2 k n) = V m c main_v2 (ix2 k (col t n)) := by
  blk_ext [iblk, index_w t, col]

theorem read_x (c : Dev nD) (t : Fin grid0.N) (r : Fin 512) (n : Fin 512) :
    (iblk m c 2 t : Vec Ideal S512x512 .f32) (ix2 r n) = V m c main_v3 (ix2 (row t r) (col t n)) := by
  blk_ext [iblk, index_x t, row, col]

/-- The result array after the run. -/
theorem arr_eq (c : Dev nD) : (dats m 0 c).arrAt 3 cfg0.N = resid (V m c main_v1) (V m c main_v2) (V m c main_v3) := by
  refine (dats m 0 c).arrAt_eq_of_covers 3 _ covers fun t hf y => ?_
  blk_simp
  rw [after0_3]
  idx_vars y
  rw [out_apply]
  exact resid_block (r := row t y0) (n := col t y1) (by blk_simp [index_o t, row]) (by blk_simp [index_o t, col])
    (read_a m c t y0) (fun k => read_w m c t k y1) (read_x m c t y0 y1)

/-- The reference's batched product at an index. -/
theorem dot_apply (a : FVec Ideal Cert.Reference3Ideal.S4x4096x11008 .f32) (w : FVec Ideal Cert.Reference3Ideal.S11008x4096 .f32)
    (b : Fin 4) (t n : Fin 4096) :
    Host.dotGeneral Cert.Reference3Ideal.dot_S4x4096x11008_S11008x4096_S4x4096x4096_2_0_01_1_n_n none a w (ix3 b t n)
      = (∑ k : Fin 11008, a (ix3 b t k) * w (ix2 k n) : EReal) := by
  pointwise

/-- The claim: both programs run, and end at the same residual product of their arguments. -/
theorem algebraic : Cert.algebraic_Kernel3Ideal_Reference3Ideal (hKernel3Ideal := Cert.Kernel3Ideal.Gen.facts)
    (hReference3Ideal := Cert.Reference3Ideal.Gen.facts) := fun m ρ m' ρ' _ hag => by
  refine ⟨fun c => resid (rows (m ((c : Thread nD τ).loc main_arg1))) (m ((c : Thread nD τ).loc main_arg2))
      (rows (m ((c : Thread nD τ).loc main_arg0))), ?_, ?_⟩
  · refine (θ_run defs _ _).mono (fun r h c => ⟨(h c).1.trans ((arr_eq m c).trans ?_), (h c).2⟩)
      (Cert.Kernel3Ideal.Value.run_blocks (F := Ideal) m ρ)
    rw [act_eq, weight_eq, res_eq]
  · refine (θ_run _ _ _).mono (fun r h c => ⟨(h c).1.trans ?_, (h c).2⟩) (Cert.Reference3Ideal.Value.run (F := Ideal) m' ρ')
    obtain ⟨e0, e1, e2⟩ := hag c
    rw [e0, e1, e2]
    exact resid_ref _ _ _ _ _ (dot_apply _ _)

end Cert.Proof.Down

end
-- ==== Proof.FfnTile.lean ====
/- What one grid point of the up projection leaves, as functions of its input blocks: the row block with its neighbouring
   rows, which the first column block of a row block stores and the later ones find, and the tile of the result. -/
module

public import proofs.«01_k».proof.Proof.Gen.Kernel2Ideal.Value
public import proofs.«01_k».proof.Proof.LayerMath

@[expose] public section

set_option maxRecDepth 16384

noncomputable section

namespace Cert.Proof.Ffn

open Idealize.ShloMosaic Idealize.ShloMosaic.TcCoe Idealize.ShloMosaic.Tactic Idealize.SL.Sem
open Cert.Kernel2Ideal Cert.Kernel2Ideal.Gen Cert.Proof.LayerMath

/-- The stored rows: the rows before the block (or zeros), the block, the rows after it (or zeros). -/
def fill (i : grid0.Coords) (x0 : Vec Ideal S1024x4096 .bf16) (x1 x2 : Vec Ideal S16x4096 .bf16) : Vec Ideal S1056x4096 .bf16 :=
  View.canon [⟨Rect.unit (s := S1056x4096) ![1040, 0] S16x4096.size inb_S1056x4096_S16x4096_1040_0, k0_pay4 i x2⟩,
    ⟨Rect.unit (s := S1056x4096) ![16, 0] S1024x4096.size inb_S1056x4096_S1024x4096_16_0, k0_pay3 x0⟩,
    ⟨Rect.unit (s := S1056x4096) ![0, 0] S16x4096.size inb_S1056x4096_S16x4096_0_0, k0_pay2 i x1⟩]

/-- The tile of the result from the stored rows and the blocks of the weights. -/
def tile (xs : Vec Ideal S1056x4096 .bf16) (wg wv : Vec Ideal S4096x256 .bf16) (cw : Vec Ideal S3x256 .f32)
    (cb : Vec Ideal S1x256 .f32) : Vec Ideal S1024x256 .bf16 :=
  k0_pay1 (k0_pay5 (View.ld xs (Rect.unit (s := S1056x4096) ![16, 0] S1024x4096.size inb_S1056x4096_S1024x4096_16_0)) wv)
    (k0_pay6 xs wg (View.ld cw (Rect.unit (s := S3x256) ![0, 0] S1x256.size inb_S3x256_S1x256_0_0))
      (View.ld cw (Rect.unit (s := S3x256) ![1, 0] S1x256.size inb_S3x256_S1x256_1_0))
      (View.ld cw (Rect.unit (s := S3x256) ![2, 0] S1x256.size inb_S3x256_S1x256_2_0)) cb)
    (k0_pay7 xs wg (View.ld cw (Rect.unit (s := S3x256) ![0, 0] S1x256.size inb_S3x256_S1x256_0_0))
      (View.ld cw (Rect.unit (s := S3x256) ![1, 0] S1x256.size inb_S3x256_S1x256_1_0))
      (View.ld cw (Rect.unit (s := S3x256) ![2, 0] S1x256.size inb_S3x256_S1x256_2_0)) cb)

variable (c : Dev nD) (i : grid0.Coords) (a2 : Memref sig .tc .vmem S1024x4096 .bf16) (h2 : a2.IsWhole)
  (a3 : Memref sig .tc .vmem S16x4096 .bf16) (h3 : a3.IsWhole) (a4 : Memref sig .tc .vmem S16x4096 .bf16) (h4 : a4.IsWhole)
  (a5 : Memref sig .tc .vmem S4096x256 .bf16) (h5 : a5.IsWhole) (a6 : Memref sig .tc .vmem S4096x256 .bf16) (h6 : a6.IsWhole)
  (a7 : Memref sig .tc .vmem S3x256 .f32) (h7 : a7.IsWhole) (a8 : Memref sig .tc .vmem S1x256 .f32) (h8 : a8.IsWhole)
  (a9 : Memref sig .tc .vmem S1024x256 .bf16) (h9 : a9.IsWhole) (a10 : Memref sig .tc .vmem S1056x4096 .bf16) (h10 : a10.IsWhole)
  (x0 : Vec Ideal S1024x4096 .bf16) (x1 x2 : Vec Ideal S16x4096 .bf16) (x3 x4 : Vec Ideal S4096x256 .bf16)
  (x5 : Vec Ideal S3x256 .f32) (x6 : Vec Ideal S1x256 .f32) (xs : Vec Ideal S1056x4096 .bf16)

/-- A later column block leaves the tile of the rows it finds. -/
theorem out_B (hc : ¬cond0_0 i) : out0_B_7 c i a2 h2 a3 h3 a4 h4 a5 h5 a6 h6 a7 h7 a8 h8 a9 h9 a10 h10 hc x0 x1 x2 x3 x4 x5 x6 xs
    = tile xs x3 x4 x5 x6 := by
  unfold out0_B_7
  rw [View.read_writes_junk_eq_canon]
  unfold kernelRun0_B
  dsimp only
  sl_unfold_words
  rw [View.canon_unit_zero (by decide)]
  simp only [View.readAt_eq_ld, h2.read_unread, h3.read_unread, h4.read_unread, h5.read_unread, h6.read_unread,
    h7.read_unread, h8.read_unread, h10.read_unread]
  unfold tile
  rw [View.ld_unit_zero (S := S1056x4096) (by decide), View.ld_unit_zero (S := S4096x256) (by decide), View.ld_unit_zero (S := S4096x256) (by decide),
    View.ld_unit_zero (S := S1x256) (by decide)]

/-- The first column block stores the rows. -/
theorem sout_A (hc : cond0_0 i) : sout0_A_0 c i a2 h2 a3 h3 a4 h4 a5 h5 a6 h6 a7 h7 a8 h8 a9 h9 a10 h10 hc x0 x1 x2 x3 x4 x5 x6
    = fill i x0 x1 x2 := by
  unfold sout0_A_0
  rw [View.read_writes_junk_eq_canon]
  unfold kernelRun0_A
  dsimp only
  sl_unfold_words
  simp only [View.readAt_eq_ld, h2.read_unread, h3.read_unread, h4.read_unread, h5.read_unread, h6.read_unread,
    h7.read_unread, h8.read_unread]
  unfold fill
  rw [View.ld_unit_zero (S := S16x4096) (by decide), View.ld_unit_zero (S := S16x4096) (by decide), View.ld_unit_zero (S := S1024x4096) (by decide)]

/-- The first column block leaves the tile of the rows it has stored. -/
theorem out_A (hc : cond0_0 i) : out0_A_7 c i a2 h2 a3 h3 a4 h4 a5 h5 a6 h6 a7 h7 a8 h8 a9 h9 a10 h10 hc x0 x1 x2 x3 x4 x5 x6
    = tile (fill i x0 x1 x2) x3 x4 x5 x6 := by
  unfold out0_A_7
  rw [View.read_writes_junk_eq_canon]
  unfold kernelRun0_A
  dsimp only
  sl_unfold_words
  rw [View.canon_unit_zero (by decide)]
  simp only [View.readAt_eq_ld, h2.read_unread, h3.read_unread, h4.read_unread, h5.read_unread, h6.read_unread,
    h7.read_unread, h8.read_unread, View.readCov_eq_canon']
  rw [View.ld_unit_zero (S := S4096x256) (by decide), View.ld_unit_zero (S := S4096x256) (by decide),
    View.ld_unit_zero (S := S1x256) (by decide), View.ld_unit_zero (S := S16x4096) (by decide),
    View.ld_unit_zero (S := S16x4096) (by decide), View.ld_unit_zero (S := S1024x4096) (by decide)]
  have e : ∀ x : Vec Ideal S1056x4096 .bf16, (fun j => x ((Rect.unit (s := S1056x4096) ![0, 0] S1056x4096.size
      inb_S1056x4096_S1056x4096_0_0).toLoadRect.idx j)) = x := fun x => View.ld_unit_zero (S := S1056x4096) (by decide) _ x
  erw [e]
  rfl

end Cert.Proof.Ffn

end
-- ==== Proof.FfnRows.lean ====
/- The rows that a row block's column blocks share: after every grid point the scratch holds the row block with the row
   before and the row after it, zero beyond the ends of the sequence. -/
module

public import proofs.«01_k».proof.Proof.FfnTile

@[expose] public section

set_option maxRecDepth 16384

noncomputable section

namespace Cert.Proof.Ffn

open Idealize.ShloMosaic Idealize.ShloMosaic.TcCoe Idealize.ShloMosaic.Tactic Idealize.SL.Sem
open Cert.Kernel2Ideal Cert.Kernel2Ideal.Gen Cert.Proof.LayerMath

/-- Row block `i` of 1024 rows with 16 rows on either side, zero where those belong to another sequence. -/
def ext (A : S16384x4096.Idx → EReal) (i : Fin 16) : S1056x4096.Idx → EReal := fun j =>
  if h : 4096 * (i.val / 4) + 16 ≤ 1024 * i.val + (j 0).val ∧ 1024 * i.val + (j 0).val < 4096 * (i.val / 4 + 1) + 16 then
    A (ix2 ⟨1024 * i.val + (j 0).val - 16, by omega⟩ (j 1))
  else 0

/-- The block's place in its sequence, as the body computes it. -/
theorem place_word : ∀ a : Fin 16,
    (Scalar.select (Scalar.andi (Scalar.xori (Scalar.cmpi .slt (Scalar.remsi (BitVec.ofNat 32 a.val)
      (Scalar.select (Scalar.cmpi .eq 4#32 0#32) 1#32 4#32)) 0#32)
      (Scalar.cmpi .slt (Scalar.select (Scalar.cmpi .eq 4#32 0#32) 1#32 4#32) 0#32))
      (Scalar.cmpi .ne (Scalar.remsi (BitVec.ofNat 32 a.val) (Scalar.select (Scalar.cmpi .eq 4#32 0#32) 1#32 4#32)) 0#32))
      (Scalar.addi (Scalar.remsi (BitVec.ofNat 32 a.val) (Scalar.select (Scalar.cmpi .eq 4#32 0#32) 1#32 4#32))
        (Scalar.select (Scalar.cmpi .eq 4#32 0#32) 1#32 4#32))
      (Scalar.remsi (BitVec.ofNat 32 a.val) (Scalar.select (Scalar.cmpi .eq 4#32 0#32) 1#32 4#32)))
      = BitVec.ofNat 32 (a.val % 4) := by
  decide +kernel

/-- The body's test of that place. -/
theorem place_test : ∀ (a : Fin 16) (b : Fin 4),
    Scalar.cmpi .eq (BitVec.ofNat 32 (a.val % 4)) (BitVec.ofNat 32 b.val) = if a.val % 4 = b.val then 1#1 else 0#1 := by
  decide +kernel

/-- The rows before the block, unless the block begins a sequence. -/
theorem before_eq (i : grid0.Coords) (x : Vec Ideal S16x4096 .bf16) (j : S16x4096.Idx) :
    k0_pay2 i x j = if (i 0).val % 4 = 0 then (0 : EReal) else x j := by
  have h := place_word (i 0)
  have h' := place_test (i 0) 0
  unfold k0_pay2
  dsimp only at h ⊢
  rw [h, show (0#32 : BitVec 32) = BitVec.ofNat 32 (0 : Fin 4).val from rfl, h']
  simp only [shapeCast_self]
  split <;> rename_i hc <;> simp at hc <;> simp [Scalar.select, hc, Scalar.ofBits, Ideal.ofBits, Ideal.ieee, broadcast]

/-- The rows after the block, unless the block ends a sequence. -/
theorem after_eq (i : grid0.Coords) (x : Vec Ideal S16x4096 .bf16) (j : S16x4096.Idx) :
    k0_pay4 i x j = if (i 0).val % 4 = 3 then (0 : EReal) else x j := by
  have h := place_word (i 0)
  have h' := place_test (i 0) 3
  unfold k0_pay4
  dsimp only at h ⊢
  rw [h, show (3#32 : BitVec 32) = BitVec.ofNat 32 (3 : Fin 4).val from rfl, h']
  simp only [shapeCast_self]
  split <;> rename_i hc <;> simp at hc <;> simp [Scalar.select, hc, Scalar.ofBits, Ideal.ofBits, Ideal.ieee, broadcast]

/-- The rows of the block. -/
theorem middle_eq (x : Vec Ideal S1024x4096 .bf16) : k0_pay3 x = x := by
  unfold k0_pay3
  simp only [shapeCast_self]

variable (m : (ℓ : Loc nD τ sig) → Buf (Elt Ideal) ℓ)

theorem index_x : ∀ t : Fin grid0.N, win0_0.index t = ![(grid0.coords t 0).val, 0] := by decide +kernel
theorem index_before : ∀ t : Fin grid0.N, win0_1.index t = ![64 * (grid0.coords t 0).val - 1, 0] := by decide +kernel
theorem index_after : ∀ t : Fin grid0.N, win0_2.index t = ![min (64 * (grid0.coords t 0).val + 64) 1023, 0] := by decide +kernel

/-- The three blocks of rows at an index. -/
theorem read_x (c : Dev nD) (t : Fin grid0.N) (r : Fin 1024) (k : Fin 4096) (h : (grid0.coords t 0).val < 16) :
    (iblk m c 0 t : Vec Ideal S1024x4096 .bf16) (ix2 r k)
      = V m c main_v1 (ix2 ⟨(grid0.coords t 0).val * 1024 + r, by omega⟩ k) := by
  blk_ext [iblk, index_x t]

theorem read_before (c : Dev nD) (t : Fin grid0.N) (r : Fin 16) (k : Fin 4096) (h : (grid0.coords t 0).val < 16) :
    (iblk m c 1 t : Vec Ideal S16x4096 .bf16) (ix2 r k)
      = V m c main_v1 (ix2 ⟨(64 * (grid0.coords t 0).val - 1) * 16 + r, by omega⟩ k) := by
  blk_ext [iblk, index_before t]

theorem read_after (c : Dev nD) (t : Fin grid0.N) (r : Fin 16) (k : Fin 4096) :
    (iblk m c 2 t : Vec Ideal S16x4096 .bf16) (ix2 r k)
      = V m c main_v1 (ix2 ⟨min (64 * (grid0.coords t 0).val + 64) 1023 * 16 + r, by omega⟩ k) := by
  blk_ext [iblk, index_after t]

/-- A stored row off the end of a sequence, and one of the sequence. -/
theorem ext_out (A : S16384x4096.Idx → EReal) (i : Fin 16) (e : Fin 1056) (k : Fin 4096)
    (h : ¬(4096 * (i.val / 4) + 16 ≤ 1024 * i.val + e ∧ 1024 * i.val + e < 4096 * (i.val / 4 + 1) + 16)) :
    ext A i (ix2 e k) = 0 := dif_neg h

theorem ext_in (A : S16384x4096.Idx → EReal) (i : Fin 16) (e : Fin 1056) (k : Fin 4096) (R : Fin 16384)
    (h : 4096 * (i.val / 4) + 16 ≤ 1024 * i.val + e ∧ 1024 * i.val + e < 4096 * (i.val / 4 + 1) + 16)
    (hR : R.val + 16 = 1024 * i.val + e) : ext A i (ix2 e k) = A (ix2 R k) := by
  refine (dif_pos h).trans (congrArg (fun r => A (ix2 r k)) (Fin.ext ?_))
  show 1024 * i.val + e.val - 16 = R.val
  omega

/-- The stored rows are the row block with its neighbours. -/
theorem fill_eq (c : Dev nD) (t : Fin grid0.N) :
    fill (grid0.coords t) (iblk m c 0 t) (iblk m c 1 t) (iblk m c 2 t) = ext (V m c main_v1) (grid0.coords t 0) := by
  have hi : (grid0.coords t 0).val < 16 := (grid0.coords t 0).isLt
  funext j
  idx_vars j
  unfold fill
  canon_tiles x h using View.cover_of_tiledBy _ ![16, 4096] (by sl_kernel_rfl) _
  · idx_vars x
    obtain rfl : j1 = x1 := Fin.ext h1
    rw [after_eq]
    split
    · exact (ext_out _ _ _ _ (by omega)).symm
    · exact (read_after m c t x0 j1).trans (ext_in _ _ _ _ _ (by omega) (by dsimp only; omega)).symm
  · idx_vars x
    obtain rfl : j1 = x1 := Fin.ext h1
    rw [middle_eq]
    exact (read_x m c t x0 j1 hi).trans (ext_in _ _ _ _ _ (by omega) (by dsimp only; omega)).symm
  · idx_vars x
    obtain rfl : j1 = x1 := Fin.ext h1
    rw [before_eq]
    split
    · exact (ext_out _ _ _ _ (by omega)).symm
    · exact (read_before m c t x0 j1 hi).trans (ext_in _ _ _ _ _ (by omega) (by dsimp only; omega)).symm

/-- The row block of a grid point is the one its number divides to; within a row block it is that of the point before. -/
theorem same_block : ∀ t : Fin grid0.N, ¬t.val % 43 = 0 → ∀ h : t.val - 1 < grid0.N,
    grid0.coords ⟨t.val - 1, h⟩ 0 = grid0.coords t 0 := by decide +kernel

/-- After every grid point the scratch holds the rows of the point's row block. -/
theorem scratch_eq (c : Dev nD) : ∀ (n : ℕ) (hn : n < cfg0.N),
    (outsAt0 m c n hn).2 = ext (V m c main_v1) (grid0.coords ⟨n, hn⟩ 0) := by
  intro n
  induction n with
  | zero =>
    intro hn
    rw [outsAt0_A m c ⟨0, hn⟩ rfl]
    dsimp only
    rw [sout_A]
    exact fill_eq m c ⟨0, hn⟩
  | succ n ih =>
    intro hn
    by_cases h0 : (n + 1) % 43 = 0
    · rw [outsAt0_A m c ⟨n + 1, hn⟩ h0]
      dsimp only
      rw [sout_A]
      exact fill_eq m c ⟨n + 1, hn⟩
    · rw [outsAt0_B m c ⟨n + 1, hn⟩ h0]
      dsimp only
      unfold sout0_B_0
      refine (ih (Nat.lt_of_succ_lt hn)).trans ?_
      exact congrArg (ext (V m c main_v1)) (same_block ⟨n + 1, hn⟩ h0 _)

/-- So every grid point leaves the tile of its row block's rows. -/
theorem out_eq (c : Dev nD) (t : Fin cfg0.N) :
    (outsAt0 m c t.val t.isLt).1
      = tile (ext (V m c main_v1) (grid0.coords t 0)) (iblk m c 3 t) (iblk m c 4 t) (iblk m c 5 t) (iblk m c 6 t) := by
  by_cases h0 : t.val % 43 = 0
  · rw [outsAt0_A m c t h0]
    dsimp only
    rw [out_A, fill_eq]
  · rw [outsAt0_B m c t h0]
    dsimp only
    rw [out_B, scratch_eq, same_block t h0]

end Cert.Proof.Ffn

end
-- ==== Proof.FfnTileAt.lean ====
/- The tile of the up projection at an index. -/
module

public import proofs.«01_k».proof.Proof.FfnTile
public import Idealize.ShloMosaic.Lib.KernelVsHost

@[expose] public section

set_option maxRecDepth 16384

noncomputable section

namespace Cert.Proof.Ffn

open Idealize.ShloMosaic Idealize.ShloMosaic.TcCoe Idealize.SL.Sem
open Cert.Kernel2Ideal Cert.Kernel2Ideal.Gen Cert.Proof.LayerMath

/-- One, as the float word the programs hold. -/
def one : EReal := Ideal.ofBits .f32 0x3F800000#32

/-- The convolution of a column: the weighted sum of a token's gate and its two neighbours', and the bias. -/
def conv (w0 w1 w2 b p g n : EReal) : EReal := w0 * p + w1 * g + w2 * n + b

/-- A gate's activation times the value. -/
def act (z v : EReal) : EReal := z * Ideal.div one (one + Ideal.exp (-z)) * v

/-- The convolution of the stored rows' products. -/
theorem conv_apply (xs : Vec Ideal S1056x4096 .bf16) (wg : Vec Ideal S4096x256 .bf16) (u0 u1 u2 b : Vec Ideal S1x256 .f32)
    (r : Fin 1024) (d : Fin 256) :
    k0_pay6 xs wg u0 u1 u2 b (ix2 r d) = conv (u0 (ix2 0 d)) (u1 (ix2 0 d)) (u2 (ix2 0 d)) (b (ix2 0 d))
      (prodAt xs wg ⟨15 + r, by omega⟩ d) (prodAt xs wg ⟨16 + r, by omega⟩ d) (prodAt xs wg ⟨17 + r, by omega⟩ d) := by
  unfold k0_pay6 conv prodAt
  pointwise
  simp only [show (16 + r.val + 1056 - 1) % 1056 = 15 + r.val by omega, show (16 + r.val + 1056 - 1055) % 1056 = 17 + r.val by omega]

theorem value_apply (x : Vec Ideal S1024x4096 .bf16) (wv : Vec Ideal S4096x256 .bf16) (r : Fin 1024) (d : Fin 256) :
    k0_pay5 x wv (ix2 r d) = prodAt x wv r d := by
  unfold k0_pay5 prodAt
  pointwise

theorem exp_apply (xs : Vec Ideal S1056x4096 .bf16) (wg : Vec Ideal S4096x256 .bf16) (u0 u1 u2 b : Vec Ideal S1x256 .f32)
    (j : S1024x256.Idx) : k0_pay7 xs wg u0 u1 u2 b j = Ideal.exp (-(k0_pay6 xs wg u0 u1 u2 b j)) := by
  rw [← zero_sub]
  unfold k0_pay7
  generalize k0_pay6 xs wg u0 u1 u2 b = z
  idx_vars j
  pointwise

theorem act_apply (v z e : FVec Ideal S1024x256 .f32) (j : S1024x256.Idx) :
    k0_pay1 v z e j = (z j * Ideal.div one (one + e j) * v j : EReal) := by
  unfold one
  idx_vars j
  pointwise [k0_pay1]

/-- A row of the convolution's weights. -/
theorem tap_apply (cw : Vec Ideal S3x256 .f32) (s : ℕ) (i : Fin 3) (hi : i.val = s)
    (h : ∀ a, (![s, 0] : Fin 2 → ℕ) a + S1x256.size a ≤ S3x256.size a) (d : Fin 256) :
    View.ld cw (Rect.unit (s := S3x256) ![s, 0] S1x256.size h) (ix2 (0 : Fin 1) d) = cw (ix2 i d) := by
  subst hi
  exact View.ld_unit_apply_of cw _ _ h (ix2 (0 : Fin 1) d) (ix2 i d) fun a => by fin_cases a <;> simp

/-- The tile at an index. -/
theorem tile_apply (xs : Vec Ideal S1056x4096 .bf16) (wg wv : Vec Ideal S4096x256 .bf16) (cw : Vec Ideal S3x256 .f32)
    (cb : Vec Ideal S1x256 .f32) (r : Fin 1024) (d : Fin 256) :
    tile xs wg wv cw cb (ix2 r d) = act (conv (cw (ix2 0 d)) (cw (ix2 1 d)) (cw (ix2 2 d)) (cb (ix2 0 d))
      (prodAt xs wg ⟨15 + r, by omega⟩ d) (prodAt xs wg ⟨16 + r, by omega⟩ d) (prodAt xs wg ⟨17 + r, by omega⟩ d))
      (prodAt xs wv ⟨16 + r, by omega⟩ d) := by
  unfold tile
  rw [act_apply, exp_apply, conv_apply, value_apply, tap_apply cw 0 0 rfl, tap_apply cw 1 1 rfl, tap_apply cw 2 2 rfl]
  refine congrArg (HMul.hMul (α := EReal) _) (prodAt_congr (fun k => ?_) fun _ => rfl)
  pointwise

end Cert.Proof.Ffn

end
-- ==== Proof.FfnRef.lean ====
/- The reference's up projection at an index: the products with the two halves of the weights, the convolution along the
   tokens of a sequence, the activation. -/
module

public import proofs.«01_k».proof.Proof.Gen.Reference2Ideal.Run
public import proofs.«01_k».proof.Proof.FfnTileAt

@[expose] public section

set_option maxRecDepth 16384

noncomputable section

namespace Cert.Proof.Ffn

open Idealize.ShloMosaic Idealize.ShloMosaic.TcCoe Idealize.SL.Sem
open Cert.Reference2Ideal Cert.Reference2Ideal.Gen Cert.Proof.LayerMath

/-- The columns of the two halves of the weights. -/
def gateCol (n : Fin 11008) : Fin 22016 := ⟨n, by omega⟩
def valueCol (n : Fin 11008) : Fin 22016 := ⟨11008 + n, by omega⟩

/-- The activations, tokens end to end: of row `r` with the rows before and after it in its sequence. -/
def acts (A : (⟨2, ![16384, 4096]⟩ : Shape).Idx → EReal) (W : (⟨2, ![4096, 22016]⟩ : Shape).Idx → EReal)
    (cw : (⟨2, ![3, 11008]⟩ : Shape).Idx → EReal) (cb : (⟨1, ![11008]⟩ : Shape).Idx → EReal) (r : Fin 16384) (n : Fin 11008) : EReal :=
  act (conv (cw (ix2 0 n)) (cw (ix2 1 n)) (cw (ix2 2 n)) (cb (ix1 n))
      (if h : r.val % 4096 = 0 then 0 else prodAt A W ⟨r.val - 1, by omega⟩ (gateCol n)) (prodAt A W r (gateCol n))
      (if h : r.val % 4096 = 4095 then 0 else prodAt A W ⟨r.val + 1, by omega⟩ (gateCol n)))
    (prodAt A W r (valueCol n))

/-- The reference's two halves. -/
def gateHalf (x : FVec Ideal S4x4096x4096 .f32) (w : FVec Ideal S4096x22016 .f32) : FVec Ideal S4x4096x11008 .f32 :=
  extractStridedSlice S4x4096x11008 ![0, 0, 0] (Host.dotGeneral dot_S4x4096x4096_S4096x22016_S4x4096x22016_2_0_01_1_n_n none x w)
    slices_S4x4096x22016_S4x4096x11008_0_0_0

def valueHalf (x : FVec Ideal S4x4096x4096 .f32) (w : FVec Ideal S4096x22016 .f32) : FVec Ideal S4x4096x11008 .f32 :=
  extractStridedSlice S4x4096x11008 ![0, 0, 11008] (Host.dotGeneral dot_S4x4096x4096_S4096x22016_S4x4096x22016_2_0_01_1_n_n none x w)
    slices_S4x4096x22016_S4x4096x11008_0_0_11008

theorem gateHalf_apply (x : FVec Ideal S4x4096x4096 .f32) (w : FVec Ideal S4096x22016 .f32) (b : Fin 4) (t : Fin 4096) (n : Fin 11008)
    (r : Fin 16384) (hr : r.val = 4096 * b.val + t.val) : gateHalf x w (ix3 b t n) = prodAt (rows x) w r (gateCol n) := by
  have hb : b = ⟨r.val / 4096, by omega⟩ := Fin.ext (by dsimp only; omega)
  have ht : t = ⟨r.val % 4096, by omega⟩ := Fin.ext (by dsimp only; omega)
  simp only [hb, ht]
  unfold gateHalf prodAt rows gateCol
  pointwise

theorem valueHalf_apply (x : FVec Ideal S4x4096x4096 .f32) (w : FVec Ideal S4096x22016 .f32) (b : Fin 4) (t : Fin 4096) (n : Fin 11008)
    (r : Fin 16384) (hr : r.val = 4096 * b.val + t.val) : valueHalf x w (ix3 b t n) = prodAt (rows x) w r (valueCol n) := by
  have hb : b = ⟨r.val / 4096, by omega⟩ := Fin.ext (by dsimp only; omega)
  have ht : t = ⟨r.val % 4096, by omega⟩ := Fin.ext (by dsimp only; omega)
  simp only [hb, ht]
  unfold valueHalf prodAt rows valueCol
  pointwise

/-- The tokens moved by one. -/
def before (g : FVec Ideal S4x4096x11008 .f32) : FVec Ideal S4x4096x11008 .f32 :=
  pad S4x4096x11008 ![0, 1, 0] ![0, 0, 0] ![0, 0, 0] (extractStridedSlice S4x4095x11008 ![0, 0, 0] g slices_S4x4096x11008_S4x4095x11008_0_0_0)
    (sitofp .f32 (constantI S_ 32 0#32)) pads_S4x4095x11008_S4x4096x11008_000_100_000 h_S_

def after (g : FVec Ideal S4x4096x11008 .f32) : FVec Ideal S4x4096x11008 .f32 :=
  pad S4x4096x11008 ![0, 0, 0] ![0, 1, 0] ![0, 0, 0] (extractStridedSlice S4x4095x11008 ![0, 1, 0] g slices_S4x4096x11008_S4x4095x11008_0_1_0)
    (sitofp .f32 (constantI S_ 32 0#32)) pads_S4x4095x11008_S4x4096x11008_000_010_000 h_S_

theorem sitofp_zero : FloatOps.sitofp (F := Ideal) FTy.f32 0#32 = (0 : EReal) := by
  show ((((0#32 : BitVec 32).toInt : ℝ)) : EReal) = 0
  simp

theorem before_apply (g : FVec Ideal S4x4096x11008 .f32) (b : Fin 4) (t : Fin 4096) (n : Fin 11008) :
    before g (ix3 b t n) = (if h : t.val = 0 then 0 else g (ix3 b ⟨t.val - 1, by omega⟩ n) : EReal) := by
  unfold before
  pointwise
  by_cases h : t.val = 0
  · rw [dif_neg (by omega), dif_pos h]
    exact sitofp_zero
  · rw [dif_pos (by omega), dif_neg h]

theorem after_apply (g : FVec Ideal S4x4096x11008 .f32) (b : Fin 4) (t : Fin 4096) (n : Fin 11008) :
    after g (ix3 b t n) = (if h : t.val = 4095 then 0 else g (ix3 b ⟨t.val + 1, by omega⟩ n) : EReal) := by
  unfold after
  pointwise
  by_cases h : t.val = 4095
  · rw [dif_neg (by omega), dif_pos h]
    exact sitofp_zero
  · rw [dif_pos (by omega), dif_neg h]
    exact congrArg (fun s => g (ix3 b s n)) (Fin.ext (Nat.add_comm _ _))

/-- A row of the convolution's weights, the same for every token. -/
def tap (s : Fin 3) (w : FVec Ideal S3x11008 .f32) (h : S3x11008.Slices ![s.val, 0] S1x11008) : FVec Ideal S4x4096x11008 .f32 :=
  broadcastInDim S4x4096x11008 ![0, 1, 2] bcast_S1x1x11008_S4x4096x11008_0_1_2 (broadcastInDim S1x1x11008 ![2] bcast_S11008_S1x1x11008_2
    (shapeCast _ (extractStridedSlice S1x11008 ![s.val, 0] w h) shapeCasts_S1x11008_S11008))

theorem tapRef_apply (s : Fin 3) (w : FVec Ideal S3x11008 .f32) (h : S3x11008.Slices ![s.val, 0] S1x11008) (b : Fin 4) (t : Fin 4096)
    (n : Fin 11008) : tap s w h (ix3 b t n) = w (ix2 s n) := by
  unfold tap
  pointwise

def bias (v : FVec Ideal S11008 .f32) : FVec Ideal S4x4096x11008 .f32 :=
  broadcastInDim S4x4096x11008 ![0, 1, 2] bcast_S1x1x11008_S4x4096x11008_0_1_2 (broadcastInDim S1x1x11008 ![2] bcast_S11008_S1x1x11008_2 v)

theorem bias_apply (v : FVec Ideal S11008 .f32) (b : Fin 4) (t : Fin 4096) (n : Fin 11008) : bias v (ix3 b t n) = v (ix1 n) := by
  unfold bias
  pointwise

/-- The reference's convolution. -/
def convRef (g : FVec Ideal S4x4096x11008 .f32) (w : FVec Ideal S3x11008 .f32) (v : FVec Ideal S11008 .f32) : FVec Ideal S4x4096x11008 .f32 :=
  addf (addf (addf (mulf (tap 0 w slices_S3x11008_S1x11008_0_0) (before g)) (mulf (tap 1 w slices_S3x11008_S1x11008_1_0) g))
    (mulf (tap 2 w slices_S3x11008_S1x11008_2_0) (after g))) (bias v)

theorem convRef_apply (g : FVec Ideal S4x4096x11008 .f32) (w : FVec Ideal S3x11008 .f32) (v : FVec Ideal S11008 .f32) (b : Fin 4)
    (t : Fin 4096) (n : Fin 11008) :
    convRef g w v (ix3 b t n) = conv (w (ix2 0 n)) (w (ix2 1 n)) (w (ix2 2 n)) (v (ix1 n)) (before g (ix3 b t n)) (g (ix3 b t n))
      (after g (ix3 b t n)) := by
  rw [← tapRef_apply 0 w slices_S3x11008_S1x11008_0_0 b t n, ← tapRef_apply 1 w slices_S3x11008_S1x11008_1_0 b t n,
    ← tapRef_apply 2 w slices_S3x11008_S1x11008_2_0 b t n, ← bias_apply v b t n]
  rfl

/-- The reference's activation. -/
def actRef (z v : FVec Ideal S4x4096x11008 .f32) : FVec Ideal S16384x11008 .bf16 :=
  truncf .bf16 (shapeCast _ (mulf (mulf z (Host.divf (broadcastInDim S4x4096x11008 ![] bcast_S_S4x4096x11008 (constant S_ .f32 0x3F800000#32))
    (addf (broadcastInDim S4x4096x11008 ![] bcast_S_S4x4096x11008 (constant S_ .f32 0x3F800000#32)) (Host.exp (Host.negf z))))) v)
    shapeCasts_S4x4096x11008_S16384x11008) bitsLt_bf16_f32

theorem actRef_apply (z v : FVec Ideal S4x4096x11008 .f32) (r : Fin 16384) (n : Fin 11008) :
    actRef z v (ix2 r n) = act (z (ix3 ⟨r / 4096, by omega⟩ ⟨r % 4096, by omega⟩ n)) (v (ix3 ⟨r / 4096, by omega⟩ ⟨r % 4096, by omega⟩ n)) := by
  unfold actRef act one
  pointwise

/-- The reference's result. -/
theorem ref_eq (x : FVec Ideal S4x4096x4096 .f32) (w : FVec Ideal S4096x22016 .f32) (cw : FVec Ideal S3x11008 .f32) (cb : FVec Ideal S11008 .f32)
    (r : Fin 16384) (n : Fin 11008) :
    actRef (convRef (gateHalf x w) cw cb) (valueHalf x w) (ix2 r n) = acts (rows x) w cw cb r n := by
  have hr : r.val = 4096 * (r.val / 4096) + r.val % 4096 := by omega
  rw [actRef_apply, convRef_apply, before_apply, after_apply, valueHalf_apply x w _ _ n r hr, gateHalf_apply x w ⟨r / 4096, by omega⟩ ⟨r % 4096, by omega⟩ n r hr]
  refine congrArg₂ (fun p q => act (conv _ _ _ _ p _ q) _) (dite_congr rfl (fun _ => rfl) fun h => ?_)
    (dite_congr rfl (fun _ => rfl) fun h => ?_)
  · have h' : ¬r.val % 4096 = 0 := h
    exact gateHalf_apply x w _ _ n _ (by dsimp only; omega)
  · have h' : ¬r.val % 4096 = 4095 := h
    exact gateHalf_apply x w _ _ n _ (by dsimp only; omega)

end Cert.Proof.Ffn

end
-- ==== Proof.FfnUp.lean ====
/- The claim of the up projection: the kernel's column blocks and the reference leave the same activations. -/
module

public import proofs.«01_k».proof.Defs
public import proofs.«01_k».proof.Proof.FfnRows
public import proofs.«01_k».proof.Proof.FfnRef

@[expose] public section

set_option maxRecDepth 16384

noncomputable section

namespace Cert.Proof.Ffn

open Idealize.ShloMosaic Idealize.ShloMosaic.TcCoe Idealize.SL.Sem
open Cert.Kernel2Ideal Cert.Kernel2Ideal.Gen Cert.Proof.LayerMath

/-- A product over the stored rows: a row of the sequence is that token's, a row off its end is zero. -/
theorem prodAt_ext_in {N M : ℕ} (A : S16384x4096.Idx → EReal) (i : Fin 16) (w : (⟨2, ![4096, N]⟩ : Shape).Idx → EReal)
    (w' : (⟨2, ![4096, M]⟩ : Shape).Idx → EReal) (e : Fin 1056) (d : Fin N) (n : Fin M) (R : Fin 16384)
    (hw : ∀ k, w (ix2 k d) = w' (ix2 k n))
    (h : 4096 * (i.val / 4) + 16 ≤ 1024 * i.val + e ∧ 1024 * i.val + e < 4096 * (i.val / 4 + 1) + 16)
    (hR : R.val + 16 = 1024 * i.val + e) : prodAt (ext A i) w e d = prodAt A w' R n :=
  prodAt_congr (fun k => ext_in A i e k R h hR) hw

theorem prodAt_ext_out {N : ℕ} (A : S16384x4096.Idx → EReal) (i : Fin 16) (w : (⟨2, ![4096, N]⟩ : Shape).Idx → EReal) (e : Fin 1056)
    (d : Fin N) (h : ¬(4096 * (i.val / 4) + 16 ≤ 1024 * i.val + e ∧ 1024 * i.val + e < 4096 * (i.val / 4 + 1) + 16)) :
    prodAt (ext A i) w e d = 0 :=
  Finset.sum_eq_zero fun k _ => by rw [ext_out A i e k h, zero_mul]

/-- The tile's place in the result. -/
def row (t : Fin grid0.N) (r : Fin 1024) : Fin 16384 :=
  ⟨(grid0.coords t 0).val * 1024 + r, by have : (grid0.coords t 0).val < 16 := (grid0.coords t 0).isLt; omega⟩
def col (t : Fin grid0.N) (d : Fin 256) : Fin 11008 :=
  ⟨(grid0.coords t 1).val * 256 + d, by have : (grid0.coords t 1).val < 43 := (grid0.coords t 1).isLt; omega⟩

theorem index_gate : ∀ t : Fin grid0.N, win0_3.index t = ![0, (grid0.coords t 1).val] := by decide +kernel
theorem index_value : ∀ t : Fin grid0.N, win0_4.index t = ![0, 43 + (grid0.coords t 1).val] := by decide +kernel
theorem index_taps : ∀ t : Fin grid0.N, win0_5.index t = ![0, (grid0.coords t 1).val] := by decide +kernel
theorem index_bias : ∀ t : Fin grid0.N, win0_6.index t = ![0, (grid0.coords t 1).val] := by decide +kernel
theorem index_o : ∀ t : Fin grid0.N, win0_7.index t = ![(grid0.coords t 0).val, (grid0.coords t 1).val] := by decide +kernel
theorem covers : (cfg0.win 7).Covers := by decide +kernel

variable (m : (ℓ : Loc nD τ sig) → Buf (Elt Ideal) ℓ)

theorem tokens_eq (c : Dev nD) : (V m c main_v1 : S16384x4096.Idx → EReal) = rows (m ((c : Thread nD τ).loc main_arg0)) := by
  entry_read
  exact rows_cast _ _

theorem weights_eq (c : Dev nD) : (V m c main_v2 : S4096x22016.Idx → EReal) = m ((c : Thread nD τ).loc main_arg1) := by
  entry_read
  rfl

theorem bias_eq (c : Dev nD) (n : Fin 11008) :
    (V m c main_v3 : S1x11008.Idx → EReal) (ix2 0 n) = (m ((c : Thread nD τ).loc main_arg3) : S11008.Idx → EReal) (ix1 n) := by
  entry_read
  pointwise

theorem taps_eq (c : Dev nD) : (V m c main_arg2 : S3x11008.Idx → EReal) = m ((c : Thread nD τ).loc main_arg2) := by
  entry_read
  rfl

theorem read_gate (c : Dev nD) (t : Fin grid0.N) (k : Fin 4096) (d : Fin 256) :
    (iblk m c 3 t : Vec Ideal S4096x256 .bf16) (ix2 k d) = V m c main_v2 (ix2 k (gateCol (col t d))) := by
  blk_ext [iblk, index_gate t, col, gateCol]

theorem read_value (c : Dev nD) (t : Fin grid0.N) (k : Fin 4096) (d : Fin 256) :
    (iblk m c 4 t : Vec Ideal S4096x256 .bf16) (ix2 k d) = V m c main_v2 (ix2 k (valueCol (col t d))) := by
  blk_ext [iblk, index_value t, col, valueCol]

theorem read_taps (c : Dev nD) (t : Fin grid0.N) (s : Fin 3) (d : Fin 256) :
    (iblk m c 5 t : Vec Ideal S3x256 .f32) (ix2 s d) = V m c main_arg2 (ix2 s (col t d)) := by
  blk_ext [iblk, index_taps t, col]

theorem read_bias (c : Dev nD) (t : Fin grid0.N) (d : Fin 256) :
    (iblk m c 6 t : Vec Ideal S1x256 .f32) (ix2 0 d) = V m c main_v3 (ix2 0 (col t d)) := by
  blk_ext [iblk, index_bias t, col]

/-- The tile of the stored rows of row block `i` and some columns holds the activations of those rows and columns. -/
theorem tile_acts (A : S16384x4096.Idx → EReal) (W : S4096x22016.Idx → EReal) (CW : S3x11008.Idx → EReal) (CB : S11008.Idx → EReal)
    (i : Fin 16) (wg wv : Vec Ideal S4096x256 .bf16) (cw : Vec Ideal S3x256 .f32) (cb : Vec Ideal S1x256 .f32) (r : Fin 1024) (d : Fin 256)
    (R : Fin 16384) (n : Fin 11008) (hR : R.val = i.val * 1024 + r.val) (hg : ∀ k, wg (ix2 k d) = W (ix2 k (gateCol n)))
    (hv : ∀ k, wv (ix2 k d) = W (ix2 k (valueCol n))) (hw : ∀ s, cw (ix2 s d) = CW (ix2 s n)) (hb : cb (ix2 0 d) = CB (ix1 n)) :
    tile (ext A i) wg wv cw cb (ix2 r d) = acts A W CW CB R n := by
  rw [tile_apply, hw, hw, hw, hb, prodAt_ext_in A i wv W ⟨16 + r, by omega⟩ d (valueCol n) R hv (by dsimp only; omega) (by dsimp only; omega),
    prodAt_ext_in A i wg W ⟨16 + r, by omega⟩ d (gateCol n) R hg (by dsimp only; omega) (by dsimp only; omega)]
  unfold acts
  refine congrArg₂ (fun p q => act (conv _ _ _ _ p _ q) _) ?_ ?_
  · by_cases h : R.val % 4096 = 0
    · rw [dif_pos h]
      exact prodAt_ext_out _ _ _ _ _ (by dsimp only; omega)
    · rw [dif_neg h]
      exact prodAt_ext_in _ _ _ _ _ _ _ _ hg (by dsimp only; omega) (by dsimp only; omega)
  · by_cases h : R.val % 4096 = 4095
    · rw [dif_pos h]
      exact prodAt_ext_out _ _ _ _ _ (by dsimp only; omega)
    · rw [dif_neg h]
      exact prodAt_ext_in _ _ _ _ _ _ _ _ hg (by dsimp only; omega) (by dsimp only; omega)

/-- The tile of a grid point holds the activations of its rows and columns. -/
theorem tile_eq (c : Dev nD) (t : Fin grid0.N) (r : Fin 1024) (d : Fin 256) :
    tile (ext (V m c main_v1) (grid0.coords t 0)) (iblk m c 3 t) (iblk m c 4 t) (iblk m c 5 t) (iblk m c 6 t) (ix2 r d)
      = acts (rows (m ((c : Thread nD τ).loc main_arg0))) (m ((c : Thread nD τ).loc main_arg1)) (m ((c : Thread nD τ).loc main_arg2))
        (m ((c : Thread nD τ).loc main_arg3)) (row t r) (col t d) := by
  refine (congrArg (fun A => tile (ext A (grid0.coords t 0)) (iblk m c 3 t) (iblk m c 4 t) (iblk m c 5 t) (iblk m c 6 t) (ix2 r d))
    (tokens_eq m c)).trans ?_
  exact tile_acts _ _ _ _ (grid0.coords t 0) _ _ _ _ r d (row t r) (col t d) rfl
    (fun k => (read_gate m c t k d).trans (congrFun (weights_eq m c) _)) (fun k => (read_value m c t k d).trans (congrFun (weights_eq m c) _))
    (fun s => (read_taps m c t s d).trans (congrFun (taps_eq m c) _)) ((read_bias m c t d).trans (bias_eq m c (col t d)))

/-- The result array after the run. -/
theorem arr_eq (c : Dev nD) : (dats m 0 c).arrAt 7 cfg0.N = (fun i => acts (rows (m ((c : Thread nD τ).loc main_arg0)))
    (m ((c : Thread nD τ).loc main_arg1)) (m ((c : Thread nD τ).loc main_arg2)) (m ((c : Thread nD τ).loc main_arg3)) (i 0) (i 1) :
    S16384x11008.Idx → EReal) := by
  refine (dats m 0 c).arrAt_eq_of_covers 7 _ covers fun t hf y => ?_
  blk_simp
  rw [after0_7, out_eq]
  idx_vars y
  refine (tile_eq m c t y0 y1).trans (congrArg₂ (acts _ _ _ _) (Fin.ext ?_) (Fin.ext ?_))
  · blk_simp [index_o t, row]
  · blk_simp [index_o t, col]

/-- The claim: both programs run, and end at the same activations of their arguments. -/
theorem algebraic : Cert.algebraic_Kernel2Ideal_Reference2Ideal (hKernel2Ideal := Cert.Kernel2Ideal.Gen.facts)
    (hReference2Ideal := Cert.Reference2Ideal.Gen.facts) := fun m ρ m' ρ' _ hag => by
  refine ⟨fun c => (fun i => acts (rows (m ((c : Thread nD τ).loc main_arg0))) (m ((c : Thread nD τ).loc main_arg1))
      (m ((c : Thread nD τ).loc main_arg2)) (m ((c : Thread nD τ).loc main_arg3)) (i 0) (i 1) : S16384x11008.Idx → EReal), ?_, ?_⟩
  · exact (θ_run defs _ _).mono (fun r h c => ⟨(h c).1.trans (arr_eq m c), (h c).2⟩)
      (Cert.Kernel2Ideal.Value.run_blocks (F := Ideal) m ρ)
  · refine (θ_run _ _ _).mono (fun r h c => ⟨(h c).1.trans ?_, (h c).2⟩) (Cert.Reference2Ideal.Value.run (F := Ideal) m' ρ')
    obtain ⟨e0, e1, e2, e3⟩ := hag c
    funext i
    idx_vars i
    exact (ref_eq _ _ _ _ i0 i1).trans (by rw [e0, e1, e2, e3])

end Cert.Proof.Ffn

end
-- ==== Proof.Gates.lean ====
/- The branch gates: both programs end at the logistic function of `xn @ w`, `w` the input projection's gate columns,
   tokens end to end. -/
module

public import proofs.«01_k».proof.Proof.Gen.Kernel4Ideal.Value
public import proofs.«01_k».proof.Proof.Gen.Reference4Ideal.Run
public import proofs.«01_k».proof.Proof.LayerMath
public import proofs.«01_k».proof.Defs

@[expose] public section

set_option maxRecDepth 16384

noncomputable section

namespace Cert.Proof.Gates

open Idealize.ShloMosaic Idealize.ShloMosaic.TcCoe Idealize.SL.Sem
open Cert.Proof.LayerMath

/-- `1 / (1 + exp (-z))`. -/
def gate (z : EReal) : EReal := Ideal.div (Ideal.ofBits .f32 0x3F800000#32) (Ideal.ofBits .f32 0x3F800000#32 + Ideal.exp (-z))

/-- The gates of a product of rows with a matrix. -/
def gates (a : (⟨2, ![16384, 4096]⟩ : Shape).Idx → EReal) (w : (⟨2, ![4096, 12288]⟩ : Shape).Idx → EReal)
    (i : (⟨2, ![16384, 12288]⟩ : Shape).Idx) : EReal := gate (prodAt a w (i 0) (i 1))

/-- The gate columns of the input projection: its last ones. -/
def gateCols (w : (⟨2, ![4096, 29120]⟩ : Shape).Idx → EReal) : (⟨2, ![4096, 12288]⟩ : Shape).Idx → EReal :=
  fun i => w (ix2 (i 0) ⟨16832 + (i 1 : ℕ), by have : (i 1 : ℕ) < 12288 := (i 1).isLt; omega⟩)

section Ref

open Cert.Reference4Ideal Cert.Reference4Ideal.Gen

/-- The reference's gate inputs. -/
def inputs (x : FVec Ideal S4x4096x4096 .f32) (w : FVec Ideal S4096x29120 .f32) : FVec Ideal S4x4096x12288 .f32 :=
  extractStridedSlice S4x4096x12288 ![0, 0, 16832]
    (Host.dotGeneral dot_S4x4096x4096_S4096x29120_S4x4096x29120_2_0_01_1_n_n none x w) slices_S4x4096x29120_S4x4096x12288_0_0_16832

theorem inputs_apply (x : FVec Ideal S4x4096x4096 .f32) (w : FVec Ideal S4096x29120 .f32) (b : Fin 4) (t : Fin 4096) (n : Fin 12288) :
    inputs x w (ix3 b t n) = (∑ k : Fin 4096, x (ix3 b t k) * gateCols w (ix2 k n) : EReal) := by
  unfold inputs gateCols
  pointwise

/-- The reference's gates of its gate inputs. -/
def squash (h : FVec Ideal S4x4096x12288 .f32) : FVec Ideal S16384x12288 .bf16 :=
  truncf .bf16 (shapeCast _ (Host.divf (broadcastInDim S4x4096x3x4096 ![] bcast_S_S4x4096x3x4096 (constant S_ .f32 0x3F800000#32))
    (addf (broadcastInDim S4x4096x3x4096 ![] bcast_S_S4x4096x3x4096 (constant S_ .f32 0x3F800000#32))
      (Host.exp (Host.negf (shapeCast _ h shapeCasts_S4x4096x12288_S4x4096x3x4096))))) shapeCasts_S4x4096x3x4096_S16384x12288) bitsLt_bf16_f32

theorem squash_apply (h : FVec Ideal S4x4096x12288 .f32) (r : Fin 16384) (n : Fin 12288) :
    squash h (ix2 r n) = gate (h (ix3 ⟨r / 4096, by omega⟩ ⟨r % 4096, by omega⟩ n)) := by
  unfold squash gate
  pointwise

theorem ref_eq (x : FVec Ideal S4x4096x4096 .f32) (w : FVec Ideal S4096x29120 .f32) :
    (squash (inputs x w) : S16384x12288.Idx → EReal) = gates (rows x) (gateCols w) := by
  funext i
  idx_vars i
  rw [squash_apply, inputs_apply]
  rfl

end Ref

open Cert.Kernel4Ideal Cert.Kernel4Ideal.Gen

variable (m : (ℓ : Loc nD τ sig) → Buf (Elt Ideal) ℓ)

/-- The body's output block at an index. -/
theorem out_apply (a : Vec Ideal S1024x4096 .bf16) (w : Vec Ideal S4096x1024 .bf16) (r : Fin 1024) (n : Fin 1024) :
    out0_2 a w (ix2 r n) = gate (prodAt a w r n) := by
  unfold out0_2 prodAt gate
  rw [View.canon_unit_zero (by decide), ← zero_sub]
  pointwise [k0_pay1]

/-- The block each window holds at a grid point (row block, column block), and that every block of the result is
    written back. -/
theorem index_a : ∀ t : Fin grid0.N, win0_0.index t = ![(grid0.coords t 0).val, 0] := by decide +kernel
theorem index_w : ∀ t : Fin grid0.N, win0_1.index t = ![0, (grid0.coords t 1).val] := by decide +kernel
theorem index_o : ∀ t : Fin grid0.N, win0_2.index t = ![(grid0.coords t 0).val, (grid0.coords t 1).val] := by decide +kernel
theorem covers : (cfg0.win 2).Covers := by decide +kernel

/-- The row and the column of the result that a place of a point's block is. -/
def row (t : Fin grid0.N) (r : Fin 1024) : Fin 16384 :=
  ⟨(grid0.coords t 0).val * 1024 + r, by have : (grid0.coords t 0).val < 16 := (grid0.coords t 0).isLt; omega⟩
def col (t : Fin grid0.N) (n : Fin 1024) : Fin 12288 :=
  ⟨(grid0.coords t 1).val * 1024 + n, by have : (grid0.coords t 1).val < 12 := (grid0.coords t 1).isLt; omega⟩

/-- The result array after the run, over the host arrays. -/
theorem arr_eq (c : Dev nD) : (dats m 0 c).arrAt 2 cfg0.N = gates (V m c main_v1) (V m c main_v3) := by
  refine (dats m 0 c).arrAt_eq_of_covers 2 _ covers fun t hf y => ?_
  blk_simp
  rw [after0_2]
  idx_vars y
  rw [out_apply]
  unfold gates
  refine congrArg gate ((prodAt_congr (r' := row t y0) (n' := col t y1) (fun k => ?_) (fun k => ?_)).trans
    (congrArg₂ (prodAt (V m c main_v1) (V m c main_v3)) (Fin.ext ?_) (Fin.ext ?_)))
  · blk_ext [iblk, index_a t, row]
  · blk_ext [iblk, index_w t, col]
  · blk_simp [index_o t, row]
  · blk_simp [index_o t, col]

theorem x_eq (c : Dev nD) : (V m c main_v1 : S16384x4096.Idx → EReal) = rows (m ((c : Thread nD τ).loc main_arg0)) := by
  entry_read
  exact rows_cast _ _

theorem w_eq (c : Dev nD) : (V m c main_v3 : S4096x12288.Idx → EReal) = gateCols (m ((c : Thread nD τ).loc main_arg1)) := by
  funext i
  idx_vars i
  show V m c main_v3 _ = _
  entry_read
  unfold gateCols
  pointwise

/-- The claim: both programs run, and end at the gates of their arguments. -/
theorem algebraic : Cert.algebraic_Kernel4Ideal_Reference4Ideal (hKernel4Ideal := Cert.Kernel4Ideal.Gen.facts)
    (hReference4Ideal := Cert.Reference4Ideal.Gen.facts) := fun m ρ m' ρ' _ hag => by
  refine ⟨fun c => gates (rows (m ((c : Thread nD τ).loc main_arg0))) (gateCols (m ((c : Thread nD τ).loc main_arg1))), ?_, ?_⟩
  · refine (θ_run defs _ _).mono (fun r h c => ⟨(h c).1.trans ((arr_eq m c).trans ?_), (h c).2⟩)
      (Cert.Kernel4Ideal.Value.run_blocks (F := Ideal) m ρ)
    rw [x_eq, w_eq]
  · refine (θ_run _ _ _).mono (fun r h c => ⟨(h c).1.trans ?_, (h c).2⟩) (Cert.Reference4Ideal.Value.run (F := Ideal) m' ρ')
    obtain ⟨e0, e1⟩ := hag c
    rw [e0, e1]
    exact ref_eq _ _

end Cert.Proof.Gates

end
-- ==== Proof.Merge.lean ====
/- The gated merge of the three branches: both programs end at `ga * (a @ wa) + gb * (b @ wb) + gc * (c @ wc)`, tokens
   end to end. -/
module

public import proofs.«01_k».proof.Proof.Gen.Kernel5Ideal.Value
public import proofs.«01_k».proof.Proof.Gen.Reference5Ideal.Run
public import proofs.«01_k».proof.Proof.LayerMath
public import proofs.«01_k».proof.Defs

@[expose] public section

set_option maxRecDepth 16384

noncomputable section

namespace Cert.Proof.Merge

open Idealize.ShloMosaic Idealize.ShloMosaic.TcCoe Idealize.SL.Sem
open Cert.Proof.LayerMath

/-- Page `b` of a stack of matrices. -/
def page {K N : ℕ} (w : (⟨3, ![3, K, N]⟩ : Shape).Idx → EReal) (b : Fin 3) : (⟨2, ![K, N]⟩ : Shape).Idx → EReal :=
  fun i => w (ix3 b (i 0) (i 1))

/-- The branch weights, one under the other, as a stack of three. -/
def stack (w : (⟨2, ![6144, 4096]⟩ : Shape).Idx → EReal) : (⟨3, ![3, 2048, 4096]⟩ : Shape).Idx → EReal :=
  fun i => w (ix2 ⟨(i 0 : ℕ) * 2048 + (i 1 : ℕ), by
    have h0 : (i 0 : ℕ) < 3 := (i 0).isLt
    have h1 : (i 1 : ℕ) < 2048 := (i 1).isLt
    omega⟩ (i 2))

/-- Column `4096 * b + n` of the gates' rows. -/
def lane (b : Fin 3) (n : Fin 4096) : Fin 12288 := ⟨(b : ℕ) * 4096 + n, by omega⟩

/-- The gates of a token, those of the three branches one after the other. -/
def gateRows (g : (⟨4, ![4, 4096, 3, 4096]⟩ : Shape).Idx → EReal) : (⟨2, ![16384, 12288]⟩ : Shape).Idx → EReal :=
  fun i => g (ix4 ⟨(i 0 : ℕ) / 4096, by have : (i 0 : ℕ) < 16384 := (i 0).isLt; omega⟩ ⟨(i 0 : ℕ) % 4096, by omega⟩
    ⟨(i 1 : ℕ) / 4096, by have : (i 1 : ℕ) < 12288 := (i 1).isLt; omega⟩ ⟨(i 1 : ℕ) % 4096, by omega⟩)

/-- The gated sum of the branches at a token and a column. -/
def merged (a b c : (⟨2, ![16384, 2048]⟩ : Shape).Idx → EReal) (w : (⟨3, ![3, 2048, 4096]⟩ : Shape).Idx → EReal)
    (g : (⟨2, ![16384, 12288]⟩ : Shape).Idx → EReal) (i : (⟨2, ![16384, 4096]⟩ : Shape).Idx) : EReal :=
  g (ix2 (i 0) (lane 0 (i 1))) * prodAt a (page w 0) (i 0) (i 1) + g (ix2 (i 0) (lane 1 (i 1))) * prodAt b (page w 1) (i 0) (i 1)
    + g (ix2 (i 0) (lane 2 (i 1))) * prodAt c (page w 2) (i 0) (i 1)

/-- Gates of a token by branch. -/
theorem gateRows_lane (g : (⟨4, ![4, 4096, 3, 4096]⟩ : Shape).Idx → EReal) (r : Fin 16384) (b : Fin 3) (n : Fin 4096) :
    gateRows g (ix2 r (lane b n)) = g (ix4 ⟨r / 4096, by omega⟩ ⟨r % 4096, by omega⟩ b n) := by
  unfold gateRows lane
  refine congrArg g (congrArg₂ (ix4 _ _) (Fin.ext ?_) (Fin.ext ?_))
  · show ((b : ℕ) * 4096 + n) / 4096 = b
    omega
  · show ((b : ℕ) * 4096 + n) % 4096 = n
    omega

section Ref

open Cert.Reference5Ideal Cert.Reference5Ideal.Gen

/-- The reference's three terms before they are added. -/
def term0 (o : FVec Ideal S4x4096x2048 .f32) (w : FVec Ideal S6144x4096 .f32) (g : FVec Ideal S4x4096x3x4096 .f32) :
    FVec Ideal S4x4096x4096 .f32 :=
  mulf (shapeCast _ (extractStridedSlice S4x4096x1x4096 ![0, 0, 0, 0] g slices_S4x4096x3x4096_S4x4096x1x4096_0_0_0_0) shapeCasts_S4x4096x1x4096_S4x4096x4096)
    (Host.dotGeneral dot_S4x4096x2048_S2048x4096_S4x4096x4096_2_0_01_1_n_n none o
      (extractStridedSlice S2048x4096 ![0, 0] w slices_S6144x4096_S2048x4096_0_0))
def term1 (o : FVec Ideal S4x4096x2048 .f32) (w : FVec Ideal S6144x4096 .f32) (g : FVec Ideal S4x4096x3x4096 .f32) :
    FVec Ideal S4x4096x4096 .f32 :=
  mulf (shapeCast _ (extractStridedSlice S4x4096x1x4096 ![0, 0, 1, 0] g slices_S4x4096x3x4096_S4x4096x1x4096_0_0_1_0) shapeCasts_S4x4096x1x4096_S4x4096x4096)
    (Host.dotGeneral dot_S4x4096x2048_S2048x4096_S4x4096x4096_2_0_01_1_n_n none o
      (extractStridedSlice S2048x4096 ![2048, 0] w slices_S6144x4096_S2048x4096_2048_0))
def term2 (o : FVec Ideal S4x4096x2048 .f32) (w : FVec Ideal S6144x4096 .f32) (g : FVec Ideal S4x4096x3x4096 .f32) :
    FVec Ideal S4x4096x4096 .f32 :=
  mulf (shapeCast _ (extractStridedSlice S4x4096x1x4096 ![0, 0, 2, 0] g slices_S4x4096x3x4096_S4x4096x1x4096_0_0_2_0) shapeCasts_S4x4096x1x4096_S4x4096x4096)
    (Host.dotGeneral dot_S4x4096x2048_S2048x4096_S4x4096x4096_2_0_01_1_n_n none o
      (extractStridedSlice S2048x4096 ![4096, 0] w slices_S6144x4096_S2048x4096_4096_0))

theorem term0_apply (o : FVec Ideal S4x4096x2048 .f32) (w : FVec Ideal S6144x4096 .f32) (g : FVec Ideal S4x4096x3x4096 .f32)
    (b : Fin 4) (t n : Fin 4096) : term0 o w g (ix3 b t n)
      = (g (ix4 b t 0 n) * ∑ k : Fin 2048, o (ix3 b t k) * w (ix2 ⟨k, by omega⟩ n) : EReal) := by
  unfold term0
  pointwise
theorem term1_apply (o : FVec Ideal S4x4096x2048 .f32) (w : FVec Ideal S6144x4096 .f32) (g : FVec Ideal S4x4096x3x4096 .f32)
    (b : Fin 4) (t n : Fin 4096) : term1 o w g (ix3 b t n)
      = (g (ix4 b t 1 n) * ∑ k : Fin 2048, o (ix3 b t k) * w (ix2 ⟨2048 + k, by omega⟩ n) : EReal) := by
  unfold term1
  pointwise
theorem term2_apply (o : FVec Ideal S4x4096x2048 .f32) (w : FVec Ideal S6144x4096 .f32) (g : FVec Ideal S4x4096x3x4096 .f32)
    (b : Fin 4) (t n : Fin 4096) : term2 o w g (ix3 b t n)
      = (g (ix4 b t 2 n) * ∑ k : Fin 2048, o (ix3 b t k) * w (ix2 ⟨4096 + k, by omega⟩ n) : EReal) := by
  unfold term2
  pointwise

/-- A term's product is the product of the rows with a page of the stacked weights. -/
theorem term_eq (o : (⟨3, ![4, 4096, 2048]⟩ : Shape).Idx → EReal) (w : (⟨2, ![6144, 4096]⟩ : Shape).Idx → EReal) (b : Fin 3) (s : ℕ)
    (hs : s = (b : ℕ) * 2048) (i : (⟨2, ![16384, 4096]⟩ : Shape).Idx) (hk : ∀ k : Fin 2048, s + (k : ℕ) < 6144) :
    (∑ k : Fin 2048, rows o (ix2 (i 0) k) * w (ix2 ⟨s + k, hk k⟩ (i 1))) = prodAt (rows o) (page (stack w) b) (i 0) (i 1) := by
  subst hs
  rfl

theorem ref_eq (a b c : FVec Ideal S4x4096x2048 .f32) (w : FVec Ideal S6144x4096 .f32) (g : FVec Ideal S4x4096x3x4096 .f32) :
    rows (addf (addf (term0 a w g) (term1 b w g)) (term2 c w g))
      = merged (rows a) (rows b) (rows c) (stack w) (gateRows g) := by
  funext i
  unfold merged
  refine congrArg₂ (HAdd.hAdd (α := EReal)) (congrArg₂ (HAdd.hAdd (α := EReal)) ?_ ?_) ?_
  · refine (term0_apply _ _ _ _ _ _).trans (congrArg₂ (HMul.hMul (α := EReal)) (gateRows_lane g (i 0) 0 (i 1)).symm ?_)
    refine Eq.trans ?_ (term_eq a w 0 0 rfl i (fun k => by omega))
    refine Finset.sum_congr rfl fun k _ => congrArg (HMul.hMul (α := EReal) _) ?_
    exact congrArg (fun j => w (ix2 j (i 1))) (Fin.ext (Nat.zero_add _).symm)
  · exact (term1_apply _ _ _ _ _ _).trans (congrArg₂ (HMul.hMul (α := EReal)) (gateRows_lane g (i 0) 1 (i 1)).symm
      (term_eq b w 1 2048 rfl i (fun k => by omega)))
  · exact (term2_apply _ _ _ _ _ _).trans (congrArg₂ (HMul.hMul (α := EReal)) (gateRows_lane g (i 0) 2 (i 1)).symm
      (term_eq c w 2 4096 rfl i (fun k => by omega)))

end Ref

open Cert.Kernel5Ideal Cert.Kernel5Ideal.Gen

variable (m : (ℓ : Loc nD τ sig) → Buf (Elt Ideal) ℓ)

/-- The body's output block at an index. -/
theorem out_apply (a b c : Vec Ideal S1024x2048 .bf16) (w : Vec Ideal S3x2048x512 .bf16) (ga gb gc : Vec Ideal S1024x512 .bf16)
    (r : Fin 1024) (n : Fin 512) :
    out0_7 a b c w ga gb gc (ix2 r n) = (ga (ix2 r n) * prodAt a (page w 0) r n + gb (ix2 r n) * prodAt b (page w 1) r n
      + gc (ix2 r n) * prodAt c (page w 2) r n : EReal) := by
  unfold out0_7 prodAt page
  rw [View.canon_unit_zero (by decide)]
  pointwise [k0_pay1]

/-- The block each window holds at a grid point (row block, column block), and that every block of the result is
    written back. -/
theorem index_a : ∀ t : Fin grid0.N, win0_0.index t = ![(grid0.coords t 0).val, 0] := by decide +kernel
theorem index_b : ∀ t : Fin grid0.N, win0_1.index t = ![(grid0.coords t 0).val, 0] := by decide +kernel
theorem index_c : ∀ t : Fin grid0.N, win0_2.index t = ![(grid0.coords t 0).val, 0] := by decide +kernel
theorem index_w : ∀ t : Fin grid0.N, win0_3.index t = ![0, 0, (grid0.coords t 1).val] := by decide +kernel
theorem index_ga : ∀ t : Fin grid0.N, win0_4.index t = ![(grid0.coords t 0).val, (grid0.coords t 1).val] := by decide +kernel
theorem index_gb : ∀ t : Fin grid0.N, win0_5.index t = ![(grid0.coords t 0).val, 8 + (grid0.coords t 1).val] := by decide +kernel
theorem index_gc : ∀ t : Fin grid0.N, win0_6.index t = ![(grid0.coords t 0).val, 16 + (grid0.coords t 1).val] := by decide +kernel
theorem index_o : ∀ t : Fin grid0.N, win0_7.index t = ![(grid0.coords t 0).val, (grid0.coords t 1).val] := by decide +kernel
theorem covers : (cfg0.win 7).Covers := by decide +kernel

theorem coord0 (t : Fin grid0.N) : (grid0.coords t 0).val < 16 := (grid0.coords t 0).isLt
theorem coord1 (t : Fin grid0.N) : (grid0.coords t 1).val < 8 := (grid0.coords t 1).isLt

/-- The row and the column of the result that a place of a point's block is. -/
def row (t : Fin grid0.N) (r : Fin 1024) : Fin 16384 := ⟨(grid0.coords t 0).val * 1024 + r, by have := coord0 t; omega⟩
def col (t : Fin grid0.N) (n : Fin 512) : Fin 4096 := ⟨(grid0.coords t 1).val * 512 + n, by have := coord1 t; omega⟩

/-- The blocks read at an index are the host arrays at their place. -/
theorem read_a (c : Dev nD) (t : Fin grid0.N) (r : Fin 1024) (k : Fin 2048) :
    (iblk m c 0 t : Vec Ideal S1024x2048 .bf16) (ix2 r k) = V m c main_v1 (ix2 (row t r) k) := by
  blk_ext [iblk, index_a t, row]
theorem read_b (c : Dev nD) (t : Fin grid0.N) (r : Fin 1024) (k : Fin 2048) :
    (iblk m c 1 t : Vec Ideal S1024x2048 .bf16) (ix2 r k) = V m c main_v3 (ix2 (row t r) k) := by
  blk_ext [iblk, index_b t, row]
theorem read_c (c : Dev nD) (t : Fin grid0.N) (r : Fin 1024) (k : Fin 2048) :
    (iblk m c 2 t : Vec Ideal S1024x2048 .bf16) (ix2 r k) = V m c main_v5 (ix2 (row t r) k) := by
  blk_ext [iblk, index_c t, row]
theorem read_w (c : Dev nD) (t : Fin grid0.N) (b : Fin 3) (k : Fin 2048) (n : Fin 512) :
    (iblk m c 3 t : Vec Ideal S3x2048x512 .bf16) (ix3 b k n) = V m c main_v7 (ix3 b k (col t n)) := by
  blk_ext [iblk, index_w t, col]
theorem read_ga (c : Dev nD) (t : Fin grid0.N) (r : Fin 1024) (n : Fin 512) :
    (iblk m c 4 t : Vec Ideal S1024x512 .bf16) (ix2 r n) = V m c main_v9 (ix2 (row t r) (lane 0 (col t n))) := by
  blk_ext [iblk, index_ga t, row, lane, col]
theorem read_gb (c : Dev nD) (t : Fin grid0.N) (r : Fin 1024) (n : Fin 512) :
    (iblk m c 5 t : Vec Ideal S1024x512 .bf16) (ix2 r n) = V m c main_v9 (ix2 (row t r) (lane 1 (col t n))) := by
  blk_ext [iblk, index_gb t, row, lane, col]
theorem read_gc (c : Dev nD) (t : Fin grid0.N) (r : Fin 1024) (n : Fin 512) :
    (iblk m c 6 t : Vec Ideal S1024x512 .bf16) (ix2 r n) = V m c main_v9 (ix2 (row t r) (lane 2 (col t n))) := by
  blk_ext [iblk, index_gc t, row, lane, col]

/-- The result array after the run, over the host arrays. -/
theorem arr_eq (c : Dev nD) : (dats m 0 c).arrAt 7 cfg0.N
    = merged (V m c main_v1) (V m c main_v3) (V m c main_v5) (V m c main_v7) (V m c main_v9) := by
  refine (dats m 0 c).arrAt_eq_of_covers 7 _ covers fun t hf y => ?_
  blk_simp
  rw [after0_7]
  idx_vars y
  rw [out_apply, idx_eq (M := 16384) (N := 4096) (((cfg0.win 7).blk t).view.emb (ix2 y0 y1)) (row t y0) (col t y1)
    (by blk_simp [index_o t, row]) (by blk_simp [index_o t, col]), read_ga, read_gb, read_gc]
  unfold merged
  exact congrArg₂ (HAdd.hAdd (α := EReal)) (congrArg₂ (HAdd.hAdd (α := EReal))
    (congrArg (HMul.hMul (α := EReal) _) (prodAt_congr (read_a m c t y0) (fun k => read_w m c t 0 k y1)))
    (congrArg (HMul.hMul (α := EReal) _) (prodAt_congr (read_b m c t y0) (fun k => read_w m c t 1 k y1))))
    (congrArg (HMul.hMul (α := EReal) _) (prodAt_congr (read_c m c t y0) (fun k => read_w m c t 2 k y1)))

/-- The host arrays are the arguments. -/
theorem a_eq (c : Dev nD) : (V m c main_v1 : S16384x2048.Idx → EReal) = rows (m ((c : Thread nD τ).loc main_arg0)) := by
  entry_read
  exact rows_cast _ _
theorem b_eq (c : Dev nD) : (V m c main_v3 : S16384x2048.Idx → EReal) = rows (m ((c : Thread nD τ).loc main_arg1)) := by
  entry_read
  exact rows_cast _ _
theorem c_eq (c : Dev nD) : (V m c main_v5 : S16384x2048.Idx → EReal) = rows (m ((c : Thread nD τ).loc main_arg2)) := by
  entry_read
  exact rows_cast _ _
theorem w_eq (c : Dev nD) : (V m c main_v7 : S3x2048x4096.Idx → EReal) = stack (m ((c : Thread nD τ).loc main_arg3)) := by
  funext i
  idx_vars i
  show V m c main_v7 _ = _
  entry_read
  unfold stack
  pointwise
theorem g_eq (c : Dev nD) : (V m c main_v9 : S16384x12288.Idx → EReal) = gateRows (m ((c : Thread nD τ).loc main_arg4)) := by
  funext i
  idx_vars i
  show V m c main_v9 _ = _
  entry_read
  unfold gateRows
  pointwise

/-- The claim: both programs run, and end at the gated sum of their arguments. -/
theorem algebraic : Cert.algebraic_Kernel5Ideal_Reference5Ideal (hKernel5Ideal := Cert.Kernel5Ideal.Gen.facts)
    (hReference5Ideal := Cert.Reference5Ideal.Gen.facts) := fun m ρ m' ρ' _ hag => by
  refine ⟨fun c => merged (rows (m ((c : Thread nD τ).loc main_arg0))) (rows (m ((c : Thread nD τ).loc main_arg1)))
    (rows (m ((c : Thread nD τ).loc main_arg2))) (stack (m ((c : Thread nD τ).loc main_arg3)))
    (gateRows (m ((c : Thread nD τ).loc main_arg4))), ?_, ?_⟩
  · refine (θ_run defs _ _).mono (fun r h c => ⟨(h c).1.trans ((arr_eq m c).trans ?_), (h c).2⟩)
      (Cert.Kernel5Ideal.Value.run_blocks (F := Ideal) m ρ)
    rw [a_eq, b_eq, c_eq, w_eq, g_eq]
  · refine (θ_run _ _ _).mono (fun r h c => ⟨(h c).1.trans ?_, (h c).2⟩) (Cert.Reference5Ideal.Value.run (F := Ideal) m' ρ')
    obtain ⟨e0, e1, e2, e3, e4⟩ := hag c
    rw [e0, e1, e2, e3, e4]
    exact (rows_cast _ _).trans (ref_eq _ _ _ _ _)

end Cert.Proof.Merge

end
-- ==== Proof.OutProj.lean ====
/- The layer's output projection with its residual: both programs end at `x + merged @ weight`, tokens end to end. -/
module

public import proofs.«01_k».proof.Proof.Gen.Kernel6Ideal.Value
public import proofs.«01_k».proof.Proof.Gen.Reference6Ideal.Run
public import proofs.«01_k».proof.Proof.LayerMath
public import proofs.«01_k».proof.Defs

@[expose] public section

set_option maxRecDepth 16384

noncomputable section

namespace Cert.Proof.OutProj

open Idealize.ShloMosaic Idealize.ShloMosaic.TcCoe Idealize.SL.Sem
open Cert.Kernel6Ideal Cert.Kernel6Ideal.Gen Cert.Proof.LayerMath

variable (m : (ℓ : Loc nD τ sig) → Buf (Elt Ideal) ℓ)

/-- The block each window holds at a grid point (row block, column block), and that every block of the result is
    written back. -/
theorem index_a : ∀ t : Fin grid0.N, win0_0.index t = ![(grid0.coords t 0).val, 0] := by decide +kernel
theorem index_w : ∀ t : Fin grid0.N, win0_1.index t = ![0, (grid0.coords t 1).val] := by decide +kernel
theorem index_x : ∀ t : Fin grid0.N, win0_2.index t = ![(grid0.coords t 0).val, (grid0.coords t 1).val] := by decide +kernel
theorem index_o : ∀ t : Fin grid0.N, win0_3.index t = ![(grid0.coords t 0).val, (grid0.coords t 1).val] := by decide +kernel
theorem covers : (cfg0.win 3).Covers := by decide +kernel

/-- The row and the column of the result that a place of a point's block is. -/
def row (t : Fin grid0.N) (r : Fin 1024) : Fin 16384 :=
  ⟨(grid0.coords t 0).val * 1024 + r, by have : (grid0.coords t 0).val < 16 := (grid0.coords t 0).isLt; omega⟩
def col (t : Fin grid0.N) (n : Fin 512) : Fin 4096 :=
  ⟨(grid0.coords t 1).val * 512 + n, by have : (grid0.coords t 1).val < 8 := (grid0.coords t 1).isLt; omega⟩

/-- The body's output block at an index. -/
theorem out_apply (a : Vec Ideal S1024x4096 .bf16) (w : Vec Ideal S4096x512 .bf16) (x : Vec Ideal S1024x512 .f32)
    (r : Fin 1024) (n : Fin 512) : out0_3 a w x (ix2 r n) = (prodAt a w r n + x (ix2 r n) : EReal) := by
  unfold out0_3 prodAt
  rw [View.canon_unit_zero (by decide)]
  pointwise [k0_pay1]

/-- The result array after the run, over the host arrays. -/
theorem arr_eq (c : Dev nD) : (dats m 0 c).arrAt 3 cfg0.N = resid (V m c main_v1) (V m c main_v2) (V m c main_v3) := by
  refine (dats m 0 c).arrAt_eq_of_covers 3 _ covers fun t hf y => ?_
  blk_simp
  rw [after0_3]
  idx_vars y
  rw [out_apply]
  exact resid_block (r := row t y0) (n := col t y1) (by blk_simp [index_o t, row]) (by blk_simp [index_o t, col])
    (fun k => by blk_ext [iblk, index_a t, row]) (fun k => by blk_ext [iblk, index_w t, col])
    (by blk_ext [iblk, index_x t, row, col])

/-- The host arrays are the arguments. -/
theorem merged_eq (c : Dev nD) : (V m c main_v1 : S16384x4096.Idx → EReal) = rows (m ((c : Thread nD τ).loc main_arg1)) := by
  entry_read
  exact rows_cast _ _

theorem weight_eq (c : Dev nD) : (V m c main_v2 : S4096x4096.Idx → EReal) = m ((c : Thread nD τ).loc main_arg2) := by
  entry_read
  rfl

theorem res_eq (c : Dev nD) : (V m c main_v3 : S16384x4096.Idx → EReal) = rows (m ((c : Thread nD τ).loc main_arg0)) := by
  entry_read
  exact rows_cast _ _

/-- The reference's batched product at an index. -/
theorem dot_apply (a : FVec Ideal Cert.Reference6Ideal.S4x4096x4096 .f32) (w : FVec Ideal Cert.Reference6Ideal.S4096x4096 .f32)
    (b : Fin 4) (t n : Fin 4096) :
    Host.dotGeneral Cert.Reference6Ideal.dot_S4x4096x4096_S4096x4096_S4x4096x4096_2_0_01_1_n_n none a w (ix3 b t n)
      = (∑ k : Fin 4096, a (ix3 b t k) * w (ix2 k n) : EReal) := by
  pointwise

/-- The claim: both programs run, and end at the same residual product of their arguments. -/
theorem algebraic : Cert.algebraic_Kernel6Ideal_Reference6Ideal (hKernel6Ideal := Cert.Kernel6Ideal.Gen.facts)
    (hReference6Ideal := Cert.Reference6Ideal.Gen.facts) := fun m ρ m' ρ' _ hag => by
  refine ⟨fun c => resid (rows (m ((c : Thread nD τ).loc main_arg1))) (m ((c : Thread nD τ).loc main_arg2))
      (rows (m ((c : Thread nD τ).loc main_arg0))), ?_, ?_⟩
  · refine (θ_run defs _ _).mono (fun r h c => ⟨(h c).1.trans ((arr_eq m c).trans ?_), (h c).2⟩)
      (Cert.Kernel6Ideal.Value.run_blocks (F := Ideal) m ρ)
    rw [merged_eq, weight_eq, res_eq]
  · refine (θ_run _ _ _).mono (fun r h c => ⟨(h c).1.trans ?_, (h c).2⟩) (Cert.Reference6Ideal.Value.run (F := Ideal) m' ρ')
    obtain ⟨e0, e1, e2⟩ := hag c
    rw [e0, e1, e2]
    exact resid_ref _ _ _ _ _ (dot_apply _ _)

end Cert.Proof.OutProj

end
-- ==== Proof.Norm.lean ====
/- The final normalisation: both programs end at `x / sqrt(mean(x²) + eps) * gain`, tokens end to end. -/
module

public import proofs.«01_k».proof.Proof.Gen.Kernel7Ideal.Value
public import proofs.«01_k».proof.Proof.Gen.Reference7Ideal.Run
public import proofs.«01_k».proof.Proof.LayerMath
public import proofs.«01_k».proof.Defs

@[expose] public section

set_option maxRecDepth 16384

noncomputable section

namespace Cert.Proof.Norm

open Idealize.ShloMosaic Idealize.ShloMosaic.TcCoe Idealize.SL.Sem
open Cert.Proof.LayerMath

/-- One entry of a normalised row: the entry, the row, the gain at the entry's column. -/
def normed (z : EReal) (x : Fin 4096 → EReal) (g : EReal) : EReal :=
  z * Ideal.rsqrt (Ideal.div (∑ k, x k * x k) (Ideal.ofBits .f32 0x45800000#32) + Ideal.ofBits .f32 0x358637BD#32) * g

/-- The normalised rows of an array. -/
def norm {M : ℕ} (x : (⟨2, ![M, 4096]⟩ : Shape).Idx → EReal) (g : Fin 4096 → EReal) (i : (⟨2, ![M, 4096]⟩ : Shape).Idx) : EReal :=
  normed (x i) (fun k => x (ix2 (i 0) k)) (g (i 1))

/-- Reading the normalised rows at an index of known row and column. -/
theorem norm_of {M : ℕ} (x : (⟨2, ![M, 4096]⟩ : Shape).Idx → EReal) (g : Fin 4096 → EReal) (i : (⟨2, ![M, 4096]⟩ : Shape).Idx)
    (r : Fin M) (n : Fin 4096) (h0 : (i 0 : ℕ) = r) (h1 : (i 1 : ℕ) = n) :
    norm x g i = normed (x (ix2 r n)) (fun k => x (ix2 r k)) (g n) := by
  rw [idx_eq i r n h0 h1]
  rfl

section Ref

open Cert.Reference7Ideal Cert.Reference7Ideal.Gen

/-- The reference's factor of a row: one over the root of the mean of the squares. -/
def factor (x : FVec Ideal S4x4096x4096 .f32) : FVec Ideal S4x4096x1 .f32 :=
  Host.rsqrt (addf (Host.divf (broadcastInDim S4x4096x1 ![0, 1] bcast_S4x4096_S4x4096x1_0_1
      (Host.reduceAdd (mulf x x) (constant S_ .f32 0x00000000#32) reducesTo_S4x4096x4096_S4x4096_d2 h_S_))
    (broadcastInDim S4x4096x1 ![] bcast_S_S4x4096x1 (constant S_ .f32 0x45800000#32)))
    (broadcastInDim S4x4096x1 ![] bcast_S_S4x4096x1 (constant S_ .f32 0x358637BD#32)))

theorem factor_apply (x : FVec Ideal S4x4096x4096 .f32) (b : Fin 4) (t : Fin 4096) :
    factor x (ix3 b t 0) = Ideal.rsqrt (Ideal.div (∑ k : Fin 4096, (x (ix3 b t k) * x (ix3 b t k) : EReal))
      (Ideal.ofBits .f32 0x45800000#32) + Ideal.ofBits .f32 0x358637BD#32) := by
  unfold factor
  pointwise

/-- The reference's result before its tokens are laid end to end. -/
def scaled (x : FVec Ideal S4x4096x4096 .f32) (f : FVec Ideal S4x4096x1 .f32) (g : FVec Ideal S4096 .f32) :
    FVec Ideal S4x4096x4096 .f32 :=
  mulf (mulf x (broadcastInDim S4x4096x4096 ![0, 1, 2] bcast_S4x4096x1_S4x4096x4096_0_1_2 f))
    (broadcastInDim S4x4096x4096 ![0, 1, 2] bcast_S1x1x4096_S4x4096x4096_0_1_2
      (broadcastInDim S1x1x4096 ![2] bcast_S4096_S1x1x4096_2 g))

theorem scaled_apply (x : FVec Ideal S4x4096x4096 .f32) (f : FVec Ideal S4x4096x1 .f32) (g : FVec Ideal S4096 .f32)
    (b : Fin 4) (t n : Fin 4096) :
    scaled x f g (ix3 b t n) = (x (ix3 b t n) * f (ix3 b t 0) * g (ix1 n) : EReal) := by
  unfold scaled
  pointwise

/-- The reference's rows are the normalised rows of its argument. -/
theorem ref_eq (x : FVec Ideal S4x4096x4096 .f32) (g : FVec Ideal S4096 .f32) :
    rows (scaled x (factor x) g) = norm (rows x) (fun n => g (ix1 n)) := by
  funext i
  refine (scaled_apply _ _ _ _ _ _).trans ?_
  rw [factor_apply]
  rfl

end Ref

open Cert.Kernel7Ideal Cert.Kernel7Ideal.Gen

variable (m : (ℓ : Loc nD τ sig) → Buf (Elt Ideal) ℓ)

/-- The body's output block at an index. -/
theorem out_apply (x : Vec Ideal S256x4096 .f32) (g : Vec Ideal S1x4096 .f32) (r : Fin 256) (n : Fin 4096) :
    out0_2 x g (ix2 r n) = normed (x (ix2 r n)) (fun k => x (ix2 r k)) (g (ix2 0 n)) := by
  unfold out0_2 normed
  rw [View.canon_unit_zero (by decide)]
  pointwise [k0_pay1]

/-- The block each window holds at a grid point. -/
theorem index_x : ∀ t : Fin grid0.N, win0_0.index t = ![(grid0.coords t 0).val, 0] := by decide +kernel
theorem index_g : ∀ t : Fin grid0.N, win0_1.index t = ![0, 0] := by decide +kernel
theorem index_o : ∀ t : Fin grid0.N, win0_2.index t = ![(grid0.coords t 0).val, 0] := by decide +kernel
theorem covers : (cfg0.win 2).Covers := by decide +kernel

/-- The row of the result that a row of a point's block is. -/
def row (t : Fin grid0.N) (r : Fin 256) : Fin 16384 :=
  ⟨(grid0.coords t 0).val * 256 + r, by have : (grid0.coords t 0).val < 64 := (grid0.coords t 0).isLt; omega⟩

theorem read_x (c : Dev nD) (t : Fin grid0.N) (r : Fin 256) (k : Fin 4096) :
    (iblk m c 0 t : Vec Ideal S256x4096 .f32) (ix2 r k) = V m c main_v0 (ix2 (row t r) k) := by
  blk_ext [iblk, index_x t, row]

theorem read_g (c : Dev nD) (t : Fin grid0.N) (n : Fin 4096) :
    (iblk m c 1 t : Vec Ideal S1x4096 .f32) (ix2 0 n) = V m c main_v1 (ix2 0 n) := by
  blk_ext [iblk, index_g t]

/-- The result array after the run, over the host arrays. -/
theorem arr_eq (c : Dev nD) : (dats m 0 c).arrAt 2 cfg0.N = norm (M := 16384) (V m c main_v0) (fun n => V m c main_v1 (ix2 0 n)) := by
  refine (dats m 0 c).arrAt_eq_of_covers 2 _ covers fun t hf y => ?_
  blk_simp
  rw [after0_2]
  idx_vars y
  rw [out_apply, read_g, norm_of _ _ _ (row t y0) y1 (by blk_simp [index_o t, row]) (by blk_simp [index_o t])]
  simp only [read_x]

theorem x_eq (c : Dev nD) : (V m c main_v0 : S16384x4096.Idx → EReal) = rows (m ((c : Thread nD τ).loc main_arg0)) := by
  entry_read
  exact rows_cast _ _

theorem g_at (c : Dev nD) (n : Fin 4096) :
    V m c main_v1 (ix2 0 n) = (m ((c : Thread nD τ).loc main_arg1) (ix1 n) : EReal) := by
  entry_read
  pointwise

/-- The claim: both programs run, and end at the normalised rows of their argument. -/
theorem algebraic : Cert.algebraic_Kernel7Ideal_Reference7Ideal (hKernel7Ideal := Cert.Kernel7Ideal.Gen.facts)
    (hReference7Ideal := Cert.Reference7Ideal.Gen.facts) := fun m ρ m' ρ' _ hag => by
  refine ⟨fun c => norm (rows (m ((c : Thread nD τ).loc main_arg0))) (fun n => m ((c : Thread nD τ).loc main_arg1) (ix1 n)), ?_, ?_⟩
  · refine (θ_run defs _ _).mono (fun r h c => ⟨(h c).1.trans ((arr_eq m c).trans ?_), (h c).2⟩)
      (Cert.Kernel7Ideal.Value.run_blocks (F := Ideal) m ρ)
    rw [x_eq]
    exact congrArg (norm _) (funext fun n => g_at m c n)
  · refine (θ_run _ _ _).mono (fun r h c => ⟨(h c).1.trans ?_, (h c).2⟩) (Cert.Reference7Ideal.Value.run (F := Ideal) m' ρ')
    obtain ⟨e0, e1⟩ := hag c
    rw [e0, e1]
    exact (rows_cast _ _).trans (ref_eq _ _)

end Cert.Proof.Norm

end
-- ==== Proof.InProj.lean ====
/- What the input projection's launches share: the columns of its weights, the sigmoid-weighted unit. -/
module

public import proofs.«01_k».proof.Proof.LayerMath

@[expose] public section

noncomputable section

namespace Cert.Proof.InProj

open Idealize.ShloMosaic
open Cert.Proof.LayerMath

/-- `N` columns of the input projection's weights, from column `off` on. -/
def cols (off N : ℕ) (h : off + N ≤ 29120) (w : (⟨2, ![4096, 29120]⟩ : Shape).Idx → EReal) :
    (⟨2, ![4096, N]⟩ : Shape).Idx → EReal :=
  fun i => w (ix2 (i 0) ⟨off + (i 1 : ℕ), by have : (i 1 : ℕ) < N := (i 1).isLt; omega⟩)

/-- `z / (1 + exp (-z))`, as a product. -/
def silu (z : EReal) : EReal :=
  z * Ideal.div (Ideal.ofBits .f32 0x3F800000#32) (Ideal.ofBits .f32 0x3F800000#32 + Ideal.exp (-z))

/-- The integer zero as a number. -/
theorem zero_word : FloatOps.sitofp (F := Ideal) FTy.f32 0#32 = (0 : EReal) := by
  show ((((0#32 : BitVec 32).toInt : ℝ)) : EReal) = 0
  simp

/-- An array over rows and columns is known from its entries. -/
theorem ext2 {M N : ℕ} {f g : (⟨2, ![M, N]⟩ : Shape).Idx → EReal} (h : ∀ r n, f (ix2 r n) = g (ix2 r n)) : f = g := by
  funext i
  rw [idx_eq i (i 0) (i 1) rfl rfl]
  exact h _ _

end Cert.Proof.InProj

end
-- ==== Proof.ProjA.lean ====
/- The input projection of the first branch: both programs end at `xn @ w` for the projection's first 6528 columns, tokens
   end to end, with 128 columns of zeros behind. -/
module

public import proofs.«01_k».proof.Proof.Gen.Kernel8Ideal.Value
public import proofs.«01_k».proof.Proof.Gen.Reference8Ideal.Run
public import proofs.«01_k».proof.Proof.InProj
public import proofs.«01_k».proof.Defs

@[expose] public section

set_option maxRecDepth 16384

noncomputable section

namespace Cert.Proof.ProjA

open Idealize.ShloMosaic Idealize.ShloMosaic.TcCoe Idealize.SL.Sem
open Cert.Proof.LayerMath Cert.Proof.InProj

/-- A matrix of 6528 columns with 128 columns of zeros behind. -/
def padded {M : ℕ} (y : (⟨2, ![M, 6528]⟩ : Shape).Idx → EReal) : (⟨2, ![M, 6656]⟩ : Shape).Idx → EReal :=
  fun i => if h : (i 1 : ℕ) < 6528 then y (ix2 (i 0) ⟨i 1, h⟩) else 0

/-- The product of rows with a matrix, over whole arrays. -/
def product {N : ℕ} (a : (⟨2, ![16384, 4096]⟩ : Shape).Idx → EReal) (w : (⟨2, ![4096, N]⟩ : Shape).Idx → EReal) :
    (⟨2, ![16384, N]⟩ : Shape).Idx → EReal := fun i => prodAt a w (i 0) (i 1)

/-- Zero columns of the weights make zero columns of the product. -/
theorem product_padded (a : (⟨2, ![16384, 4096]⟩ : Shape).Idx → EReal) (w : (⟨2, ![4096, 6528]⟩ : Shape).Idx → EReal) :
    product a (padded w) = padded (product a w) := by
  refine ext2 fun r n => ?_
  show (∑ k : Fin 4096, a (ix2 r k) * (if h : (n : ℕ) < 6528 then w (ix2 k ⟨n, h⟩) else 0))
    = if h : (n : ℕ) < 6528 then ∑ k : Fin 4096, a (ix2 r k) * w (ix2 k ⟨n, h⟩) else 0
  by_cases h : (n : ℕ) < 6528
  · simp only [dif_pos h]
  · simp only [dif_neg h, mul_zero, Finset.sum_const_zero]

section Ref

open Cert.Reference8Ideal Cert.Reference8Ideal.Gen

/-- The reference's product, tokens end to end. -/
def part (x : FVec Ideal S4x4096x4096 .f32) (w : FVec Ideal S4096x29120 .f32) : FVec Ideal S16384x6528 .f32 :=
  shapeCast _ (extractStridedSlice S4x4096x6528 ![0, 0, 0]
    (Host.dotGeneral dot_S4x4096x4096_S4096x29120_S4x4096x29120_2_0_01_1_n_n none x w)
    slices_S4x4096x29120_S4x4096x6528_0_0_0) shapeCasts_S4x4096x6528_S16384x6528

theorem part_apply (x : FVec Ideal S4x4096x4096 .f32) (w : FVec Ideal S4096x29120 .f32) (r : Fin 16384) (n : Fin 6528) :
    part x w (ix2 r n) = prodAt (rows x) (cols 0 6528 (by decide) w) r n := by
  unfold part prodAt rows cols
  pointwise

/-- The reference's columns of zeros. -/
def behind (y : FVec Ideal S16384x6528 .f32) : FVec Ideal S16384x6656 .bf16 :=
  truncf .bf16 (pad S16384x6656 ![0, 0] ![0, 128] ![0, 0] y (sitofp .f32 (constantI S_ 32 0#32))
    pads_S16384x6528_S16384x6656_000_01280 h_S_) bitsLt_bf16_f32

theorem behind_apply (y : FVec Ideal S16384x6528 .f32) (r : Fin 16384) (n : Fin 6656) :
    behind y (ix2 r n) = padded y (ix2 r n) := by
  unfold behind padded
  pointwise
  exact dite_congr rfl (fun _ => rfl) fun _ => zero_word

theorem ref_eq (x : FVec Ideal S4x4096x4096 .f32) (w : FVec Ideal S4096x29120 .f32) :
    (behind (part x w) : S16384x6656.Idx → EReal) = padded (product (rows x) (cols 0 6528 (by decide) w)) := by
  refine ext2 fun r n => (behind_apply _ r n).trans (congrArg (fun y => padded y (ix2 r n)) (ext2 fun r n => part_apply x w r n))

end Ref

open Cert.Kernel8Ideal Cert.Kernel8Ideal.Gen

variable (m : (ℓ : Loc nD τ sig) → Buf (Elt Ideal) ℓ)

/-- The body's output block at an index. -/
theorem out_apply (a : Vec Ideal S1024x4096 .bf16) (w : Vec Ideal S4096x512 .bf16) (r : Fin 1024) (n : Fin 512) :
    out0_2 a w (ix2 r n) = prodAt a w r n := by
  unfold out0_2 prodAt
  rw [View.canon_unit_zero (by decide)]
  pointwise [k0_pay1]

/-- The block each window holds at a grid point (row block, column block), and that every block of the result is
    written back. -/
theorem index_a : ∀ t : Fin grid0.N, win0_0.index t = ![(grid0.coords t 0).val, 0] := by decide +kernel
theorem index_w : ∀ t : Fin grid0.N, win0_1.index t = ![0, (grid0.coords t 1).val] := by decide +kernel
theorem index_o : ∀ t : Fin grid0.N, win0_2.index t = ![(grid0.coords t 0).val, (grid0.coords t 1).val] := by decide +kernel
theorem covers : (cfg0.win 2).Covers := by decide +kernel

/-- The row and the column of the result that a place of a point's block is. -/
def row (t : Fin grid0.N) (r : Fin 1024) : Fin 16384 :=
  ⟨(grid0.coords t 0).val * 1024 + r, by have : (grid0.coords t 0).val < 16 := (grid0.coords t 0).isLt; omega⟩
def col (t : Fin grid0.N) (n : Fin 512) : Fin 6656 :=
  ⟨(grid0.coords t 1).val * 512 + n, by have : (grid0.coords t 1).val < 13 := (grid0.coords t 1).isLt; omega⟩

/-- The result array after the run, over the host arrays. -/
theorem arr_eq (c : Dev nD) : (dats m 0 c).arrAt 2 cfg0.N = product (V m c main_v4) (V m c main_v2) := by
  refine (dats m 0 c).arrAt_eq_of_covers 2 _ covers fun t hf y => ?_
  blk_simp
  rw [after0_2]
  idx_vars y
  rw [out_apply]
  unfold product
  refine (prodAt_congr (r' := row t y0) (n' := col t y1) (fun k => ?_) (fun k => ?_)).trans
    (congrArg₂ (prodAt (V m c main_v4) (V m c main_v2)) (Fin.ext ?_) (Fin.ext ?_))
  · blk_ext [iblk, index_a t, row]
  · blk_ext [iblk, index_w t, col]
  · blk_simp [index_o t, row]
  · blk_simp [index_o t, col]

theorem x_eq (c : Dev nD) : (V m c main_v4 : S16384x4096.Idx → EReal) = rows (m ((c : Thread nD τ).loc main_arg0)) := by
  entry_read
  exact rows_cast _ _

/-- The padded weights at an index. -/
theorem w_at (c : Dev nD) (k : Fin 4096) (n : Fin 6656) : V m c main_v2 (ix2 k n)
    = (if h : (n : ℕ) < 6528 then m ((c : Thread nD τ).loc main_arg1) (ix2 k ⟨0 + n, by omega⟩) else (0 : EReal) : EReal) := by
  unfold V
  simp only [List.flatten_cons, List.flatten_nil, List.append_nil, List.cons_append, List.nil_append]
  entry_read
  simp only [StableHlo.TRef.toBuf, StableHlo.TRef.ofBuf, cast_eq]
  pointwise
  exact dite_congr rfl (fun _ => rfl) fun _ => zero_word

theorem w_eq (c : Dev nD) : (V m c main_v2 : S4096x6656.Idx → EReal)
    = padded (cols 0 6528 (by decide) (m ((c : Thread nD τ).loc main_arg1))) := by
  exact ext2 fun k n => w_at m c k n

/-- The claim: both programs run, and end at the projection of their arguments. -/
theorem algebraic : Cert.algebraic_Kernel8Ideal_Reference8Ideal (hKernel8Ideal := Cert.Kernel8Ideal.Gen.facts)
    (hReference8Ideal := Cert.Reference8Ideal.Gen.facts) := fun m ρ m' ρ' _ hag => by
  refine ⟨fun c => padded (product (rows (m ((c : Thread nD τ).loc main_arg0)))
    (cols 0 6528 (by decide) (m ((c : Thread nD τ).loc main_arg1)))), ?_, ?_⟩
  · refine (θ_run defs _ _).mono (fun r h c => ⟨(h c).1.trans ((arr_eq m c).trans ?_), (h c).2⟩)
      (Cert.Kernel8Ideal.Value.run_blocks (F := Ideal) m ρ)
    rw [x_eq, w_eq, product_padded]
  · refine (θ_run _ _ _).mono (fun r h c => ⟨(h c).1.trans ?_, (h c).2⟩) (Cert.Reference8Ideal.Value.run (F := Ideal) m' ρ')
    obtain ⟨e0, e1⟩ := hag c
    rw [e0, e1]
    exact ref_eq _ _

end Cert.Proof.ProjA

end
-- ==== Proof.ProjVG.lean ====
/- The third branch's values and output gates: both programs end at `xn @ w` for the values' columns and at its
   sigmoid-weighted unit for the output gates' columns, side by side, tokens end to end. -/
module

public import proofs.«01_k».proof.Proof.Gen.Kernel9Ideal.Value
public import proofs.«01_k».proof.Proof.Gen.Reference9Ideal.Run
public import proofs.«01_k».proof.Proof.InProj
public import proofs.«01_k».proof.Defs

@[expose] public section

set_option maxRecDepth 16384

noncomputable section

namespace Cert.Proof.ProjVG

open Idealize.ShloMosaic Idealize.ShloMosaic.TcCoe Idealize.SL.Sem
open Cert.Proof.LayerMath Cert.Proof.InProj

/-- The values' columns as they are, the gates' columns through the unit. -/
def half (b : Prop) [Decidable b] (z : EReal) : EReal := if b then z else silu z

/-- Values and gates of a product of rows with a matrix. -/
def valueGates (a : (⟨2, ![16384, 4096]⟩ : Shape).Idx → EReal) (w : (⟨2, ![4096, 4096]⟩ : Shape).Idx → EReal)
    (i : (⟨2, ![16384, 4096]⟩ : Shape).Idx) : EReal := half ((i 1 : ℕ) < 2048) (prodAt a w (i 0) (i 1))

/-- The values' and the gates' columns of the input projection. -/
abbrev vgCols (w : (⟨2, ![4096, 29120]⟩ : Shape).Idx → EReal) : (⟨2, ![4096, 4096]⟩ : Shape).Idx → EReal :=
  cols 12736 4096 (by decide) w

section Ref

open Cert.Reference9Ideal Cert.Reference9Ideal.Gen

/-- The reference's columns of the third branch: queries, keys, values, gates. -/
def branch (x : FVec Ideal S4x4096x4096 .f32) (w : FVec Ideal S4096x29120 .f32) : FVec Ideal S4x4096x8192 .f32 :=
  extractStridedSlice S4x4096x8192 ![0, 0, 8640]
    (Host.dotGeneral dot_S4x4096x4096_S4096x29120_S4x4096x29120_2_0_01_1_n_n none x w) slices_S4x4096x29120_S4x4096x8192_0_0_8640

theorem branch_apply (x : FVec Ideal S4x4096x4096 .f32) (w : FVec Ideal S4096x29120 .f32) (b : Fin 4) (t : Fin 4096) (n : Fin 4096) :
    branch x w (ix3 b t ⟨4096 + n, by omega⟩) = (∑ k : Fin 4096, x (ix3 b t k) * vgCols w (ix2 k n) : EReal) := by
  unfold branch vgCols cols
  pointwise
  refine Finset.sum_congr rfl fun k _ => congrArg (fun j => (x (ix3 b t k) * w (ix2 k j) : EReal)) (Fin.ext ?_)
  dsimp only
  omega

/-- The reference's gates. -/
def unit (h : FVec Ideal S4x4096x2048 .f32) : FVec Ideal S4x4096x2048 .f32 :=
  mulf h (Host.divf (broadcastInDim S4x4096x2048 ![] bcast_S_S4x4096x2048 (constant S_ .f32 0x3F800000#32))
    (addf (broadcastInDim S4x4096x2048 ![] bcast_S_S4x4096x2048 (constant S_ .f32 0x3F800000#32)) (Host.exp (Host.negf h))))

theorem unit_apply (h : FVec Ideal S4x4096x2048 .f32) (j : S4x4096x2048.Idx) : unit h j = silu (h j) := by
  unfold unit silu
  pointwise

/-- The reference's values and gates side by side, tokens end to end. -/
def beside (h : FVec Ideal S4x4096x8192 .f32) : FVec Ideal S16384x4096 .bf16 :=
  truncf .bf16 (shapeCast _ (concatenate S4x4096x4096 2
    [⟨S4x4096x2048, extractStridedSlice S4x4096x2048 ![0, 0, 4096] h slices_S4x4096x8192_S4x4096x2048_0_0_4096⟩,
     ⟨S4x4096x2048, unit (extractStridedSlice S4x4096x2048 ![0, 0, 6144] h slices_S4x4096x8192_S4x4096x2048_0_0_6144)⟩]
    concatenates_S4x4096x2048_S4x4096x2048_S4x4096x4096_d2) shapeCasts_S4x4096x4096_S16384x4096) bitsLt_bf16_f32

theorem beside_apply (h : FVec Ideal S4x4096x8192 .f32) (r : Fin 16384) (n : Fin 4096) :
    beside h (ix2 r n) = half ((n : ℕ) < 2048) (h (ix3 ⟨r / 4096, by omega⟩ ⟨r % 4096, by omega⟩ ⟨4096 + n, by omega⟩)) := by
  unfold beside half
  pointwise [unit_apply]
  split
  · rfl
  · rename_i hn
    refine congrArg silu (congrArg h (congrArg (ix3 _ _) (Fin.ext ?_)))
    dsimp only
    omega

theorem ref_eq (x : FVec Ideal S4x4096x4096 .f32) (w : FVec Ideal S4096x29120 .f32) :
    (beside (branch x w) : S16384x4096.Idx → EReal) = valueGates (rows x) (vgCols w) := by
  refine ext2 fun r n => (beside_apply _ r n).trans ?_
  rw [branch_apply]
  rfl

end Ref

open Cert.Kernel9Ideal Cert.Kernel9Ideal.Gen

variable (m : (ℓ : Loc nD τ sig) → Buf (Elt Ideal) ℓ)

/-- The body's test of its column block. -/
theorem test_eq : ∀ n : Fin 4, Scalar.cmpi .slt (BitVec.ofNat 32 n.val) 2#32 = if n.val < 2 then 1#1 else 0#1 := by decide

/-- The body's output block at an index. -/
theorem out_apply (i : grid0.Coords) (a : Vec Ideal S1024x4096 .bf16) (w : Vec Ideal S4096x1024 .bf16) (r : Fin 1024) (n : Fin 1024) :
    out0_2 i a w (ix2 r n) = half ((i 1).val < 2) (prodAt a w r n) := by
  unfold out0_2 prodAt half silu
  rw [View.canon_unit_zero (by decide), ← zero_sub]
  unfold k0_pay1
  dsimp only
  rw [test_eq (i 1)]
  have e1 : (1#1 : BitVec 1) = 1 := rfl
  have e0 : ¬ (0#1 : BitVec 1) = 1 := by decide
  split
  · simp only [Scalar.select, if_pos e1]
    pointwise
  · simp only [Scalar.select, if_neg e0]
    pointwise

/-- The block each window holds at a grid point (row block, column block), and that every block of the result is
    written back. -/
theorem index_a : ∀ t : Fin grid0.N, win0_0.index t = ![(grid0.coords t 0).val, 0] := by decide +kernel
theorem index_w : ∀ t : Fin grid0.N, win0_1.index t = ![0, (grid0.coords t 1).val] := by decide +kernel
theorem index_o : ∀ t : Fin grid0.N, win0_2.index t = ![(grid0.coords t 0).val, (grid0.coords t 1).val] := by decide +kernel
theorem covers : (cfg0.win 2).Covers := by decide +kernel

/-- The row and the column of the result that a place of a point's block is. -/
def row (t : Fin grid0.N) (r : Fin 1024) : Fin 16384 :=
  ⟨(grid0.coords t 0).val * 1024 + r, by have : (grid0.coords t 0).val < 16 := (grid0.coords t 0).isLt; omega⟩
def col (t : Fin grid0.N) (n : Fin 1024) : Fin 4096 :=
  ⟨(grid0.coords t 1).val * 1024 + n, by have : (grid0.coords t 1).val < 4 := (grid0.coords t 1).isLt; omega⟩

/-- The result array after the run, over the host arrays. -/
theorem arr_eq (c : Dev nD) : (dats m 0 c).arrAt 2 cfg0.N = valueGates (V m c main_v3) (V m c main_v1) := by
  refine (dats m 0 c).arrAt_eq_of_covers 2 _ covers fun t hf y => ?_
  blk_simp
  rw [after0_2]
  idx_vars y
  rw [out_apply]
  have hc : (grid0.coords t 1).val < 2 ↔ (col t y1 : ℕ) < 2048 := by
    show _ ↔ (grid0.coords t 1).val * 1024 + (y1 : ℕ) < 2048
    omega
  have key : ∀ i : S16384x4096.Idx, (i 0 : ℕ) = row t y0 → (i 1 : ℕ) = col t y1 →
      half ((col t y1 : ℕ) < 2048) (prodAt (V m c main_v3) (V m c main_v1) (row t y0) (col t y1))
        = valueGates (V m c main_v3) (V m c main_v1) i := fun i h0 h1 => by
    rw [idx_eq i (row t y0) (col t y1) h0 h1]
    rfl
  refine Eq.trans ?_ (key _ (by blk_simp [index_o t, row]) (by blk_simp [index_o t, col]))
  unfold half
  refine (if_congr hc rfl rfl).trans ?_
  refine congrArg (fun z : EReal => if (col t y1 : ℕ) < 2048 then z else silu z)
    (prodAt_congr (r' := row t y0) (n' := col t y1) (fun k => ?_) (fun k => ?_))
  · blk_ext [iblk, index_a t, row]
  · blk_ext [iblk, index_w t, col]

theorem x_eq (c : Dev nD) : (V m c main_v3 : S16384x4096.Idx → EReal) = rows (m ((c : Thread nD τ).loc main_arg0)) := by
  entry_read
  exact rows_cast _ _

theorem w_eq (c : Dev nD) : (V m c main_v1 : S4096x4096.Idx → EReal) = vgCols (m ((c : Thread nD τ).loc main_arg1)) := by
  refine ext2 fun k n => ?_
  show V m c main_v1 _ = _
  entry_read
  unfold vgCols cols
  pointwise

/-- The claim: both programs run, and end at the values and gates of their arguments. -/
theorem algebraic : Cert.algebraic_Kernel9Ideal_Reference9Ideal (hKernel9Ideal := Cert.Kernel9Ideal.Gen.facts)
    (hReference9Ideal := Cert.Reference9Ideal.Gen.facts) := fun m ρ m' ρ' _ hag => by
  refine ⟨fun c => valueGates (rows (m ((c : Thread nD τ).loc main_arg0))) (vgCols (m ((c : Thread nD τ).loc main_arg1))), ?_, ?_⟩
  · refine (θ_run defs _ _).mono (fun r h c => ⟨(h c).1.trans ((arr_eq m c).trans ?_), (h c).2⟩)
      (Cert.Kernel9Ideal.Value.run_blocks (F := Ideal) m ρ)
    rw [x_eq, w_eq]
  · refine (θ_run _ _ _).mono (fun r h c => ⟨(h c).1.trans ?_, (h c).2⟩) (Cert.Reference9Ideal.Value.run (F := Ideal) m' ρ')
    obtain ⟨e0, e1⟩ := hag c
    rw [e0, e1]
    exact ref_eq _ _

end Cert.Proof.ProjVG

end
-- ==== Proof.Rope.lean ====
/- The rotary embedding of one head: a row's first half and second half turned against each other by the angles of the
   row's position. -/
module

public import proofs.«01_k».proof.Proof.InProj

@[expose] public section

noncomputable section

namespace Cert.Proof.Rope

open Idealize.ShloMosaic

/-- A head of `2 * H` columns turned by `H` angles, given by their cosines and sines. -/
def turn {H N : ℕ} (hN : N = H + H) (z : Fin N → EReal) (c s : Fin H → EReal) (e : Fin N) : EReal :=
  if h : (e : ℕ) < H then z e * c ⟨e, h⟩ - z ⟨e + H, by omega⟩ * s ⟨e, h⟩
  else z ⟨e - H, by omega⟩ * s ⟨e - H, by omega⟩ + z e * c ⟨e - H, by omega⟩

/-- Equal heads turned by equal angles. -/
theorem turn_congr {H N : ℕ} {hN : N = H + H} {z z' : Fin N → EReal} {c c' s s' : Fin H → EReal} {e e' : Fin N}
    (hz : ∀ k, z k = z' k) (hc : ∀ k, c k = c' k) (hs : ∀ k, s k = s' k) (he : (e : ℕ) = e') :
    turn hN z c s e = turn hN z' c' s' e' := by
  rw [funext hz, funext hc, funext hs, Fin.ext he]

/-- The first half's and the second half's terms at equal places. -/
theorem lo_congr {N H : ℕ} (z : Fin N → EReal) (c s : Fin H → EReal) {i i' k k' : Fin N} {j j' l l' : Fin H}
    (hi : (i : ℕ) = i') (hj : (j : ℕ) = j') (hk : (k : ℕ) = k') (hl : (l : ℕ) = l') :
    z i * c j - z k * s l = z i' * c j' - z k' * s l' := by
  rw [Fin.ext hi, Fin.ext hj, Fin.ext hk, Fin.ext hl]

theorem hi_congr {N H : ℕ} (z : Fin N → EReal) (c s : Fin H → EReal) {i i' k k' : Fin N} {j j' l l' : Fin H}
    (hi : (i : ℕ) = i') (hj : (j : ℕ) = j') (hk : (k : ℕ) = k') (hl : (l : ℕ) = l') :
    z i * s j + z k * c l = z i' * s j' + z k' * c l' := by
  rw [Fin.ext hi, Fin.ext hj, Fin.ext hk, Fin.ext hl]

/-- An index of known coordinates. -/
theorem idx_eq3 {L M N : ℕ} (i : (⟨3, ![L, M, N]⟩ : Shape).Idx) (h : Fin L) (r : Fin M) (n : Fin N) (h0 : (i 0 : ℕ) = h)
    (h1 : (i 1 : ℕ) = r) (h2 : (i 2 : ℕ) = n) : i = ix3 h r n := by
  funext a
  match a with
  | ⟨0, _⟩ => exact Fin.ext h0
  | ⟨1, _⟩ => exact Fin.ext h1
  | ⟨2, _⟩ => exact Fin.ext h2

/-- One head's weights. -/
def slab {L K N : ℕ} (w : (⟨3, ![L, K, N]⟩ : Shape).Idx → EReal) (h : Fin L) : (⟨2, ![K, N]⟩ : Shape).Idx → EReal :=
  fun i => w (ix3 h (i 0) (i 1))

/-! The tables of a head's 64 columns and of the 64 after them: the cosines twice over; the sines, first negated; zeros. -/

def cosTab (c : Fin 32 → EReal) (j : Fin 128) : EReal :=
  if h : (j : ℕ) < 32 then c ⟨j, h⟩ else if h : (j : ℕ) < 64 then c ⟨j - 32, by omega⟩ else 0

def sinTab (s : Fin 32 → EReal) (j : Fin 128) : EReal :=
  if h : (j : ℕ) < 32 then -s ⟨j, h⟩ else if h : (j : ℕ) < 64 then s ⟨j - 32, by omega⟩ else 0

/-- A row of 128 columns times a table, plus the row rotated by half times another. -/
def paired (z : Fin 128 → EReal) (C S : Fin 128 → EReal) (j : Fin 128) : EReal :=
  z j * C j + z ⟨(j + 64) % 128, by omega⟩ * S j

/-- A turned head, then zeros. -/
def turned (y : Fin 64 → EReal) (c s : Fin 32 → EReal) (j : Fin 128) : EReal :=
  if h : (j : ℕ) < 64 then turn (N := 64) rfl y c s ⟨j, h⟩ else 0

/-- With a head and, after it, the head with its halves swapped, the paired products turn the head. -/
theorem paired_eq (z : Fin 128 → EReal) (y : Fin 64 → EReal) (c s : Fin 32 → EReal) (j : Fin 128)
    (h0 : ∀ e : Fin 64, z ⟨e, by omega⟩ = y e) (h1 : ∀ e : Fin 64, z ⟨64 + e, by omega⟩ = y ⟨(e + 32) % 64, by omega⟩) :
    paired z (cosTab c) (sinTab s) j = turned y c s j := by
  unfold paired turned cosTab sinTab
  by_cases b : (j : ℕ) < 64
  · rw [dif_pos b]
    have e0 : z j = y ⟨j, b⟩ := h0 ⟨j, b⟩
    have e1 : z ⟨(j + 64) % 128, by omega⟩ = y ⟨(j + 32) % 64, by omega⟩ := by
      refine Eq.trans (congrArg z (Fin.ext ?_)) (h1 ⟨j, b⟩)
      dsimp only
      omega
    rw [e0, e1]
    unfold turn
    by_cases d : (j : ℕ) < 32
    · rw [dif_pos d, dif_pos d, dif_pos d, mul_neg, ← sub_eq_add_neg]
      exact lo_congr y c s rfl rfl (by dsimp only <;> omega) rfl
    · rw [dif_neg d, dif_neg d, dif_neg d, dif_pos b, dif_pos b, add_comm]
      exact hi_congr y c s (by dsimp only <;> omega) rfl rfl rfl
  · have d : ¬ (j : ℕ) < 32 := by omega
    rw [dif_neg b, dif_neg d, dif_neg d, dif_neg b, dif_neg b, mul_zero, mul_zero, add_zero]

end Cert.Proof.Rope

end
-- ==== Proof.ProjQK.lean ====
/- The third branch's queries and keys: both programs end at `xn @ w` for their columns, each head turned by the rotary
   embedding of its token's position, the queries times the scale, tokens end to end. -/
module

public import proofs.«01_k».proof.Proof.Gen.Kernel10Ideal.Value
public import proofs.«01_k».proof.Proof.Gen.Reference10Ideal.Run
public import proofs.«01_k».proof.Proof.Rope
public import proofs.«01_k».proof.Defs

@[expose] public section

set_option maxRecDepth 16384

noncomputable section

namespace Cert.Proof.ProjQK

open Idealize.ShloMosaic Idealize.ShloMosaic.TcCoe Idealize.SL.Sem
open Cert.Proof.LayerMath Cert.Proof.InProj Cert.Proof.Rope

/-- The queries' scale, and the keys'. -/
def scale (b : Prop) [Decidable b] : EReal := if b then Ideal.ofBits .f32 0x3D800000#32 else 1

/-- A row of heads of 256 columns, every head turned, read at a column. -/
def heads {N : ℕ} (z : Fin N → EReal) (c s : Fin 128 → EReal) (n : Fin N) (hN : 256 ∣ N) : EReal :=
  turn (N := 256) rfl (fun e => z ⟨n / 256 * 256 + e, by obtain ⟨q, rfl⟩ := hN; omega⟩) c s ⟨n % 256, by omega⟩

/-- Queries and keys of a product of rows with a matrix, turned by tables of cosines and sines of the positions. -/
def turned (a : (⟨2, ![16384, 4096]⟩ : Shape).Idx → EReal) (w : (⟨2, ![4096, 4096]⟩ : Shape).Idx → EReal)
    (C S : (⟨2, ![4096, 128]⟩ : Shape).Idx → EReal) (i : (⟨2, ![16384, 4096]⟩ : Shape).Idx) : EReal :=
  heads (prodAt a w (i 0)) (fun j => C (ix2 ⟨(i 0 : ℕ) % 4096, by omega⟩ j)) (fun j => S (ix2 ⟨(i 0 : ℕ) % 4096, by omega⟩ j))
    (i 1) (by decide) * scale ((i 1 : ℕ) < 2048)

/-- The queries' and the keys' columns of the input projection. -/
abbrev qkCols (w : (⟨2, ![4096, 29120]⟩ : Shape).Idx → EReal) : (⟨2, ![4096, 4096]⟩ : Shape).Idx → EReal :=
  cols 8640 4096 (by decide) w

section Ref

open Cert.Reference10Ideal Cert.Reference10Ideal.Gen

/-- The reference's columns of the third branch: queries, keys, values, gates. -/
def branch (x : FVec Ideal S4x4096x4096 .f32) (w : FVec Ideal S4096x29120 .f32) : FVec Ideal S4x4096x8192 .f32 :=
  extractStridedSlice S4x4096x8192 ![0, 0, 8640]
    (Host.dotGeneral dot_S4x4096x4096_S4096x29120_S4x4096x29120_2_0_01_1_n_n none x w) slices_S4x4096x29120_S4x4096x8192_0_0_8640

theorem branch_apply (x : FVec Ideal S4x4096x4096 .f32) (w : FVec Ideal S4096x29120 .f32) (r : Fin 16384) (n : Fin 4096) :
    branch x w (ix3 ⟨r / 4096, by omega⟩ ⟨r % 4096, by omega⟩ ⟨n, by omega⟩) = prodAt (rows x) (qkCols w) r n := by
  unfold branch prodAt rows qkCols cols
  pointwise

/-- The reference's angles: position times frequency. -/
def angles : FVec Ideal S4096x128 .f32 :=
  mulf (broadcastInDim S4096x128 ![0, 1] bcast_S4096x1_S4096x128_0_1 (broadcastInDim S4096x1 ![0] bcast_S4096_S4096x1_0 (sitofp .f32 (iotaInDim S4096 32 0))))
    (broadcastInDim S4096x128 ![0, 1] bcast_S1x128_S4096x128_0_1 (broadcastInDim S1x128 ![1] bcast_S128_S1x128_1
      (Host.powf (broadcastInDim S128 ![] bcast_S_S128 (constant S_ .f32 0x461C4000#32))
        (Host.divf (Host.negf (addf (broadcastInDim S128 ![] bcast_S_S128 (constant S_ .f32 0x00000000#32))
          (mulf (broadcastInDim S128 ![] bcast_S_S128 (constant S_ .f32 0x40000000#32)) (sitofp .f32 (iotaInDim S128 32 0)))))
          (broadcastInDim S128 ![] bcast_S_S128 (constant S_ .f32 0x43800000#32))))))

/-- A table of the positions, for every sequence and head. -/
def spread (A : FVec Ideal S4096x1x128 .f32) : FVec Ideal S4x4096x8x128 .f32 :=
  broadcastInDim S4x4096x8x128 ![0, 1, 2, 3] bcast_S1x4096x1x128_S4x4096x8x128_0_1_2_3
    (broadcastInDim S1x4096x1x128 ![1, 2, 3] bcast_S4096x1x128_S1x4096x1x128_1_2_3 A)

theorem cos_apply (A : FVec Ideal S4096x128 .f32) (b : Fin 4) (t : Fin 4096) (h : Fin 8) (j : Fin 128) :
    spread (Host.cos (shapeCast _ A shapeCasts_S4096x128_S4096x1x128)) (ix4 b t h j) = Host.cos A (ix2 t j) := by
  unfold spread
  pointwise

theorem sin_apply (A : FVec Ideal S4096x128 .f32) (b : Fin 4) (t : Fin 4096) (h : Fin 8) (j : Fin 128) :
    spread (Host.sin (shapeCast _ A shapeCasts_S4096x128_S4096x1x128)) (ix4 b t h j) = Host.sin A (ix2 t j) := by
  unfold spread
  pointwise

/-- The reference's rotary embedding. -/
def rope (z : FVec Ideal S4x4096x2048 .f32) (A : FVec Ideal S4096x128 .f32) : FVec Ideal S4x4096x8x256 .f32 :=
  concatenate S4x4096x8x256 3
    [⟨S4x4096x8x128, subf
      (mulf (extractStridedSlice S4x4096x8x128 ![0, 0, 0, 0] (shapeCast _ z shapeCasts_S4x4096x2048_S4x4096x8x256) slices_S4x4096x8x256_S4x4096x8x128_0_0_0_0)
        (spread (Host.cos (shapeCast _ A shapeCasts_S4096x128_S4096x1x128))))
      (mulf (extractStridedSlice S4x4096x8x128 ![0, 0, 0, 128] (shapeCast _ z shapeCasts_S4x4096x2048_S4x4096x8x256) slices_S4x4096x8x256_S4x4096x8x128_0_0_0_128)
        (spread (Host.sin (shapeCast _ A shapeCasts_S4096x128_S4096x1x128))))⟩,
     ⟨S4x4096x8x128, addf
      (mulf (extractStridedSlice S4x4096x8x128 ![0, 0, 0, 0] (shapeCast _ z shapeCasts_S4x4096x2048_S4x4096x8x256) slices_S4x4096x8x256_S4x4096x8x128_0_0_0_0)
        (spread (Host.sin (shapeCast _ A shapeCasts_S4096x128_S4096x1x128))))
      (mulf (extractStridedSlice S4x4096x8x128 ![0, 0, 0, 128] (shapeCast _ z shapeCasts_S4x4096x2048_S4x4096x8x256) slices_S4x4096x8x256_S4x4096x8x128_0_0_0_128)
        (spread (Host.cos (shapeCast _ A shapeCasts_S4096x128_S4096x1x128))))⟩]
    concatenates_S4x4096x8x128_S4x4096x8x128_S4x4096x8x256_d3

theorem rope_apply (z : FVec Ideal S4x4096x2048 .f32) (A : FVec Ideal S4096x128 .f32) (b : Fin 4) (t : Fin 4096) (h : Fin 8) (e : Fin 256) :
    rope z A (ix4 b t h e) = turn (N := 256) rfl (fun k => z (ix3 b t ⟨h * 256 + k, by omega⟩))
      (fun j => Host.cos A (ix2 t j)) (fun j => Host.sin A (ix2 t j)) e := by
  unfold rope turn
  simp only [← cos_apply A b t h, ← sin_apply A b t h]
  generalize spread (Host.cos (shapeCast _ A shapeCasts_S4096x128_S4096x1x128)) = C
  generalize spread (Host.sin (shapeCast _ A shapeCasts_S4096x128_S4096x1x128)) = S
  pointwise
  split
  · exact lo_congr (fun k => z (ix3 b t k)) (fun j => C (ix4 b t h j)) (fun j => S (ix4 b t h j))
      (by dsimp only <;> omega) (by dsimp only <;> omega) (by dsimp only <;> omega) (by dsimp only <;> omega)
  · exact hi_congr (fun k => z (ix3 b t k)) (fun j => C (ix4 b t h j)) (fun j => S (ix4 b t h j))
      (by dsimp only <;> omega) (by dsimp only <;> omega) (by dsimp only <;> omega) (by dsimp only <;> omega)

/-- The reference's result from the branch's columns. -/
def beside (h : FVec Ideal S4x4096x8192 .f32) (A : FVec Ideal S4096x128 .f32) : FVec Ideal S16384x4096 .bf16 :=
  truncf .bf16 (concatenate S16384x4096 1
    [⟨S16384x2048, shapeCast _ (mulf (rope (extractStridedSlice S4x4096x2048 ![0, 0, 0] h slices_S4x4096x8192_S4x4096x2048_0_0_0) A)
        (broadcastInDim S4x4096x8x256 ![] bcast_S_S4x4096x8x256 (constant S_ .f32 0x3D800000#32))) shapeCasts_S4x4096x8x256_S16384x2048⟩,
     ⟨S16384x2048, shapeCast _ (rope (extractStridedSlice S4x4096x2048 ![0, 0, 2048] h slices_S4x4096x8192_S4x4096x2048_0_0_2048) A)
        shapeCasts_S4x4096x8x256_S16384x2048⟩] concatenates_S16384x2048_S16384x2048_S16384x4096_d1) bitsLt_bf16_f32

theorem beside_apply (h : FVec Ideal S4x4096x8192 .f32) (A : FVec Ideal S4096x128 .f32) (r : Fin 16384) (n : Fin 4096) :
    beside h A (ix2 r n) = heads (fun k : Fin 4096 => h (ix3 ⟨r / 4096, by omega⟩ ⟨r % 4096, by omega⟩ ⟨k, by omega⟩))
      (fun j => Host.cos A (ix2 ⟨r % 4096, by omega⟩ j)) (fun j => Host.sin A (ix2 ⟨r % 4096, by omega⟩ j)) n (by decide)
        * scale ((n : ℕ) < 2048) := by
  unfold beside scale heads
  pointwise [rope_apply]
  split
  · refine congrArg (fun z : EReal => z * Ideal.ofBits .f32 0x3D800000#32) (turn_congr (fun k => ?_) (fun _ => rfl) (fun _ => rfl) ?_)
    · exact congrArg h (congrArg (ix3 _ _) (Fin.ext (by dsimp only <;> omega)))
    · dsimp only <;> omega
  · rw [mul_one]
    refine turn_congr (fun k => ?_) (fun _ => rfl) (fun _ => rfl) ?_
    · exact congrArg h (congrArg (ix3 _ _) (Fin.ext (by dsimp only <;> omega)))
    · dsimp only <;> omega

theorem ref_eq (x : FVec Ideal S4x4096x4096 .f32) (w : FVec Ideal S4096x29120 .f32) :
    (beside (branch x w) angles : S16384x4096.Idx → EReal)
      = turned (rows x) (qkCols w) (Host.cos angles) (Host.sin angles) := by
  refine ext2 fun r n => (beside_apply _ _ r n).trans ?_
  simp only [branch_apply]
  rfl

end Ref

open Cert.Kernel10Ideal Cert.Kernel10Ideal.Gen

variable (m : (ℓ : Loc nD τ sig) → Buf (Elt Ideal) ℓ)

/-- The body's four heads side by side, turned. -/
def lanes (z : FVec Ideal S1024x1024 .f32) (C S : FVec Ideal S1024x128 .f32) : FVec Ideal S1024x1024 .f32 :=
  concatenate S1024x1024 1
    [⟨S1024x128, subf (mulf (extractStridedSlice S1024x128 ![0, 0] z slices_S1024x1024_o0_0_S1024x128) C)
      (mulf (extractStridedSlice S1024x128 ![0, 128] z slices_S1024x1024_o0_128_S1024x128) S)⟩,
     ⟨S1024x128, addf (mulf (extractStridedSlice S1024x128 ![0, 0] z slices_S1024x1024_o0_0_S1024x128) S)
      (mulf (extractStridedSlice S1024x128 ![0, 128] z slices_S1024x1024_o0_128_S1024x128) C)⟩,
     ⟨S1024x128, subf (mulf (extractStridedSlice S1024x128 ![0, 256] z slices_S1024x1024_o0_256_S1024x128) C)
      (mulf (extractStridedSlice S1024x128 ![0, 384] z slices_S1024x1024_o0_384_S1024x128) S)⟩,
     ⟨S1024x128, addf (mulf (extractStridedSlice S1024x128 ![0, 256] z slices_S1024x1024_o0_256_S1024x128) S)
      (mulf (extractStridedSlice S1024x128 ![0, 384] z slices_S1024x1024_o0_384_S1024x128) C)⟩,
     ⟨S1024x128, subf (mulf (extractStridedSlice S1024x128 ![0, 512] z slices_S1024x1024_o0_512_S1024x128) C)
      (mulf (extractStridedSlice S1024x128 ![0, 640] z slices_S1024x1024_o0_640_S1024x128) S)⟩,
     ⟨S1024x128, addf (mulf (extractStridedSlice S1024x128 ![0, 512] z slices_S1024x1024_o0_512_S1024x128) S)
      (mulf (extractStridedSlice S1024x128 ![0, 640] z slices_S1024x1024_o0_640_S1024x128) C)⟩,
     ⟨S1024x128, subf (mulf (extractStridedSlice S1024x128 ![0, 768] z slices_S1024x1024_o0_768_S1024x128) C)
      (mulf (extractStridedSlice S1024x128 ![0, 896] z slices_S1024x1024_o0_896_S1024x128) S)⟩,
     ⟨S1024x128, addf (mulf (extractStridedSlice S1024x128 ![0, 768] z slices_S1024x1024_o0_768_S1024x128) S)
      (mulf (extractStridedSlice S1024x128 ![0, 896] z slices_S1024x1024_o0_896_S1024x128) C)⟩]
    concatenates_S1024x128_S1024x128_S1024x128_S1024x128_S1024x128_S1024x128_S1024x128_S1024x128_S1024x1024_d1

theorem lanes_apply (z : FVec Ideal S1024x1024 .f32) (C S : FVec Ideal S1024x128 .f32) (r n : Fin 1024) :
    lanes z C S (ix2 r n) = heads (fun k => z (ix2 r k)) (fun j => C (ix2 r j)) (fun j => S (ix2 r j)) n (by decide) := by
  unfold lanes heads turn
  pointwise
  split_ifs <;> first
    | exact (‹¬ _› rfl).elim
    | (rw [dif_pos (show (n : ℕ) % 256 < 128 by omega)]
       exact lo_congr (fun k => z (ix2 r k)) (fun j => C (ix2 r j)) (fun j => S (ix2 r j))
         (by dsimp only <;> omega) (by dsimp only <;> omega) (by dsimp only <;> omega) (by dsimp only <;> omega))
    | (rw [dif_neg (show ¬ (n : ℕ) % 256 < 128 by omega)]
       exact hi_congr (fun k => z (ix2 r k)) (fun j => C (ix2 r j)) (fun j => S (ix2 r j))
         (by dsimp only <;> omega) (by dsimp only <;> omega) (by dsimp only <;> omega) (by dsimp only <;> omega))

/-- The body's product. -/
def product (a : Vec Ideal S1024x4096 .bf16) (w : Vec Ideal S4096x1024 .bf16) : FVec Ideal S1024x1024 .f32 :=
  matmul (F := Ideal) (φ₁ := .bf16) (φ₂ := .bf16) dot_S1024x4096_S4096x1024_S1024x1024_1_0_0_1_n_n none (shapeCast S1024x4096 a shapeCasts_S1024x4096_S1024x4096)
    (shapeCast S4096x1024 w shapeCasts_S4096x1024_S4096x1024) (constant S1024x1024 .f32 0x00000000#32)

theorem product_apply (a : Vec Ideal S1024x4096 .bf16) (w : Vec Ideal S4096x1024 .bf16) (r n : Fin 1024) :
    product a w (ix2 r n) = prodAt a w r n := by
  unfold product prodAt
  pointwise

/-- The body's test of its column block. -/
theorem test_eq : ∀ n : Fin 4, Scalar.cmpi .slt (BitVec.ofNat 32 n.val) 2#32 = if n.val < 2 then 1#1 else 0#1 := by decide

theorem scale_eq (n : Fin 4) : Scalar.select (Scalar.cmpi .slt (BitVec.ofNat 32 n.val) 2#32)
    (Scalar.ofBits (F := Ideal) .f32 0x3D800000#32) (Scalar.ofBits (F := Ideal) .f32 0x3F800000#32) = scale (n.val < 2) := by
  have e1 : (1#1 : BitVec 1) = 1 := rfl
  have e0 : ¬ (0#1 : BitVec 1) = 1 := by decide
  rw [test_eq n]
  unfold scale
  split
  · simp only [Scalar.select, if_pos e1]
    rfl
  · simp only [Scalar.select, if_neg e0]
    exact Ideal.ofBits_one_f32

/-- The body's block before its cast. -/
theorem pay_eq (i : grid0.Coords) (a : Vec Ideal S1024x4096 .bf16) (w : Vec Ideal S4096x1024 .bf16) (C S : Vec Ideal S1024x128 .f32) :
    k0_pay2 i a w C S = mulf (lanes (product a w) (shapeCast S1024x128 C shapeCasts_S1024x128_S1024x128)
        (shapeCast S1024x128 S shapeCasts_S1024x128_S1024x128))
      (broadcast S1024x1024 (Scalar.select (Scalar.cmpi .slt (BitVec.ofNat 32 (i 1).val) 2#32)
        (Scalar.ofBits (F := Ideal) .f32 0x3D800000#32) (Scalar.ofBits (F := Ideal) .f32 0x3F800000#32))) := rfl

/-- The body's output block at an index. -/
theorem out_apply (i : grid0.Coords) (a : Vec Ideal S1024x4096 .bf16) (w : Vec Ideal S4096x1024 .bf16) (C S : Vec Ideal S1024x128 .f32)
    (r n : Fin 1024) : out0_4 i a w C S (ix2 r n)
      = heads (prodAt a w r) (fun j => C (ix2 r j)) (fun j => S (ix2 r j)) n (by decide) * scale ((i 1).val < 2) := by
  have hs : ∀ T : Vec Ideal S1024x128 .f32, shapeCast S1024x128 T shapeCasts_S1024x128_S1024x128 = T := fun T => by
    refine ext2 fun p q => ?_
    pointwise
  unfold out0_4
  rw [View.canon_unit_zero (by decide), View.ld_unit_zero (by decide), View.ld_unit_zero (by decide), View.ld_unit_zero (by decide),
    View.ld_unit_zero (by decide), pay_eq, hs, hs, scale_eq (i 1)]
  show lanes (product a w) C S (ix2 r n) * scale ((i 1).val < 2) = _
  rw [lanes_apply]
  simp only [product_apply]

/-- The block each window holds at a grid point (row block, column block), and that every block of the result is
    written back. -/
theorem index_a : ∀ t : Fin grid0.N, win0_0.index t = ![(grid0.coords t 0).val, 0] := by decide +kernel
theorem index_w : ∀ t : Fin grid0.N, win0_1.index t = ![0, (grid0.coords t 1).val] := by decide +kernel
theorem index_c : ∀ t : Fin grid0.N, win0_2.index t = ![(grid0.coords t 0).val % 4, 0] := by decide +kernel
theorem index_s : ∀ t : Fin grid0.N, win0_3.index t = ![(grid0.coords t 0).val % 4, 0] := by decide +kernel
theorem index_o : ∀ t : Fin grid0.N, win0_4.index t = ![(grid0.coords t 0).val, (grid0.coords t 1).val] := by decide +kernel
theorem covers : (cfg0.win 4).Covers := by decide +kernel

/-- The row and the column of the result that a place of a point's block is. -/
def row (t : Fin grid0.N) (r : Fin 1024) : Fin 16384 :=
  ⟨(grid0.coords t 0).val * 1024 + r, by have : (grid0.coords t 0).val < 16 := (grid0.coords t 0).isLt; omega⟩
def col (t : Fin grid0.N) (n : Fin 1024) : Fin 4096 :=
  ⟨(grid0.coords t 1).val * 1024 + n, by have : (grid0.coords t 1).val < 4 := (grid0.coords t 1).isLt; omega⟩

/-- The row of the tables that a row of a point's block is. -/
def tabRow (t : Fin grid0.N) (r : Fin 1024) : Fin 4096 := ⟨(grid0.coords t 0).val % 4 * 1024 + r, by omega⟩

theorem tabRow_eq (t : Fin grid0.N) (r : Fin 1024) : tabRow t r = ⟨(row t r : ℕ) % 4096, by omega⟩ := by
  refine Fin.ext ?_
  show (grid0.coords t 0).val % 4 * 1024 + (r : ℕ) = ((grid0.coords t 0).val * 1024 + (r : ℕ)) % 4096
  omega

theorem read_a (c : Dev nD) (t : Fin grid0.N) (r : Fin 1024) (k : Fin 4096) :
    (iblk m c 0 t : Vec Ideal S1024x4096 .bf16) (ix2 r k) = V m c main_v21 (ix2 (row t r) k) := by
  blk_ext [iblk, index_a t, row]

theorem read_w (c : Dev nD) (t : Fin grid0.N) (k : Fin 4096) (n : Fin 1024) :
    (iblk m c 1 t : Vec Ideal S4096x1024 .bf16) (ix2 k n) = V m c main_v19 (ix2 k (col t n)) := by
  blk_ext [iblk, index_w t, col]

theorem read_c (c : Dev nD) (t : Fin grid0.N) (r : Fin 1024) (j : Fin 128) :
    (iblk m c 2 t : Vec Ideal S1024x128 .f32) (ix2 r j) = V m c main_v16 (ix2 (tabRow t r) j) := by
  blk_ext [iblk, index_c t, tabRow]

theorem read_s (c : Dev nD) (t : Fin grid0.N) (r : Fin 1024) (j : Fin 128) :
    (iblk m c 3 t : Vec Ideal S1024x128 .f32) (ix2 r j) = V m c main_v17 (ix2 (tabRow t r) j) := by
  blk_ext [iblk, index_s t, tabRow]

/-- A block's turned heads are the turned heads at the place the block comes from. -/
theorem turned_block (a : (⟨2, ![16384, 4096]⟩ : Shape).Idx → EReal) (w : (⟨2, ![4096, 4096]⟩ : Shape).Idx → EReal)
    (C S : (⟨2, ![4096, 128]⟩ : Shape).Idx → EReal) (i : (⟨2, ![16384, 4096]⟩ : Shape).Idx) (q : Fin 4) (r : Fin 16384) (n : Fin 1024)
    (z : Fin 1024 → EReal) (c s : Fin 128 → EReal) (h0 : (i 0 : ℕ) = r) (h1 : (i 1 : ℕ) = (q : ℕ) * 1024 + n)
    (hz : ∀ k : Fin 1024, z k = prodAt a w r ⟨(q : ℕ) * 1024 + k, by omega⟩)
    (hc : ∀ j, c j = C (ix2 ⟨(r : ℕ) % 4096, by omega⟩ j)) (hs : ∀ j, s j = S (ix2 ⟨(r : ℕ) % 4096, by omega⟩ j)) :
    heads z c s n (by decide) * scale ((q : ℕ) < 2) = turned a w C S i := by
  have e : i = ix2 r ⟨(q : ℕ) * 1024 + n, by omega⟩ := idx_eq i r _ h0 h1
  rw [e]
  unfold turned heads scale
  refine congrArg₂ (HMul.hMul (α := EReal) (β := EReal)) (turn_congr (fun k => ?_) hc hs ?_) (if_congr ?_ rfl rfl)
  · refine (hz _).trans (congrArg (prodAt a w r) (Fin.ext ?_))
    show (q : ℕ) * 1024 + ((n : ℕ) / 256 * 256 + k) = ((q : ℕ) * 1024 + n) / 256 * 256 + k
    omega
  · show (n : ℕ) % 256 = ((q : ℕ) * 1024 + n) % 256
    omega
  · show (q : ℕ) < 2 ↔ (q : ℕ) * 1024 + n < 2048
    omega

/-- The result array after the run, over the host arrays. -/
theorem arr_eq (c : Dev nD) : (dats m 0 c).arrAt 4 cfg0.N
    = turned (V m c main_v21) (V m c main_v19) (V m c main_v16) (V m c main_v17) := by
  refine (dats m 0 c).arrAt_eq_of_covers 4 _ covers fun t hf y => ?_
  blk_simp
  rw [after0_4]
  idx_vars y
  rw [out_apply]
  refine turned_block _ _ _ _ _ (grid0.coords t 1) (row t y0) y1 _ _ _ (by blk_simp [index_o t, row]) (by blk_simp [index_o t])
    (fun k => ?_) (fun j => ?_) (fun j => ?_)
  · exact prodAt_congr (fun k => read_a m c t y0 k) (fun j => read_w m c t j k)
  · exact (read_c m c t y0 j).trans (congrArg (fun p => V m c main_v16 (ix2 p j)) (tabRow_eq t y0))
  · exact (read_s m c t y0 j).trans (congrArg (fun p => V m c main_v17 (ix2 p j)) (tabRow_eq t y0))

theorem x_eq (c : Dev nD) : (V m c main_v21 : S16384x4096.Idx → EReal) = rows (m ((c : Thread nD τ).loc main_arg0)) := by
  entry_read
  exact rows_cast _ _

theorem w_eq (c : Dev nD) : (V m c main_v19 : S4096x4096.Idx → EReal) = qkCols (m ((c : Thread nD τ).loc main_arg1)) := by
  refine ext2 fun k n => ?_
  show V m c main_v19 _ = _
  entry_read
  unfold qkCols cols
  pointwise

/-- The tables the launch is given are the cosines and the sines of the reference's angles. -/
theorem cos_eq (c : Dev nD) : (V m c main_v16 : S4096x128.Idx → EReal) = Host.cos (φ := .f32) angles := by
  entry_read
  rfl

theorem sin_eq (c : Dev nD) : (V m c main_v17 : S4096x128.Idx → EReal) = Host.sin (φ := .f32) angles := by
  entry_read
  rfl

/-- The claim: both programs run, and end at the turned queries and keys of their arguments. -/
theorem algebraic : Cert.algebraic_Kernel10Ideal_Reference10Ideal (hKernel10Ideal := Cert.Kernel10Ideal.Gen.facts)
    (hReference10Ideal := Cert.Reference10Ideal.Gen.facts) := fun m ρ m' ρ' _ hag => by
  refine ⟨fun c => turned (rows (m ((c : Thread nD τ).loc main_arg0))) (qkCols (m ((c : Thread nD τ).loc main_arg1)))
    (Host.cos (φ := .f32) angles) (Host.sin (φ := .f32) angles), ?_, ?_⟩
  · refine (θ_run defs _ _).mono (fun r h c => ⟨(h c).1.trans ((arr_eq m c).trans ?_), (h c).2⟩)
      (Cert.Kernel10Ideal.Value.run_blocks (F := Ideal) m ρ)
    rw [x_eq, w_eq, cos_eq, sin_eq]
  · refine (θ_run _ _ _).mono (fun r h c => ⟨(h c).1.trans ?_, (h c).2⟩) (Cert.Reference10Ideal.Value.run (F := Ideal) m' ρ')
    obtain ⟨e0, e1⟩ := hag c
    exact (ref_eq _ _).trans (by rw [e0, e1])

end Cert.Proof.ProjQK

end
-- ==== Proof.ProjB.lean ====
/- The second branch's two compressed streams: both programs end at the normalised rows of `xn @ w`, once over the 1536
   columns of the queries and once over the 512 columns of the keys and values, tokens end to end. -/
module

public import proofs.«01_k».proof.Proof.Gen.Kernel11Ideal.Value
public import proofs.«01_k».proof.Proof.Gen.Reference11Ideal.Run
public import proofs.«01_k».proof.Proof.InProj
public import proofs.«01_k».proof.Defs

@[expose] public section

set_option maxRecDepth 16384

noncomputable section

namespace Cert.Proof.ProjB

open Idealize.ShloMosaic Idealize.ShloMosaic.TcCoe Idealize.SL.Sem
open Cert.Proof.LayerMath Cert.Proof.InProj

/-- One entry of a normalised row: the row, its length as a number, the gain at the entry's column. -/
def normed {N : ℕ} (len : EReal) (z : Fin N → EReal) (g : EReal) (n : Fin N) : EReal :=
  z n * Ideal.rsqrt (Ideal.div (∑ k, z k * z k) len + Ideal.ofBits .f32 0x358637BD#32) * g

/-- The lengths of the two streams' rows. -/
abbrev lenQ : EReal := Ideal.ofBits .f32 0x44C00000#32
abbrev lenKV : EReal := Ideal.ofBits .f32 0x44000000#32

/-- The normalised rows of a product. -/
def stream {N : ℕ} (len : EReal) (a : (⟨2, ![16384, 4096]⟩ : Shape).Idx → EReal) (w : (⟨2, ![4096, N]⟩ : Shape).Idx → EReal)
    (g : (⟨1, ![N]⟩ : Shape).Idx → EReal) (i : (⟨2, ![16384, N]⟩ : Shape).Idx) : EReal :=
  normed len (prodAt a w (i 0)) (g (ix1 (i 1))) (i 1)

theorem stream_of {N : ℕ} (len : EReal) (a : (⟨2, ![16384, 4096]⟩ : Shape).Idx → EReal) (w : (⟨2, ![4096, N]⟩ : Shape).Idx → EReal)
    (g : (⟨1, ![N]⟩ : Shape).Idx → EReal) (i : (⟨2, ![16384, N]⟩ : Shape).Idx) (r : Fin 16384) (n : Fin N)
    (h0 : (i 0 : ℕ) = r) (h1 : (i 1 : ℕ) = n) : normed len (prodAt a w r) (g (ix1 n)) n = stream len a w g i := by
  rw [idx_eq i r n h0 h1]
  rfl

/-- The normalised row of equal rows and gains. -/
theorem normed_congr {N : ℕ} {len : EReal} {z z' : Fin N → EReal} {g g' : EReal} (n : Fin N) (hz : ∀ k, z k = z' k) (hg : g = g') :
    normed len z g n = normed len z' g' n := by
  rw [funext hz, hg]

/-- The queries' columns of the input projection, and the keys' and values'. -/
abbrev qCols (w : (⟨2, ![4096, 29120]⟩ : Shape).Idx → EReal) : (⟨2, ![4096, 1536]⟩ : Shape).Idx → EReal :=
  cols 6528 1536 (by decide) w
abbrev kvCols (w : (⟨2, ![4096, 29120]⟩ : Shape).Idx → EReal) : (⟨2, ![4096, 512]⟩ : Shape).Idx → EReal :=
  cols 8064 512 (by decide) w

section Ref

open Cert.Reference11Ideal Cert.Reference11Ideal.Gen

/-- The reference's columns of the second branch. -/
def branch (x : FVec Ideal S4x4096x4096 .f32) (w : FVec Ideal S4096x29120 .f32) : FVec Ideal S4x4096x2112 .f32 :=
  extractStridedSlice S4x4096x2112 ![0, 0, 6528]
    (Host.dotGeneral dot_S4x4096x4096_S4096x29120_S4x4096x29120_2_0_01_1_n_n none x w) slices_S4x4096x29120_S4x4096x2112_0_0_6528

/-- The queries' columns of it. -/
def partQ (h : FVec Ideal S4x4096x2112 .f32) : FVec Ideal S4x4096x1536 .f32 :=
  extractStridedSlice S4x4096x1536 ![0, 0, 0] h slices_S4x4096x2112_S4x4096x1536_0_0_0

/-- The keys' and values' columns of it. -/
def partKV (h : FVec Ideal S4x4096x2112 .f32) : FVec Ideal S4x4096x512 .f32 :=
  extractStridedSlice S4x4096x512 ![0, 0, 1536] h slices_S4x4096x2112_S4x4096x512_0_0_1536

theorem partQ_apply (x : FVec Ideal S4x4096x4096 .f32) (w : FVec Ideal S4096x29120 .f32) (r : Fin 16384) (n : Fin 1536) :
    rows (partQ (branch x w)) (ix2 r n) = prodAt (rows x) (qCols w) r n := by
  unfold partQ branch prodAt rows qCols cols
  pointwise

theorem partKV_apply (x : FVec Ideal S4x4096x4096 .f32) (w : FVec Ideal S4096x29120 .f32) (r : Fin 16384) (n : Fin 512) :
    rows (partKV (branch x w)) (ix2 r n) = prodAt (rows x) (kvCols w) r n := by
  unfold partKV branch prodAt rows kvCols cols
  pointwise
  refine Finset.sum_congr rfl fun k _ => congrArg (fun j => (x _ * w (ix2 k j) : EReal)) (Fin.ext ?_)
  dsimp only
  omega

/-- The reference's queries. -/
def outQ (h : FVec Ideal S4x4096x1536 .f32) (g : FVec Ideal S1536 .f32) : FVec Ideal S4x4096x1536 .f32 :=
  mulf (mulf h (broadcastInDim S4x4096x1536 ![0, 1, 2] bcast_S4x4096x1_S4x4096x1536_0_1_2 (Host.rsqrt (addf (Host.divf
      (broadcastInDim S4x4096x1 ![0, 1] bcast_S4x4096_S4x4096x1_0_1
        (Host.reduceAdd (mulf h h) (constant S_ .f32 0x00000000#32) reducesTo_S4x4096x1536_S4x4096_d2 h_S_))
      (broadcastInDim S4x4096x1 ![] bcast_S_S4x4096x1 (constant S_ .f32 0x44C00000#32)))
      (broadcastInDim S4x4096x1 ![] bcast_S_S4x4096x1 (constant S_ .f32 0x358637BD#32))))))
    (broadcastInDim S4x4096x1536 ![0, 1, 2] bcast_S1x1x1536_S4x4096x1536_0_1_2
      (broadcastInDim S1x1x1536 ![2] bcast_S1536_S1x1x1536_2 g))

/-- The reference's keys and values. -/
def outKV (h : FVec Ideal S4x4096x512 .f32) (g : FVec Ideal S512 .f32) : FVec Ideal S4x4096x512 .f32 :=
  mulf (mulf h (broadcastInDim S4x4096x512 ![0, 1, 2] bcast_S4x4096x1_S4x4096x512_0_1_2 (Host.rsqrt (addf (Host.divf
      (broadcastInDim S4x4096x1 ![0, 1] bcast_S4x4096_S4x4096x1_0_1
        (Host.reduceAdd (mulf h h) (constant S_ .f32 0x00000000#32) reducesTo_S4x4096x512_S4x4096_d2 h_S_))
      (broadcastInDim S4x4096x1 ![] bcast_S_S4x4096x1 (constant S_ .f32 0x44000000#32)))
      (broadcastInDim S4x4096x1 ![] bcast_S_S4x4096x1 (constant S_ .f32 0x358637BD#32))))))
    (broadcastInDim S4x4096x512 ![0, 1, 2] bcast_S1x1x512_S4x4096x512_0_1_2
      (broadcastInDim S1x1x512 ![2] bcast_S512_S1x1x512_2 g))

theorem outQ_apply (h : FVec Ideal S4x4096x1536 .f32) (g : FVec Ideal S1536 .f32) (b : Fin 4) (t : Fin 4096) (n : Fin 1536) :
    outQ h g (ix3 b t n) = normed lenQ (fun k => h (ix3 b t k)) (g (ix1 n)) n := by
  unfold outQ normed lenQ
  pointwise

theorem outKV_apply (h : FVec Ideal S4x4096x512 .f32) (g : FVec Ideal S512 .f32) (b : Fin 4) (t : Fin 4096) (n : Fin 512) :
    outKV h g (ix3 b t n) = normed lenKV (fun k => h (ix3 b t k)) (g (ix1 n)) n := by
  unfold outKV normed lenKV
  pointwise

theorem refQ_eq (x : FVec Ideal S4x4096x4096 .f32) (w : FVec Ideal S4096x29120 .f32) (g : FVec Ideal S1536 .f32) :
    rows (outQ (partQ (branch x w)) g) = stream lenQ (rows x) (qCols w) g :=
  ext2 fun r n => (outQ_apply _ g _ _ n).trans (normed_congr n (fun k => partQ_apply x w r k) rfl)

theorem refKV_eq (x : FVec Ideal S4x4096x4096 .f32) (w : FVec Ideal S4096x29120 .f32) (g : FVec Ideal S512 .f32) :
    rows (outKV (partKV (branch x w)) g) = stream lenKV (rows x) (kvCols w) g :=
  ext2 fun r n => (outKV_apply _ g _ _ n).trans (normed_congr n (fun k => partKV_apply x w r k) rfl)

end Ref

open Cert.Kernel11Ideal Cert.Kernel11Ideal.Gen

variable (m : (ℓ : Loc nD τ sig) → Buf (Elt Ideal) ℓ)

/-- The body's product. -/
theorem prod_apply (a : Vec Ideal S512x4096 .bf16) (w : Vec Ideal S4096x2048 .bf16) (r : Fin 512) (n : Fin 2048) :
    k0_pay1 a w (ix2 r n) = prodAt a w r n := by
  unfold prodAt
  pointwise [k0_pay1]

/-- The body's queries' block at an index. -/
theorem outQ_at (a : Vec Ideal S512x4096 .bf16) (w : Vec Ideal S4096x2048 .bf16) (g : Vec Ideal S1x1536 .f32) (r : Fin 512)
    (n : Fin 1536) : k0_pay2 a w g (ix2 r n) = normed lenQ (fun k => prodAt a w r ⟨k, by omega⟩) (g (ix2 0 n)) n := by
  unfold normed lenQ
  simp only [← prod_apply]
  pointwise [k0_pay2]

/-- The body's keys' and values' block at an index. -/
theorem outKV_at (a : Vec Ideal S512x4096 .bf16) (w : Vec Ideal S4096x2048 .bf16) (g : Vec Ideal S1x512 .f32) (r : Fin 512)
    (n : Fin 512) : k0_pay3 a w g (ix2 r n) = normed lenKV (fun k => prodAt a w r ⟨1536 + k, by omega⟩) (g (ix2 0 n)) n := by
  unfold normed lenKV
  simp only [← prod_apply]
  pointwise [k0_pay3]

theorem out4_apply (a : Vec Ideal S512x4096 .bf16) (w : Vec Ideal S4096x2048 .bf16) (g : Vec Ideal S1x1536 .f32)
    (g' : Vec Ideal S1x512 .f32) (r : Fin 512) (n : Fin 1536) :
    out0_4 a w g g' (ix2 r n) = normed lenQ (fun k => prodAt a w r ⟨k, by omega⟩) (g (ix2 0 n)) n := by
  unfold out0_4
  rw [View.canon_unit_zero (by decide), View.ld_unit_zero (by decide), View.ld_unit_zero (by decide), View.ld_unit_zero (by decide)]
  exact outQ_at a w g r n

theorem out5_apply (a : Vec Ideal S512x4096 .bf16) (w : Vec Ideal S4096x2048 .bf16) (g' : Vec Ideal S1x1536 .f32)
    (g : Vec Ideal S1x512 .f32) (r : Fin 512) (n : Fin 512) :
    out0_5 a w g' g (ix2 r n) = normed lenKV (fun k => prodAt a w r ⟨1536 + k, by omega⟩) (g (ix2 0 n)) n := by
  unfold out0_5
  rw [View.canon_unit_zero (by decide), View.ld_unit_zero (by decide), View.ld_unit_zero (by decide), View.ld_unit_zero (by decide)]
  exact outKV_at a w g r n

/-- The block each window holds at a grid point, and that every block of the results is written back. -/
theorem index_a : ∀ t : Fin grid0.N, win0_0.index t = ![(grid0.coords t 0).val, 0] := by decide +kernel
theorem index_w : ∀ t : Fin grid0.N, win0_1.index t = ![0, 0] := by decide +kernel
theorem index_gq : ∀ t : Fin grid0.N, win0_2.index t = ![0, 0] := by decide +kernel
theorem index_gkv : ∀ t : Fin grid0.N, win0_3.index t = ![0, 0] := by decide +kernel
theorem index_q : ∀ t : Fin grid0.N, win0_4.index t = ![(grid0.coords t 0).val, 0] := by decide +kernel
theorem index_kv : ∀ t : Fin grid0.N, win0_5.index t = ![(grid0.coords t 0).val, 0] := by decide +kernel
theorem covers_q : (cfg0.win 4).Covers := by decide +kernel
theorem covers_kv : (cfg0.win 5).Covers := by decide +kernel

/-- The row of the results that a row of a point's block is. -/
def row (t : Fin grid0.N) (r : Fin 512) : Fin 16384 :=
  ⟨(grid0.coords t 0).val * 512 + r, by have : (grid0.coords t 0).val < 32 := (grid0.coords t 0).isLt; omega⟩

theorem read_a (c : Dev nD) (t : Fin grid0.N) (r : Fin 512) (k : Fin 4096) :
    (iblk m c 0 t : Vec Ideal S512x4096 .bf16) (ix2 r k) = V m c main_v3 (ix2 (row t r) k) := by
  blk_ext [iblk, index_a t, row]

theorem read_w (c : Dev nD) (t : Fin grid0.N) (k : Fin 4096) (n : Fin 2048) :
    (iblk m c 1 t : Vec Ideal S4096x2048 .bf16) (ix2 k n) = V m c main_v1 (ix2 k n) := by
  blk_ext [iblk, index_w t]

theorem read_gq (c : Dev nD) (t : Fin grid0.N) (n : Fin 1536) :
    (iblk m c 2 t : Vec Ideal S1x1536 .f32) (ix2 0 n) = V m c main_v4 (ix2 0 n) := by
  blk_ext [iblk, index_gq t]

theorem read_gkv (c : Dev nD) (t : Fin grid0.N) (n : Fin 512) :
    (iblk m c 3 t : Vec Ideal S1x512 .f32) (ix2 0 n) = V m c main_v5 (ix2 0 n) := by
  blk_ext [iblk, index_gkv t]

theorem x_eq (c : Dev nD) : (V m c main_v3 : S16384x4096.Idx → EReal) = rows (m ((c : Thread nD τ).loc main_arg0)) := by
  entry_read
  exact rows_cast _ _

/-- The weights the launch is given: the queries' columns, then the keys' and values'. -/
theorem wq_at (c : Dev nD) (k : Fin 4096) (n : Fin 1536) :
    V m c main_v1 (ix2 k ⟨n, by omega⟩) = qCols (m ((c : Thread nD τ).loc main_arg1)) (ix2 k n) := by
  entry_read
  unfold qCols cols
  pointwise

theorem wkv_at (c : Dev nD) (k : Fin 4096) (n : Fin 512) :
    V m c main_v1 (ix2 k ⟨1536 + n, by omega⟩) = kvCols (m ((c : Thread nD τ).loc main_arg1)) (ix2 k n) := by
  entry_read
  unfold kvCols cols
  pointwise
  refine congrArg (fun j => (m ((c : Thread nD τ).loc main_arg1)) (ix2 k j)) (Fin.ext ?_)
  dsimp only
  omega

theorem gq_at (c : Dev nD) (n : Fin 1536) : V m c main_v4 (ix2 0 n) = (m ((c : Thread nD τ).loc main_arg2) (ix1 n) : EReal) := by
  entry_read
  pointwise

theorem gkv_at (c : Dev nD) (n : Fin 512) : V m c main_v5 (ix2 0 n) = (m ((c : Thread nD τ).loc main_arg3) (ix1 n) : EReal) := by
  entry_read
  pointwise

/-- The queries after the run. -/
theorem arrQ_eq (c : Dev nD) : (dats m 0 c).arrAt 4 cfg0.N = stream lenQ (rows (m ((c : Thread nD τ).loc main_arg0)))
    (qCols (m ((c : Thread nD τ).loc main_arg1))) (m ((c : Thread nD τ).loc main_arg2)) := by
  refine (dats m 0 c).arrAt_eq_of_covers 4 _ covers_q fun t hf y => ?_
  blk_simp
  rw [after0_4]
  idx_vars y
  rw [out4_apply]
  refine Eq.trans (normed_congr y1 (fun k => ?_) ?_) (stream_of _ _ _ _ _ (row t y0) y1 (by blk_simp [index_q t, row]) (by blk_simp [index_q t]))
  · exact prodAt_congr (fun j => (read_a m c t y0 j).trans (congrFun (x_eq m c) _)) (fun j => (read_w m c t j _).trans (wq_at m c j k))
  · exact (read_gq m c t y1).trans (gq_at m c y1)

/-- The keys and values after the run. -/
theorem arrKV_eq (c : Dev nD) : (dats m 0 c).arrAt 5 cfg0.N = stream lenKV (rows (m ((c : Thread nD τ).loc main_arg0)))
    (kvCols (m ((c : Thread nD τ).loc main_arg1))) (m ((c : Thread nD τ).loc main_arg3)) := by
  refine (dats m 0 c).arrAt_eq_of_covers 5 _ covers_kv fun t hf y => ?_
  blk_simp
  rw [after0_5]
  idx_vars y
  rw [out5_apply]
  refine Eq.trans (normed_congr y1 (fun k => ?_) ?_) (stream_of _ _ _ _ _ (row t y0) y1 (by blk_simp [index_kv t, row]) (by blk_simp [index_kv t]))
  · exact prodAt_congr (fun j => (read_a m c t y0 j).trans (congrFun (x_eq m c) _)) (fun j => (read_w m c t j _).trans (wkv_at m c j k))
  · exact (read_gkv m c t y1).trans (gkv_at m c y1)

/-- The claim: both programs run, and end at the two normalised streams of their arguments. -/
theorem algebraic : Cert.algebraic_Kernel11Ideal_Reference11Ideal (hKernel11Ideal := Cert.Kernel11Ideal.Gen.facts)
    (hReference11Ideal := Cert.Reference11Ideal.Gen.facts) := fun m ρ m' ρ' _ hag => by
  refine ⟨fun c => stream lenQ (rows (m ((c : Thread nD τ).loc main_arg0))) (qCols (m ((c : Thread nD τ).loc main_arg1)))
      (m ((c : Thread nD τ).loc main_arg2)),
    fun c => stream lenKV (rows (m ((c : Thread nD τ).loc main_arg0))) (kvCols (m ((c : Thread nD τ).loc main_arg1)))
      (m ((c : Thread nD τ).loc main_arg3)), ?_, ?_⟩
  · exact (θ_run defs _ _).mono (fun r h c => ⟨(h c).1.trans (arrQ_eq m c), (h c).2.1.trans (arrKV_eq m c), (h c).2.2⟩)
      (Cert.Kernel11Ideal.Value.run_blocks (F := Ideal) m ρ)
  · refine (θ_run _ _ _).mono (fun r h c => ⟨(h c).1.trans ?_, (h c).2.1.trans ?_, (h c).2.2⟩)
      (Cert.Reference11Ideal.Value.run (F := Ideal) m' ρ')
    · obtain ⟨e0, e1, e2, e3⟩ := hag c
      rw [e0, e1, e2]
      exact (rows_cast _ _).trans (refQ_eq _ _ _)
    · obtain ⟨e0, e1, e2, e3⟩ := hag c
      rw [e0, e1, e3]
      exact (rows_cast _ _).trans (refKV_eq _ _ _)

end Cert.Proof.ProjB

end
-- ==== Proof.QUp.lean ====
/- The queries of the attention branch: both programs end at `qn @ w` head by head, the last columns of each head turned by
   the rotary embedding of its token's position, times the scale, with zero columns after them. -/
module

public import proofs.«01_k».proof.Proof.Gen.Kernel12Ideal.Value
public import proofs.«01_k».proof.Proof.Gen.Reference12Ideal.Run
public import proofs.«01_k».proof.Proof.Rope
public import proofs.«01_k».proof.Defs
public import Idealize.ShloMosaic.Lib.KernelVsHost

@[expose] public section

set_option maxRecDepth 16384

noncomputable section

namespace Cert.Proof.QUp

open Idealize.ShloMosaic Idealize.ShloMosaic.TcCoe Idealize.SL.Sem
open Cert.Proof.LayerMath Cert.Proof.InProj Cert.Proof.Rope

/-- The queries' scale. -/
abbrev scale : EReal := Ideal.ofBits .f32 0x3D93CD3A#32

/-- One head: 128 columns as they are, 64 turned, 64 zeros. -/
def head (z : Fin 192 → EReal) (c s : Fin 32 → EReal) (n : Fin 256) : EReal :=
  if h : (n : ℕ) < 128 then z ⟨n, by omega⟩ * scale
  else if h : (n : ℕ) < 192 then turn (N := 64) rfl (fun e => z ⟨128 + e, by omega⟩) c s ⟨n - 128, by omega⟩ * scale
  else 0

/-- The columns of head `h`. -/
def headCol (h : Fin 16) (k : Fin 192) : Fin 3072 := ⟨h * 192 + k, by omega⟩

/-- The queries, heads first. -/
def queries (a : (⟨2, ![16384, 1536]⟩ : Shape).Idx → EReal) (w : (⟨2, ![1536, 3072]⟩ : Shape).Idx → EReal)
    (C S : (⟨2, ![4096, 32]⟩ : Shape).Idx → EReal) (i : (⟨3, ![16, 16384, 256]⟩ : Shape).Idx) : EReal :=
  head (fun k => prodAt a w (i 1) (headCol (i 0) k)) (fun j => C (ix2 ⟨(i 1 : ℕ) % 4096, by omega⟩ j))
    (fun j => S (ix2 ⟨(i 1 : ℕ) % 4096, by omega⟩ j)) (i 2)

/-! The kernel's head: its turned columns are a product with a table of cosines, twice over, and of the head rotated by
    half with a table of sines, first negated; past them both tables are zero. -/

def tabled (z : Fin 256 → EReal) (C S : Fin 128 → EReal) (n : Fin 256) : EReal :=
  (if h : (n : ℕ) < 128 then z n else paired (fun j => z ⟨128 + j, by omega⟩) C S ⟨n - 128, by omega⟩) * scale

theorem tabled_eq (z : Fin 256 → EReal) (y : Fin 192 → EReal) (c s : Fin 32 → EReal) (n : Fin 256)
    (h0 : ∀ k : Fin 192, z ⟨k, by omega⟩ = y k)
    (h1 : ∀ e : Fin 64, z ⟨192 + e, by omega⟩ = y ⟨128 + (e + 32) % 64, by omega⟩) :
    tabled z (cosTab c) (sinTab s) n = head y c s n := by
  unfold tabled head
  by_cases a : (n : ℕ) < 128
  · rw [dif_pos a, dif_pos a]
    exact congrArg (fun v : EReal => v * scale) (h0 ⟨n, by omega⟩)
  rw [dif_neg a, dif_neg a, paired_eq _ (fun e => y ⟨128 + e, by omega⟩) _ _ _ (fun e => h0 ⟨128 + e, by omega⟩)
    fun e => Eq.trans (congrArg z (Fin.ext (by dsimp only <;> omega))) (h1 e)]
  unfold turned
  by_cases b : (n : ℕ) < 192
  · rw [dif_pos b, dif_pos (by dsimp only <;> omega)]
  · rw [dif_neg b, dif_neg (by dsimp only <;> omega), zero_mul]

section Ref

open Cert.Reference12Ideal Cert.Reference12Ideal.Gen

/-- The reference's product, by heads. -/
def heads (x : FVec Ideal S4x4096x1536 .f32) (w : FVec Ideal S1536x3072 .f32) : FVec Ideal S4x4096x16x192 .f32 :=
  shapeCast _ (Host.dotGeneral dot_S4x4096x1536_S1536x3072_S4x4096x3072_2_0_01_1_n_n none x w) shapeCasts_S4x4096x3072_S4x4096x16x192

theorem heads_apply (x : FVec Ideal S4x4096x1536 .f32) (w : FVec Ideal S1536x3072 .f32) (r : Fin 16384) (h : Fin 16) (k : Fin 192) :
    heads x w (ix4 ⟨r / 4096, by omega⟩ ⟨r % 4096, by omega⟩ h k) = prodAt (rows x) w r (headCol h k) := by
  unfold heads prodAt rows headCol
  pointwise

/-- The reference's angles: position times frequency. -/
def angles : FVec Ideal S4096x32 .f32 :=
  mulf (broadcastInDim S4096x32 ![0, 1] bcast_S4096x1_S4096x32_0_1 (broadcastInDim S4096x1 ![0] bcast_S4096_S4096x1_0 (sitofp .f32 (iotaInDim S4096 32 0))))
    (broadcastInDim S4096x32 ![0, 1] bcast_S1x32_S4096x32_0_1 (broadcastInDim S1x32 ![1] bcast_S32_S1x32_1
      (Host.powf (broadcastInDim S32 ![] bcast_S_S32 (constant S_ .f32 0x461C4000#32))
        (Host.divf (Host.negf (addf (broadcastInDim S32 ![] bcast_S_S32 (constant S_ .f32 0x00000000#32))
          (mulf (broadcastInDim S32 ![] bcast_S_S32 (constant S_ .f32 0x40000000#32)) (sitofp .f32 (iotaInDim S32 32 0)))))
          (broadcastInDim S32 ![] bcast_S_S32 (constant S_ .f32 0x42800000#32))))))

/-- A table of the positions, for every sequence and head. -/
def spread (A : FVec Ideal S4096x1x32 .f32) : FVec Ideal S4x4096x16x32 .f32 :=
  broadcastInDim S4x4096x16x32 ![0, 1, 2, 3] bcast_S1x4096x1x32_S4x4096x16x32_0_1_2_3
    (broadcastInDim S1x4096x1x32 ![1, 2, 3] bcast_S4096x1x32_S1x4096x1x32_1_2_3 A)

theorem cos_apply (A : FVec Ideal S4096x32 .f32) (b : Fin 4) (t : Fin 4096) (h : Fin 16) (j : Fin 32) :
    spread (Host.cos (shapeCast _ A shapeCasts_S4096x32_S4096x1x32)) (ix4 b t h j) = Host.cos A (ix2 t j) := by
  unfold spread
  pointwise

theorem sin_apply (A : FVec Ideal S4096x32 .f32) (b : Fin 4) (t : Fin 4096) (h : Fin 16) (j : Fin 32) :
    spread (Host.sin (shapeCast _ A shapeCasts_S4096x32_S4096x1x32)) (ix4 b t h j) = Host.sin A (ix2 t j) := by
  unfold spread
  pointwise

/-- The reference's rotary embedding. -/
def rope (z : FVec Ideal S4x4096x16x64 .f32) (A : FVec Ideal S4096x32 .f32) : FVec Ideal S4x4096x16x64 .f32 :=
  concatenate S4x4096x16x64 3
    [⟨S4x4096x16x32, subf
      (mulf (extractStridedSlice S4x4096x16x32 ![0, 0, 0, 0] z slices_S4x4096x16x64_S4x4096x16x32_0_0_0_0)
        (spread (Host.cos (shapeCast _ A shapeCasts_S4096x32_S4096x1x32))))
      (mulf (extractStridedSlice S4x4096x16x32 ![0, 0, 0, 32] z slices_S4x4096x16x64_S4x4096x16x32_0_0_0_32)
        (spread (Host.sin (shapeCast _ A shapeCasts_S4096x32_S4096x1x32))))⟩,
     ⟨S4x4096x16x32, addf
      (mulf (extractStridedSlice S4x4096x16x32 ![0, 0, 0, 0] z slices_S4x4096x16x64_S4x4096x16x32_0_0_0_0)
        (spread (Host.sin (shapeCast _ A shapeCasts_S4096x32_S4096x1x32))))
      (mulf (extractStridedSlice S4x4096x16x32 ![0, 0, 0, 32] z slices_S4x4096x16x64_S4x4096x16x32_0_0_0_32)
        (spread (Host.cos (shapeCast _ A shapeCasts_S4096x32_S4096x1x32))))⟩]
    concatenates_S4x4096x16x32_S4x4096x16x32_S4x4096x16x64_d3

theorem rope_apply (z : FVec Ideal S4x4096x16x64 .f32) (A : FVec Ideal S4096x32 .f32) (b : Fin 4) (t : Fin 4096) (h : Fin 16) (e : Fin 64) :
    rope z A (ix4 b t h e) = turn (N := 64) rfl (fun k => z (ix4 b t h k)) (fun j => Host.cos A (ix2 t j))
      (fun j => Host.sin A (ix2 t j)) e := by
  unfold rope turn
  simp only [← cos_apply A b t h, ← sin_apply A b t h]
  generalize spread (Host.cos (shapeCast _ A shapeCasts_S4096x32_S4096x1x32)) = C
  generalize spread (Host.sin (shapeCast _ A shapeCasts_S4096x32_S4096x1x32)) = S
  pointwise
  split
  · exact lo_congr (fun k => z (ix4 b t h k)) (fun j => C (ix4 b t h j)) (fun j => S (ix4 b t h j))
      (by dsimp only <;> omega) (by dsimp only <;> omega) (by dsimp only <;> omega) (by dsimp only <;> omega)
  · exact hi_congr (fun k => z (ix4 b t h k)) (fun j => C (ix4 b t h j)) (fun j => S (ix4 b t h j))
      (by dsimp only <;> omega) (by dsimp only <;> omega) (by dsimp only <;> omega) (by dsimp only <;> omega)

/-- The reference's scaled heads. -/
def scaled (z : FVec Ideal S4x4096x16x192 .f32) (A : FVec Ideal S4096x32 .f32) : FVec Ideal S4x4096x16x192 .f32 :=
  mulf (concatenate S4x4096x16x192 3
    [⟨S4x4096x16x128, extractStridedSlice S4x4096x16x128 ![0, 0, 0, 0] z slices_S4x4096x16x192_S4x4096x16x128_0_0_0_0⟩,
     ⟨S4x4096x16x64, rope (extractStridedSlice S4x4096x16x64 ![0, 0, 0, 128] z slices_S4x4096x16x192_S4x4096x16x64_0_0_0_128) A⟩]
    concatenates_S4x4096x16x128_S4x4096x16x64_S4x4096x16x192_d3)
    (broadcastInDim S4x4096x16x192 ![] bcast_S_S4x4096x16x192 (constant S_ .f32 0x3D93CD3A#32))

theorem scaled_apply (z : FVec Ideal S4x4096x16x192 .f32) (A : FVec Ideal S4096x32 .f32) (b : Fin 4) (t : Fin 4096) (h : Fin 16) (k : Fin 192) :
    scaled z A (ix4 b t h k) = head (fun k => z (ix4 b t h k)) (fun j => Host.cos A (ix2 t j)) (fun j => Host.sin A (ix2 t j))
      ⟨k, by omega⟩ := by
  unfold scaled head
  pointwise [rope_apply]
  by_cases a : (k : ℕ) < 128
  · rw [dif_pos a, dif_pos a]
  · rw [dif_neg a, dif_neg a]

/-- The reference's result from its scaled heads: zero columns after them, heads first. -/
def padded (q : FVec Ideal S4x4096x16x192 .f32) : FVec Ideal S16x16384x256 .bf16 :=
  truncf .bf16 (transpose S16x16384x256 [1, 0, 2] (shapeCast _ (pad S4x4096x16x256 ![0, 0, 0, 0] ![0, 0, 0, 64] ![0, 0, 0, 0] q
    (sitofp .f32 (constantI S_ 32 0#32)) pads_S4x4096x16x192_S4x4096x16x256_000_000_000_0640 h_S_) shapeCasts_S4x4096x16x256_S16384x16x256)
    transposes_S16384x16x256_S16x16384x256_1_0_2) bitsLt_bf16_f32

theorem padded_apply (q : FVec Ideal S4x4096x16x192 .f32) (h : Fin 16) (r : Fin 16384) (n : Fin 256) :
    padded q (ix3 h r n) = if hn : (n : ℕ) < 192 then q (ix4 ⟨r / 4096, by omega⟩ ⟨r % 4096, by omega⟩ h ⟨n, hn⟩) else 0 := by
  unfold padded
  pointwise
  exact dite_congr (propext ⟨fun h => h.2.2, fun h => ⟨by omega, by omega, h⟩⟩) (fun _ => rfl) fun _ => zero_word

theorem ref_at (x : FVec Ideal S4x4096x1536 .f32) (w : FVec Ideal S1536x3072 .f32) (h : Fin 16) (r : Fin 16384) (n : Fin 256) :
    padded (scaled (heads x w) angles) (ix3 h r n)
      = head (fun k => prodAt (rows x) w r (headCol h k)) (fun j => Host.cos angles (ix2 ⟨r % 4096, by omega⟩ j))
        (fun j => Host.sin angles (ix2 ⟨r % 4096, by omega⟩ j)) n := by
  rw [padded_apply]
  by_cases b : (n : ℕ) < 192
  · rw [dif_pos b, scaled_apply]
    simp only [heads_apply]
  · unfold head
    rw [dif_neg b, dif_neg (by omega), dif_neg b]

theorem ref_eq (x : FVec Ideal S4x4096x1536 .f32) (w : FVec Ideal S1536x3072 .f32) :
    (padded (scaled (heads x w) angles) : S16x16384x256.Idx → EReal)
      = queries (rows x) w (Host.cos angles) (Host.sin angles) := by
  funext i
  rw [idx_eq3 i (i 0) (i 1) (i 2) rfl rfl rfl]
  exact ref_at x w (i 0) (i 1) (i 2)

end Ref

open Cert.Kernel12Ideal Cert.Kernel12Ideal.Gen

variable (m : (ℓ : Loc nD τ sig) → Buf (Elt Ideal) ℓ)

/-- The body's product. -/
def product (a : Vec Ideal S2048x1536 .bf16) (w : Vec Ideal S1x1536x256 .bf16) : FVec Ideal S2048x256 .f32 :=
  matmul (F := Ideal) (φ₁ := .bf16) (φ₂ := .bf16) dot_S2048x1536_S1536x256_S2048x256_1_0_0_1_n_n none
    (shapeCast S2048x1536 a shapeCasts_S2048x1536_S2048x1536) (shapeCast S1536x256 w shapeCasts_S1x1536x256_S1536x256)
    (constant S2048x256 .f32 0x00000000#32)

theorem product_apply (a : Vec Ideal S2048x1536 .bf16) (w : Vec Ideal S1x1536x256 .bf16) (r : Fin 2048) (n : Fin 256) :
    product a w (ix2 r n) = prodAt a (slab w 0) r n := by
  unfold product prodAt slab
  pointwise

theorem rotate_apply (z : FVec Ideal S2048x128 .f32) (r : Fin 2048) (p : Fin 128) :
    dynamicRotate 1 64#32 none z rotates_S2048x128_d1 (ix2 r p) = z (ix2 r ⟨(p + 64) % 128, by omega⟩) := by
  refine dynamicRotate_apply _ _ _ _ _ _ fun b => ?_
  match b with
  | ⟨0, _⟩ => rfl
  | ⟨1, _⟩ =>
    show ((p : ℕ) + 64) % 128 = ((p : ℕ) + 128 - 64) % 128
    omega

/-- The body's block from its product and its tables. -/
def block (z : FVec Ideal S2048x256 .f32) (C S : FVec Ideal S2048x128 .f32) : FVec Ideal S1x2048x256 .bf16 :=
  shapeCast S1x2048x256 (truncf .bf16 (mulf (concatenate S2048x256 1
    [⟨S2048x128, extractStridedSlice S2048x128 ![0, 0] z slices_S2048x256_o0_0_S2048x128⟩,
     ⟨S2048x128, addf
      (mulf (extractStridedSlice S2048x128 ![0, 128] z slices_S2048x256_o0_128_S2048x128) (shapeCast S2048x128 C shapeCasts_S2048x128_S2048x128))
      (mulf (dynamicRotate 1 64#32 none (extractStridedSlice S2048x128 ![0, 128] z slices_S2048x256_o0_128_S2048x128) rotates_S2048x128_d1)
        (shapeCast S2048x128 S shapeCasts_S2048x128_S2048x128))⟩] concatenates_S2048x128_S2048x128_S2048x256_d1)
    (broadcast S2048x256 (Scalar.ofBits (F := Ideal) .f32 0x3D93CD3A#32))) bitsLt_bf16_f32) shapeCasts_S2048x256_S1x2048x256

theorem block_apply (z : FVec Ideal S2048x256 .f32) (C S : FVec Ideal S2048x128 .f32) (r : Fin 2048) (n : Fin 256) :
    block z C S (ix3 0 r n) = tabled (fun k => z (ix2 r k)) (fun j => C (ix2 r j)) (fun j => S (ix2 r j)) n := by
  unfold block tabled paired
  pointwise [rotate_apply]
  by_cases a : (n : ℕ) < 128
  · rw [dif_pos a, dif_pos a]
  · rw [dif_neg a, dif_neg a]
    refine congrArg (fun k => (z (ix2 r k) * C (ix2 r ⟨n - 128, by omega⟩) + _ : EReal) * _) (Fin.ext ?_)
    dsimp only

/-- The body's output block at an index. -/
theorem out_apply (a : Vec Ideal S2048x1536 .bf16) (w : Vec Ideal S1x1536x256 .bf16) (C S : Vec Ideal S2048x128 .f32) (r : Fin 2048)
    (n : Fin 256) : out0_4 a w C S (ix3 0 r n)
      = tabled (prodAt a (slab w 0) r) (fun j => C (ix2 r j)) (fun j => S (ix2 r j)) n := by
  unfold out0_4
  rw [View.canon_unit_zero (by decide), View.ld_unit_zero (by decide), View.ld_unit_zero (by decide), View.ld_unit_zero (by decide),
    View.ld_unit_zero (by decide)]
  show block (product a w) C S (ix3 0 r n) = _
  rw [block_apply]
  simp only [product_apply]

/-- The block each window holds at a grid point (row block, head), and that every block of the result is written back. -/
theorem index_a : ∀ t : Fin grid0.N, win0_0.index t = ![(grid0.coords t 0).val, 0] := by decide +kernel
theorem index_w : ∀ t : Fin grid0.N, win0_1.index t = ![(grid0.coords t 1).val, 0, 0] := by decide +kernel
theorem index_c : ∀ t : Fin grid0.N, win0_2.index t = ![(grid0.coords t 0).val % 2, 0] := by decide +kernel
theorem index_s : ∀ t : Fin grid0.N, win0_3.index t = ![(grid0.coords t 0).val % 2, 0] := by decide +kernel
theorem index_o : ∀ t : Fin grid0.N, win0_4.index t = ![(grid0.coords t 1).val, (grid0.coords t 0).val, 0] := by decide +kernel
theorem covers : (cfg0.win 4).Covers := by decide +kernel

/-- The row of the result that a row of a point's block is, the point's head, and the row of the tables. -/
def row (t : Fin grid0.N) (r : Fin 2048) : Fin 16384 :=
  ⟨(grid0.coords t 0).val * 2048 + r, by have : (grid0.coords t 0).val < 8 := (grid0.coords t 0).isLt; omega⟩
def hd (t : Fin grid0.N) : Fin 16 := ⟨(grid0.coords t 1).val, (grid0.coords t 1).isLt⟩
def tabRow (t : Fin grid0.N) (r : Fin 2048) : Fin 4096 := ⟨(grid0.coords t 0).val % 2 * 2048 + r, by omega⟩

theorem tabRow_eq (t : Fin grid0.N) (r : Fin 2048) : tabRow t r = ⟨(row t r : ℕ) % 4096, by omega⟩ := by
  refine Fin.ext ?_
  show (grid0.coords t 0).val % 2 * 2048 + (r : ℕ) = ((grid0.coords t 0).val * 2048 + (r : ℕ)) % 4096
  omega

theorem read_a (c : Dev nD) (t : Fin grid0.N) (r : Fin 2048) (k : Fin 1536) :
    (iblk m c 0 t : Vec Ideal S2048x1536 .bf16) (ix2 r k) = V m c main_v32 (ix2 (row t r) k) := by
  blk_ext [iblk, index_a t, row]

theorem read_w (c : Dev nD) (t : Fin grid0.N) (k : Fin 1536) (n : Fin 256) :
    (iblk m c 1 t : Vec Ideal S1x1536x256 .bf16) (ix3 0 k n) = V m c main_v30 (ix3 (hd t) k n) := by
  blk_ext [iblk, index_w t, hd]

theorem read_c (c : Dev nD) (t : Fin grid0.N) (r : Fin 2048) (j : Fin 128) :
    (iblk m c 2 t : Vec Ideal S2048x128 .f32) (ix2 r j) = V m c main_v19 (ix2 (tabRow t r) j) := by
  blk_ext [iblk, index_c t, tabRow]

theorem read_s (c : Dev nD) (t : Fin grid0.N) (r : Fin 2048) (j : Fin 128) :
    (iblk m c 3 t : Vec Ideal S2048x128 .f32) (ix2 r j) = V m c main_v21 (ix2 (tabRow t r) j) := by
  blk_ext [iblk, index_s t, tabRow]

theorem x_eq (c : Dev nD) : (V m c main_v32 : S16384x1536.Idx → EReal) = rows (m ((c : Thread nD τ).loc main_arg0)) := by
  entry_read
  exact rows_cast _ _

/-- The host's weights: each head's columns, then those to be turned once more, halves swapped. -/
def weights (w : FVec Ideal S1536x3072 .f32) : FVec Ideal S16x1536x256 .bf16 :=
  truncf .bf16 (transpose S16x1536x256 [1, 0, 2] (concatenate S1536x16x256 2
    [⟨S1536x16x128, extractStridedSlice S1536x16x128 ![0, 0, 0] (shapeCast _ w shapeCasts_S1536x3072_S1536x16x192) slices_S1536x16x192_S1536x16x128_0_0_0⟩,
     ⟨S1536x16x64, extractStridedSlice S1536x16x64 ![0, 0, 128] (shapeCast _ w shapeCasts_S1536x3072_S1536x16x192) slices_S1536x16x192_S1536x16x64_0_0_128⟩,
     ⟨S1536x16x64, concatenate S1536x16x64 2
      [⟨S1536x16x32, extractStridedSlice S1536x16x32 ![0, 0, 32] (extractStridedSlice S1536x16x64 ![0, 0, 128]
          (shapeCast _ w shapeCasts_S1536x3072_S1536x16x192) slices_S1536x16x192_S1536x16x64_0_0_128) slices_S1536x16x64_S1536x16x32_0_0_32⟩,
       ⟨S1536x16x32, extractStridedSlice S1536x16x32 ![0, 0, 0] (extractStridedSlice S1536x16x64 ![0, 0, 128]
          (shapeCast _ w shapeCasts_S1536x3072_S1536x16x192) slices_S1536x16x192_S1536x16x64_0_0_128) slices_S1536x16x64_S1536x16x32_0_0_0⟩]
      concatenates_S1536x16x32_S1536x16x32_S1536x16x64_d2⟩] concatenates_S1536x16x128_S1536x16x64_S1536x16x64_S1536x16x256_d2)
    transposes_S1536x16x256_S16x1536x256_1_0_2) bitsLt_bf16_f32

theorem weights_lo (w : FVec Ideal S1536x3072 .f32) (h : Fin 16) (k : Fin 1536) (n : Fin 192) :
    weights w (ix3 h k ⟨n, by omega⟩) = w (ix2 k (headCol h n)) := by
  unfold weights headCol
  pointwise
  split_ifs <;> first
    | exact (‹¬ _› rfl).elim
    | exact congrArg (fun j => w (ix2 k j)) (Fin.ext (by dsimp only <;> omega))
    | omega

theorem weights_hi (w : FVec Ideal S1536x3072 .f32) (h : Fin 16) (k : Fin 1536) (e : Fin 64) :
    weights w (ix3 h k ⟨192 + e, by omega⟩) = w (ix2 k (headCol h ⟨128 + (e + 32) % 64, by omega⟩)) := by
  unfold weights headCol
  pointwise
  split_ifs <;> first
    | exact (‹¬ _› rfl).elim
    | exact congrArg (fun j => w (ix2 k j)) (Fin.ext (by dsimp only <;> omega))
    | omega

theorem w_eq (c : Dev nD) : V m c main_v30 = weights (m ((c : Thread nD τ).loc main_arg1)) := by
  unfold V
  simp only [StableHlo.after_cons, StableHlo.after_nil]
  rfl

/-- The host's tables: two arrays of 32 angles' values, then zeros. -/
def table (C D : FVec Ideal S4096x32 .f32) : FVec Ideal S4096x128 .f32 :=
  concatenate S4096x128 1 [⟨S4096x32, C⟩, ⟨S4096x32, D⟩,
    ⟨S4096x64, (broadcastInDim S4096x64 ![] bcast_S_S4096x64 (constant S_ .f32 0x00000000#32) : FVec Ideal S4096x64 .f32)⟩]
    concatenates_S4096x32_S4096x32_S4096x64_S4096x128_d1

theorem table_cos (C : FVec Ideal S4096x32 .f32) (t : Fin 4096) (j : Fin 128) :
    table C C (ix2 t j) = cosTab (fun j => C (ix2 t j)) j := by
  unfold table cosTab
  pointwise
  split_ifs <;> first
    | exact (‹¬ _› rfl).elim
    | rfl
    | rw [dif_pos (show (j : ℕ) < 64 by omega)]
    | omega

theorem table_sin (S : FVec Ideal S4096x32 .f32) (t : Fin 4096) (j : Fin 128) :
    table (Host.negf S) S (ix2 t j) = sinTab (fun j => S (ix2 t j)) j := by
  unfold table sinTab
  pointwise
  split_ifs <;> first
    | exact (‹¬ _› rfl).elim
    | rfl
    | rw [dif_pos (show (j : ℕ) < 64 by omega)]
    | omega

theorem cos_eq (c : Dev nD) : V m c main_v19 = table (Host.cos angles) (Host.cos angles) := by
  unfold V
  simp only [StableHlo.after_cons, StableHlo.after_nil]
  rfl

theorem sin_eq (c : Dev nD) : V m c main_v21 = table (Host.negf (Host.sin angles)) (Host.sin angles) := by
  unfold V
  simp only [StableHlo.after_cons, StableHlo.after_nil]
  rfl

/-- The result array after the run. -/
theorem arr_eq (c : Dev nD) : (dats m 0 c).arrAt 4 cfg0.N
    = queries (rows (m ((c : Thread nD τ).loc main_arg0))) (m ((c : Thread nD τ).loc main_arg1))
      (Host.cos (φ := .f32) angles) (Host.sin (φ := .f32) angles) := by
  rw [← x_eq m c]
  refine (dats m 0 c).arrAt_eq_of_covers 4 _ covers fun t hf y => ?_
  blk_simp
  rw [after0_4]
  idx_vars y
  obtain rfl : y0 = 0 := Subsingleton.elim _ _
  rw [out_apply]
  refine Eq.trans ?_ (congrArg _ (idx_eq3 _ (hd t) (row t y1) y2 (by blk_simp [index_o t, hd]; exact Nat.add_zero _) (by blk_simp [index_o t, row])
    (by blk_simp [index_o t]))).symm
  have hc : (fun j => (iblk m c 2 t : Vec Ideal S2048x128 .f32) (ix2 y1 j))
      = cosTab (fun j => Host.cos angles (ix2 ⟨(row t y1 : ℕ) % 4096, by omega⟩ j)) := by
    funext j
    rw [read_c, tabRow_eq]
    exact (congrFun (cos_eq m c) _).trans (table_cos _ _ j)
  have hs : (fun j => (iblk m c 3 t : Vec Ideal S2048x128 .f32) (ix2 y1 j))
      = sinTab (fun j => Host.sin angles (ix2 ⟨(row t y1 : ℕ) % 4096, by omega⟩ j)) := by
    funext j
    rw [read_s, tabRow_eq]
    exact (congrFun (sin_eq m c) _).trans (table_sin _ _ j)
  rw [hc, hs]
  refine tabled_eq _ _ _ _ _ (fun k => ?_) (fun e => ?_)
  · exact prodAt_congr (fun k => read_a m c t y1 k) (fun j => (read_w m c t j _).trans ((congrFun (w_eq m c) _).trans (weights_lo _ (hd t) j k)))
  · exact prodAt_congr (fun k => read_a m c t y1 k) (fun j => (read_w m c t j _).trans ((congrFun (w_eq m c) _).trans (weights_hi _ (hd t) j e)))

/-- The claim: both programs run, and end at the queries of their arguments. -/
theorem algebraic : Cert.algebraic_Kernel12Ideal_Reference12Ideal (hKernel12Ideal := Cert.Kernel12Ideal.Gen.facts)
    (hReference12Ideal := Cert.Reference12Ideal.Gen.facts) := fun m ρ m' ρ' _ hag => by
  refine ⟨fun c => queries (rows (m ((c : Thread nD τ).loc main_arg0))) (m ((c : Thread nD τ).loc main_arg1))
    (Host.cos (φ := .f32) angles) (Host.sin (φ := .f32) angles), ?_, ?_⟩
  · exact (θ_run defs _ _).mono (fun r h c => ⟨(h c).1.trans (arr_eq m c), (h c).2⟩)
      (Cert.Kernel12Ideal.Value.run_blocks (F := Ideal) m ρ)
  · refine (θ_run _ _ _).mono (fun r h c => ⟨(h c).1.trans ?_, (h c).2⟩) (Cert.Reference12Ideal.Value.run (F := Ideal) m' ρ')
    obtain ⟨e0, e1⟩ := hag c
    exact (ref_eq _ _).trans (by rw [e0, e1])

end Cert.Proof.QUp

end
-- ==== Proof.NormTail.lean ====
/- The final normalisation of the second result: as the first's, for 8 sequences of 2048 tokens. -/
module

public import proofs.«01_k».proof.Proof.Gen.Kernel13Ideal.Value
public import proofs.«01_k».proof.Proof.Gen.Reference13Ideal.Run
public import proofs.«01_k».proof.Proof.Norm
public import proofs.«01_k».proof.Defs

@[expose] public section

set_option maxRecDepth 16384

noncomputable section

namespace Cert.Proof.NormTail

open Idealize.ShloMosaic Idealize.ShloMosaic.TcCoe Idealize.SL.Sem
open Cert.Proof.LayerMath
open Cert.Proof.Norm (normed norm norm_of)

/-- The second batch's tokens end to end: row `r` is position `r % 2048` of sequence `r / 2048`. -/
def lined {K : ℕ} (x : (⟨3, ![8, 2048, K]⟩ : Shape).Idx → EReal) : (⟨2, ![16384, K]⟩ : Shape).Idx → EReal :=
  fun i => x (ix3 ⟨(i 0 : ℕ) / 2048, by have : (i 0 : ℕ) < 16384 := (i 0).isLt; omega⟩ ⟨(i 0 : ℕ) % 2048, by omega⟩ (i 1))

/-- Reshaping the second batch to rows lays its tokens end to end. -/
theorem lined_cast {K : ℕ} (x : (⟨3, ![8, 2048, K]⟩ : Shape).Idx → EReal)
    (h : (⟨3, ![8, 2048, K]⟩ : Shape).ShapeCasts ⟨2, ![16384, K]⟩) : shapeCast ⟨2, ![16384, K]⟩ x h = lined x := by
  funext i
  refine shapeCast_apply x h i _ ?_
  rw [Shape.rowMajor_val_succ, Shape.rowMajor_val_succ, Shape.rowMajor_val_one, Shape.rowMajor_val_succ, Shape.rowMajor_val_one]
  simp [Shape.numel, Fin.prod_univ_succ]
  rw [← Nat.add_assoc, ← Nat.mul_assoc, ← Nat.add_mul, Nat.div_add_mod']

section Ref

open Cert.Reference13Ideal Cert.Reference13Ideal.Gen

/-- The reference's factor of a row: one over the root of the mean of the squares. -/
def factor (x : FVec Ideal S8x2048x4096 .f32) : FVec Ideal S8x2048x1 .f32 :=
  Host.rsqrt (addf (Host.divf (broadcastInDim S8x2048x1 ![0, 1] bcast_S8x2048_S8x2048x1_0_1
      (Host.reduceAdd (mulf x x) (constant S_ .f32 0x00000000#32) reducesTo_S8x2048x4096_S8x2048_d2 h_S_))
    (broadcastInDim S8x2048x1 ![] bcast_S_S8x2048x1 (constant S_ .f32 0x45800000#32)))
    (broadcastInDim S8x2048x1 ![] bcast_S_S8x2048x1 (constant S_ .f32 0x358637BD#32)))

/-- The reference's result before its tokens are laid end to end. -/
def scaled (x : FVec Ideal S8x2048x4096 .f32) (f : FVec Ideal S8x2048x1 .f32) (g : FVec Ideal S4096 .f32) :
    FVec Ideal S8x2048x4096 .f32 :=
  mulf (mulf x (broadcastInDim S8x2048x4096 ![0, 1, 2] bcast_S8x2048x1_S8x2048x4096_0_1_2 f))
    (broadcastInDim S8x2048x4096 ![0, 1, 2] bcast_S1x1x4096_S8x2048x4096_0_1_2
      (broadcastInDim S1x1x4096 ![2] bcast_S4096_S1x1x4096_2 g))

theorem scaled_apply (x : FVec Ideal S8x2048x4096 .f32) (g : FVec Ideal S4096 .f32) (b : Fin 8) (t : Fin 2048) (n : Fin 4096) :
    scaled x (factor x) g (ix3 b t n) = normed (x (ix3 b t n)) (fun k => x (ix3 b t k)) (g (ix1 n)) := by
  have hf : factor x (ix3 b t 0) = Ideal.rsqrt (Ideal.div (∑ k : Fin 4096, (x (ix3 b t k) * x (ix3 b t k) : EReal))
      (Ideal.ofBits .f32 0x45800000#32) + Ideal.ofBits .f32 0x358637BD#32) := by
    unfold factor
    pointwise
  have hs : ∀ f : FVec Ideal S8x2048x1 .f32, scaled x f g (ix3 b t n) = (x (ix3 b t n) * f (ix3 b t 0) * g (ix1 n) : EReal) := fun f => by
    unfold scaled
    pointwise
  rw [hs, hf]
  rfl

/-- The reference's rows are the normalised rows of its argument. -/
theorem ref_eq (x : FVec Ideal S8x2048x4096 .f32) (g : FVec Ideal S4096 .f32) :
    lined (scaled x (factor x) g) = norm (lined x) (fun n => g (ix1 n)) := by
  funext i
  exact scaled_apply _ _ _ _ _

end Ref

open Cert.Kernel13Ideal Cert.Kernel13Ideal.Gen

variable (m : (ℓ : Loc nD τ sig) → Buf (Elt Ideal) ℓ)

/-- The body's output block at an index. -/
theorem out_apply (x : Vec Ideal S256x4096 .f32) (g : Vec Ideal S1x4096 .f32) (r : Fin 256) (n : Fin 4096) :
    out0_2 x g (ix2 r n) = normed (x (ix2 r n)) (fun k => x (ix2 r k)) (g (ix2 0 n)) := by
  unfold out0_2 normed
  rw [View.canon_unit_zero (by decide)]
  pointwise [k0_pay1]

/-- The block each window holds at a grid point. -/
theorem index_x : ∀ t : Fin grid0.N, win0_0.index t = ![(grid0.coords t 0).val, 0] := by decide +kernel
theorem index_g : ∀ t : Fin grid0.N, win0_1.index t = ![0, 0] := by decide +kernel
theorem index_o : ∀ t : Fin grid0.N, win0_2.index t = ![(grid0.coords t 0).val, 0] := by decide +kernel
theorem covers : (cfg0.win 2).Covers := by decide +kernel

/-- The row of the result that a row of a point's block is. -/
def row (t : Fin grid0.N) (r : Fin 256) : Fin 16384 :=
  ⟨(grid0.coords t 0).val * 256 + r, by have : (grid0.coords t 0).val < 64 := (grid0.coords t 0).isLt; omega⟩

theorem read_x (c : Dev nD) (t : Fin grid0.N) (r : Fin 256) (k : Fin 4096) :
    (iblk m c 0 t : Vec Ideal S256x4096 .f32) (ix2 r k) = V m c main_v0 (ix2 (row t r) k) := by
  blk_ext [iblk, index_x t, row]

theorem read_g (c : Dev nD) (t : Fin grid0.N) (n : Fin 4096) :
    (iblk m c 1 t : Vec Ideal S1x4096 .f32) (ix2 0 n) = V m c main_v1 (ix2 0 n) := by
  blk_ext [iblk, index_g t]

/-- The result array after the run, over the host arrays. -/
theorem arr_eq (c : Dev nD) : (dats m 0 c).arrAt 2 cfg0.N = norm (M := 16384) (V m c main_v0) (fun n => V m c main_v1 (ix2 0 n)) := by
  refine (dats m 0 c).arrAt_eq_of_covers 2 _ covers fun t hf y => ?_
  blk_simp
  rw [after0_2]
  idx_vars y
  rw [out_apply, read_g, norm_of _ _ _ (row t y0) y1 (by blk_simp [index_o t, row]) (by blk_simp [index_o t])]
  simp only [read_x]

theorem x_eq (c : Dev nD) : (V m c main_v0 : S16384x4096.Idx → EReal) = lined (m ((c : Thread nD τ).loc main_arg0)) := by
  entry_read
  exact lined_cast _ _

theorem g_at (c : Dev nD) (n : Fin 4096) :
    V m c main_v1 (ix2 0 n) = (m ((c : Thread nD τ).loc main_arg1) (ix1 n) : EReal) := by
  entry_read
  pointwise

/-- The claim: both programs run, and end at the normalised rows of their argument. -/
theorem algebraic : Cert.algebraic_Kernel13Ideal_Reference13Ideal (hKernel13Ideal := Cert.Kernel13Ideal.Gen.facts)
    (hReference13Ideal := Cert.Reference13Ideal.Gen.facts) := fun m ρ m' ρ' _ hag => by
  refine ⟨fun c => norm (lined (m ((c : Thread nD τ).loc main_arg0))) (fun n => m ((c : Thread nD τ).loc main_arg1) (ix1 n)), ?_, ?_⟩
  · refine (θ_run defs _ _).mono (fun r h c => ⟨(h c).1.trans ((arr_eq m c).trans ?_), (h c).2⟩)
      (Cert.Kernel13Ideal.Value.run_blocks (F := Ideal) m ρ)
    rw [x_eq]
    exact congrArg (norm _) (funext fun n => g_at m c n)
  · refine (θ_run _ _ _).mono (fun r h c => ⟨(h c).1.trans ?_, (h c).2⟩) (Cert.Reference13Ideal.Value.run (F := Ideal) m' ρ')
    obtain ⟨e0, e1⟩ := hag c
    rw [e0, e1]
    exact (lined_cast _ _).trans (ref_eq _ _)

end Cert.Proof.NormTail

end
-- ==== Proof.KvUp.lean ====
/- The keys and values of the attention branch: both programs end at `kvn @ w` head by head; the keys with the shared rotary
   keys beside them and zero columns after, the values with columns of ones. -/
module

public import proofs.«01_k».proof.Proof.Gen.Kernel14Ideal.Value
public import proofs.«01_k».proof.Proof.Gen.Reference14Ideal.Run
public import proofs.«01_k».proof.Proof.Rope
public import proofs.«01_k».proof.Defs
public import Idealize.ShloMosaic.Lib.KernelVsHost

@[expose] public section

set_option maxRecDepth 16384

noncomputable section

namespace Cert.Proof.KvUp

open Idealize.ShloMosaic Idealize.ShloMosaic.TcCoe Idealize.SL.Sem
open Cert.Proof.LayerMath Cert.Proof.InProj Cert.Proof.Rope

/-- The ones beside the values. -/
abbrev one : EReal := Ideal.ofBits .f32 0x3F800000#32

/-- One head's keys: 128 columns of the product, the 64 shared ones, 64 zeros. -/
def keyLine (z : Fin 256 → EReal) (p : Fin 64 → EReal) (n : Fin 256) : EReal :=
  if (n : ℕ) < 128 then z n else if h : (n : ℕ) < 192 then p ⟨n - 128, by omega⟩ else 0

/-- One head's values: the product's other 128 columns, then ones. -/
def valLine (z : Fin 256 → EReal) (n : Fin 256) : EReal :=
  if h : (n : ℕ) < 128 then z ⟨128 + n, by omega⟩ else one

/-- The columns of head `h`. -/
def headCol (h : Fin 16) (k : Fin 256) : Fin 4096 := ⟨h * 256 + k, by omega⟩

/-- The keys, heads first. -/
def keys (a : (⟨2, ![16384, 512]⟩ : Shape).Idx → EReal) (w : (⟨2, ![512, 4096]⟩ : Shape).Idx → EReal)
    (p : (⟨2, ![16384, 64]⟩ : Shape).Idx → EReal) (i : (⟨3, ![16, 16384, 256]⟩ : Shape).Idx) : EReal :=
  keyLine (fun k => prodAt a w (i 1) (headCol (i 0) k)) (fun j => p (ix2 (i 1) j)) (i 2)

/-- The values, heads first. -/
def vals (a : (⟨2, ![16384, 512]⟩ : Shape).Idx → EReal) (w : (⟨2, ![512, 4096]⟩ : Shape).Idx → EReal)
    (i : (⟨3, ![16, 16384, 256]⟩ : Shape).Idx) : EReal :=
  valLine (fun k => prodAt a w (i 1) (headCol (i 0) k)) (i 2)

section Ref

open Cert.Reference14Ideal Cert.Reference14Ideal.Gen

/-- The reference's product, by heads. -/
def heads (x : FVec Ideal S4x4096x512 .f32) (w : FVec Ideal S512x4096 .f32) : FVec Ideal S4x4096x16x256 .f32 :=
  shapeCast _ (Host.dotGeneral dot_S4x4096x512_S512x4096_S4x4096x4096_2_0_01_1_n_n none x w) shapeCasts_S4x4096x4096_S4x4096x16x256

theorem heads_apply (x : FVec Ideal S4x4096x512 .f32) (w : FVec Ideal S512x4096 .f32) (r : Fin 16384) (h : Fin 16) (k : Fin 256) :
    heads x w (ix4 ⟨r / 4096, by omega⟩ ⟨r % 4096, by omega⟩ h k) = prodAt (rows x) w r (headCol h k) := by
  unfold heads prodAt rows headCol
  pointwise

/-- Heads first. -/
def headsFirst (t : FVec Ideal S4x4096x16x256 .f32) : FVec Ideal S16x16384x256 .bf16 :=
  truncf .bf16 (transpose S16x16384x256 [1, 0, 2] (shapeCast _ t shapeCasts_S4x4096x16x256_S16384x16x256)
    transposes_S16384x16x256_S16x16384x256_1_0_2) bitsLt_bf16_f32

theorem headsFirst_apply (t : FVec Ideal S4x4096x16x256 .f32) (h : Fin 16) (r : Fin 16384) (n : Fin 256) :
    headsFirst t (ix3 h r n) = t (ix4 ⟨r / 4096, by omega⟩ ⟨r % 4096, by omega⟩ h n) := by
  unfold headsFirst
  pointwise

/-- The reference's keys from its heads. -/
def refKeys (z : FVec Ideal S4x4096x16x256 .f32) (p : FVec Ideal S4x4096x64 .f32) : FVec Ideal S4x4096x16x256 .f32 :=
  concatenate S4x4096x16x256 3
    [⟨S4x4096x16x192, concatenate S4x4096x16x192 3
      [⟨S4x4096x16x128, extractStridedSlice S4x4096x16x128 ![0, 0, 0, 0] z slices_S4x4096x16x256_S4x4096x16x128_0_0_0_0⟩,
       ⟨S4x4096x16x64, broadcastInDim S4x4096x16x64 ![0, 1, 2, 3] bcast_S4x4096x1x64_S4x4096x16x64_0_1_2_3
        (broadcastInDim S4x4096x1x64 ![0, 1, 3] bcast_S4x4096x64_S4x4096x1x64_0_1_3 p)⟩]
      concatenates_S4x4096x16x128_S4x4096x16x64_S4x4096x16x192_d3⟩,
     ⟨S4x4096x16x64, (broadcastInDim S4x4096x16x64 ![] bcast_S_S4x4096x16x64 (constant S_ .f32 0x00000000#32) : FVec Ideal S4x4096x16x64 .f32)⟩]
    concatenates_S4x4096x16x192_S4x4096x16x64_S4x4096x16x256_d3

theorem refKeys_apply (z : FVec Ideal S4x4096x16x256 .f32) (p : FVec Ideal S4x4096x64 .f32) (r : Fin 16384) (h : Fin 16) (n : Fin 256) :
    refKeys z p (ix4 ⟨r / 4096, by omega⟩ ⟨r % 4096, by omega⟩ h n)
      = keyLine (fun k => z (ix4 ⟨r / 4096, by omega⟩ ⟨r % 4096, by omega⟩ h k)) (fun j => rows p (ix2 r j)) n := by
  unfold refKeys keyLine rows
  pointwise
  split_ifs <;> first
    | rfl
    | omega

/-- The reference's values from its heads. -/
def refVals (z : FVec Ideal S4x4096x16x256 .f32) : FVec Ideal S4x4096x16x256 .f32 :=
  concatenate S4x4096x16x256 3
    [⟨S4x4096x16x128, extractStridedSlice S4x4096x16x128 ![0, 0, 0, 128] z slices_S4x4096x16x256_S4x4096x16x128_0_0_0_128⟩,
     ⟨S4x4096x16x128, (broadcastInDim S4x4096x16x128 ![] bcast_S_S4x4096x16x128 (constant S_ .f32 0x3F800000#32) : FVec Ideal S4x4096x16x128 .f32)⟩]
    concatenates_S4x4096x16x128_S4x4096x16x128_S4x4096x16x256_d3

theorem refVals_apply (z : FVec Ideal S4x4096x16x256 .f32) (b : Fin 4) (t : Fin 4096) (h : Fin 16) (n : Fin 256) :
    refVals z (ix4 b t h n) = valLine (fun k => z (ix4 b t h k)) n := by
  unfold refVals valLine
  pointwise

theorem refKeys_at (x : FVec Ideal S4x4096x512 .f32) (w : FVec Ideal S512x4096 .f32) (p : FVec Ideal S4x4096x64 .f32) (h : Fin 16)
    (r : Fin 16384) (n : Fin 256) : headsFirst (refKeys (heads x w) p) (ix3 h r n)
      = keyLine (fun k => prodAt (rows x) w r (headCol h k)) (fun j => rows p (ix2 r j)) n := by
  rw [headsFirst_apply, refKeys_apply]
  simp only [heads_apply]

theorem refVals_at (x : FVec Ideal S4x4096x512 .f32) (w : FVec Ideal S512x4096 .f32) (h : Fin 16) (r : Fin 16384) (n : Fin 256) :
    headsFirst (refVals (heads x w)) (ix3 h r n) = valLine (fun k => prodAt (rows x) w r (headCol h k)) n := by
  rw [headsFirst_apply, refVals_apply]
  simp only [heads_apply]

theorem refKeys_eq (x : FVec Ideal S4x4096x512 .f32) (w : FVec Ideal S512x4096 .f32) (p : FVec Ideal S4x4096x64 .f32) :
    (headsFirst (refKeys (heads x w) p) : S16x16384x256.Idx → EReal) = keys (rows x) w (rows p) := by
  funext i
  rw [idx_eq3 i (i 0) (i 1) (i 2) rfl rfl rfl]
  exact refKeys_at x w p (i 0) (i 1) (i 2)

theorem refVals_eq (x : FVec Ideal S4x4096x512 .f32) (w : FVec Ideal S512x4096 .f32) :
    (headsFirst (refVals (heads x w)) : S16x16384x256.Idx → EReal) = vals (rows x) w := by
  funext i
  rw [idx_eq3 i (i 0) (i 1) (i 2) rfl rfl rfl]
  exact refVals_at x w (i 0) (i 1) (i 2)

end Ref

open Cert.Kernel14Ideal Cert.Kernel14Ideal.Gen

variable (m : (ℓ : Loc nD τ sig) → Buf (Elt Ideal) ℓ)

/-- The body's product. -/
def product (a : Vec Ideal S2048x512 .bf16) (w : Vec Ideal S1x512x256 .bf16) : FVec Ideal S2048x256 .f32 :=
  matmul (F := Ideal) (φ₁ := .bf16) (φ₂ := .bf16) dot_S2048x512_S512x256_S2048x256_1_0_0_1_n_n none
    (shapeCast S2048x512 a shapeCasts_S2048x512_S2048x512) (shapeCast S512x256 w shapeCasts_S1x512x256_S512x256)
    (constant S2048x256 .f32 0x00000000#32)

theorem product_apply (a : Vec Ideal S2048x512 .bf16) (w : Vec Ideal S1x512x256 .bf16) (r : Fin 2048) (n : Fin 256) :
    product a w (ix2 r n) = prodAt a (slab w 0) r n := by
  unfold product prodAt slab
  pointwise

/-- The body's keys and values from its product. -/
def keyBlock (z : FVec Ideal S2048x256 .f32) (p : FVec Ideal S2048x128 .bf16) : FVec Ideal S1x2048x256 .bf16 :=
  shapeCast S1x2048x256 (concatenate S2048x256 1
    [⟨S2048x128, truncf .bf16 (extractStridedSlice S2048x128 ![0, 0] z slices_S2048x256_o0_0_S2048x128) bitsLt_bf16_f32⟩,
     ⟨S2048x128, shapeCast S2048x128 p shapeCasts_S2048x128_S2048x128⟩] concatenates_S2048x128_S2048x128_S2048x256_d1)
    shapeCasts_S2048x256_S1x2048x256

def valBlock (z : FVec Ideal S2048x256 .f32) : FVec Ideal S1x2048x256 .bf16 :=
  shapeCast S1x2048x256 (truncf .bf16 (concatenate S2048x256 1
    [⟨S2048x128, extractStridedSlice S2048x128 ![0, 128] z slices_S2048x256_o0_128_S2048x128⟩,
     ⟨S2048x128, broadcast S2048x128 (Scalar.ofBits (F := Ideal) .f32 0x3F800000#32)⟩] concatenates_S2048x128_S2048x128_S2048x256_d1)
    bitsLt_bf16_f32) shapeCasts_S2048x256_S1x2048x256

theorem keyBlock_apply (z : FVec Ideal S2048x256 .f32) (p : FVec Ideal S2048x128 .bf16) (q : Fin 64 → EReal) (r : Fin 2048) (n : Fin 256)
    (hp : ∀ j : Fin 128, p (ix2 r j) = if h : (j : ℕ) < 64 then q ⟨j, h⟩ else 0) :
    keyBlock z p (ix3 0 r n) = keyLine (fun k => z (ix2 r k)) q n := by
  unfold keyBlock keyLine
  pointwise
  by_cases a : (n : ℕ) < 128
  · rw [if_pos a, dif_pos a]
  · rw [if_neg a, dif_neg a]
    refine (hp ⟨n - 128, by omega⟩).trans ?_
    exact dite_congr (propext ⟨fun h => by dsimp only at h; omega, fun h => by dsimp only; omega⟩) (fun _ => rfl) fun _ => rfl

theorem valBlock_apply (z : FVec Ideal S2048x256 .f32) (r : Fin 2048) (n : Fin 256) :
    valBlock z (ix3 0 r n) = valLine (fun k => z (ix2 r k)) n := by
  unfold valBlock valLine
  pointwise

/-- The body's output blocks at an index. -/
theorem outK_apply (a : Vec Ideal S2048x512 .bf16) (w : Vec Ideal S1x512x256 .bf16) (p : Vec Ideal S2048x128 .bf16) (q : Fin 64 → EReal)
    (r : Fin 2048) (n : Fin 256) (hp : ∀ j : Fin 128, p (ix2 r j) = if h : (j : ℕ) < 64 then q ⟨j, h⟩ else 0) :
    out0_3 a w p (ix3 0 r n) = keyLine (prodAt a (slab w 0) r) q n := by
  unfold out0_3
  rw [View.canon_unit_zero (by decide), View.ld_unit_zero (by decide), View.ld_unit_zero (by decide), View.ld_unit_zero (by decide)]
  show keyBlock (product a w) p (ix3 0 r n) = _
  rw [keyBlock_apply _ _ q _ _ hp]
  simp only [product_apply]

theorem outV_apply (a : Vec Ideal S2048x512 .bf16) (w : Vec Ideal S1x512x256 .bf16) (p : Vec Ideal S2048x128 .bf16) (r : Fin 2048)
    (n : Fin 256) : out0_4 a w p (ix3 0 r n) = valLine (prodAt a (slab w 0) r) n := by
  unfold out0_4
  rw [View.canon_unit_zero (by decide), View.ld_unit_zero (by decide), View.ld_unit_zero (by decide)]
  show valBlock (product a w) (ix3 0 r n) = _
  rw [valBlock_apply]
  simp only [product_apply]

/-- The block each window holds at a grid point (row block, head), and that every block of the results is written back. -/
theorem index_a : ∀ t : Fin grid0.N, win0_0.index t = ![(grid0.coords t 0).val, 0] := by decide +kernel
theorem index_w : ∀ t : Fin grid0.N, win0_1.index t = ![(grid0.coords t 1).val, 0, 0] := by decide +kernel
theorem index_p : ∀ t : Fin grid0.N, win0_2.index t = ![(grid0.coords t 0).val, 0] := by decide +kernel
theorem index_k : ∀ t : Fin grid0.N, win0_3.index t = ![(grid0.coords t 1).val, (grid0.coords t 0).val, 0] := by decide +kernel
theorem index_v : ∀ t : Fin grid0.N, win0_4.index t = ![(grid0.coords t 1).val, (grid0.coords t 0).val, 0] := by decide +kernel
theorem coversK : (cfg0.win 3).Covers := by decide +kernel
theorem coversV : (cfg0.win 4).Covers := by decide +kernel

/-- The row of the results that a row of a point's block is, and the point's head. -/
def row (t : Fin grid0.N) (r : Fin 2048) : Fin 16384 :=
  ⟨(grid0.coords t 0).val * 2048 + r, by have : (grid0.coords t 0).val < 8 := (grid0.coords t 0).isLt; omega⟩
def hd (t : Fin grid0.N) : Fin 16 := ⟨(grid0.coords t 1).val, (grid0.coords t 1).isLt⟩

theorem read_a (c : Dev nD) (t : Fin grid0.N) (r : Fin 2048) (k : Fin 512) :
    (iblk m c 0 t : Vec Ideal S2048x512 .bf16) (ix2 r k) = V m c main_v8 (ix2 (row t r) k) := by
  blk_ext [iblk, index_a t, row]

theorem read_w (c : Dev nD) (t : Fin grid0.N) (k : Fin 512) (n : Fin 256) :
    (iblk m c 1 t : Vec Ideal S1x512x256 .bf16) (ix3 0 k n) = V m c main_v2 (ix3 (hd t) k n) := by
  blk_ext [iblk, index_w t, hd]

theorem read_p (c : Dev nD) (t : Fin grid0.N) (r : Fin 2048) (j : Fin 128) :
    (iblk m c 2 t : Vec Ideal S2048x128 .bf16) (ix2 r j) = V m c main_v6 (ix2 (row t r) j) := by
  blk_ext [iblk, index_p t, row]

theorem x_eq (c : Dev nD) : (V m c main_v8 : S16384x512.Idx → EReal) = rows (m ((c : Thread nD τ).loc main_arg0)) := by
  entry_read
  exact rows_cast _ _

/-- The host's weights, heads first. -/
def weights (w : FVec Ideal S512x4096 .f32) : FVec Ideal S16x512x256 .bf16 :=
  truncf .bf16 (transpose S16x512x256 [1, 0, 2] (shapeCast _ w shapeCasts_S512x4096_S512x16x256)
    transposes_S512x16x256_S16x512x256_1_0_2) bitsLt_bf16_f32

theorem weights_apply (w : FVec Ideal S512x4096 .f32) (h : Fin 16) (k : Fin 512) (n : Fin 256) :
    weights w (ix3 h k n) = w (ix2 k (headCol h n)) := by
  unfold weights headCol
  pointwise

theorem w_eq (c : Dev nD) : V m c main_v2 = weights (m ((c : Thread nD τ).loc main_arg2)) := by
  unfold V
  simp only [StableHlo.after_cons, StableHlo.after_nil]
  rfl

/-- The host's shared keys: the 64 columns, then zeros. -/
def shared (p : FVec Ideal S4x4096x64 .f32) : FVec Ideal S16384x128 .bf16 :=
  truncf .bf16 (concatenate S16384x128 1 [⟨S16384x64, shapeCast S16384x64 p shapeCasts_S4x4096x64_S16384x64⟩,
    ⟨S16384x64, (broadcastInDim S16384x64 ![] bcast_S_S16384x64 (constant S_ .f32 0x00000000#32) : FVec Ideal S16384x64 .f32)⟩]
    concatenates_S16384x64_S16384x64_S16384x128_d1) bitsLt_bf16_f32

theorem shared_apply (p : FVec Ideal S4x4096x64 .f32) (r : Fin 16384) (j : Fin 128) :
    shared p (ix2 r j) = if h : (j : ℕ) < 64 then rows p (ix2 r ⟨j, h⟩) else 0 := by
  unfold shared rows
  pointwise

theorem p_eq (c : Dev nD) : V m c main_v6 = shared (m ((c : Thread nD τ).loc main_arg1)) := by
  unfold V
  simp only [StableHlo.after_cons, StableHlo.after_nil]
  rfl

/-- The body's product at a grid point, in the result's coordinates. -/
theorem prod_eq (c : Dev nD) (t : Fin grid0.N) (r : Fin 2048) :
    prodAt (iblk m c 0 t : Vec Ideal S2048x512 .bf16) (slab (iblk m c 1 t : Vec Ideal S1x512x256 .bf16) 0) r
      = fun k => prodAt (rows (m ((c : Thread nD τ).loc main_arg0))) (m ((c : Thread nD τ).loc main_arg2)) (row t r) (headCol (hd t) k) := by
  rw [← x_eq m c]
  funext n
  exact prodAt_congr (fun k => read_a m c t r k)
    (fun j => (read_w m c t j n).trans ((congrFun (w_eq m c) _).trans (weights_apply _ (hd t) j n)))

/-- The result arrays after the run. -/
theorem arrK_eq (c : Dev nD) : (dats m 0 c).arrAt 3 cfg0.N
    = keys (rows (m ((c : Thread nD τ).loc main_arg0))) (m ((c : Thread nD τ).loc main_arg2)) (rows (m ((c : Thread nD τ).loc main_arg1))) := by
  refine (dats m 0 c).arrAt_eq_of_covers 3 _ coversK fun t hf y => ?_
  blk_simp
  rw [after0_3]
  idx_vars y
  obtain rfl : y0 = 0 := Subsingleton.elim _ _
  rw [outK_apply _ _ _ (fun j => rows (m ((c : Thread nD τ).loc main_arg1)) (ix2 (row t y1) j)) _ _
    fun j => (read_p m c t y1 j).trans ((congrFun (p_eq m c) _).trans (shared_apply _ _ j)), prod_eq m c t y1]
  exact (congrArg (keys _ _ _) (idx_eq3 _ (hd t) (row t y1) y2 (by blk_simp [index_k t, hd]; exact Nat.add_zero _)
    (by blk_simp [index_k t, row]) (by blk_simp [index_k t]))).symm

theorem arrV_eq (c : Dev nD) : (dats m 0 c).arrAt 4 cfg0.N
    = vals (rows (m ((c : Thread nD τ).loc main_arg0))) (m ((c : Thread nD τ).loc main_arg2)) := by
  refine (dats m 0 c).arrAt_eq_of_covers 4 _ coversV fun t hf y => ?_
  blk_simp
  rw [after0_4]
  idx_vars y
  obtain rfl : y0 = 0 := Subsingleton.elim _ _
  rw [outV_apply, prod_eq m c t y1]
  exact (congrArg (vals _ _) (idx_eq3 _ (hd t) (row t y1) y2 (by blk_simp [index_v t, hd]; exact Nat.add_zero _)
    (by blk_simp [index_v t, row]) (by blk_simp [index_v t]))).symm

/-- The claim: both programs run, and end at the keys and values of their arguments. -/
theorem algebraic : Cert.algebraic_Kernel14Ideal_Reference14Ideal (hKernel14Ideal := Cert.Kernel14Ideal.Gen.facts)
    (hReference14Ideal := Cert.Reference14Ideal.Gen.facts) := fun m ρ m' ρ' _ hag => by
  refine ⟨fun c => keys (rows (m ((c : Thread nD τ).loc main_arg0))) (m ((c : Thread nD τ).loc main_arg2))
      (rows (m ((c : Thread nD τ).loc main_arg1))),
    fun c => vals (rows (m ((c : Thread nD τ).loc main_arg0))) (m ((c : Thread nD τ).loc main_arg2)), ?_, ?_⟩
  · exact (θ_run defs _ _).mono (fun r h c => ⟨(h c).1.trans (arrK_eq m c), (h c).2.1.trans (arrV_eq m c), (h c).2.2⟩)
      (Cert.Kernel14Ideal.Value.run_blocks (F := Ideal) m ρ)
  · refine (θ_run _ _ _).mono (fun r h c => ⟨(h c).1.trans ?_, (h c).2.1.trans ?_, (h c).2.2⟩)
      (Cert.Reference14Ideal.Value.run (F := Ideal) m' ρ')
    · obtain ⟨e0, e1, e2⟩ := hag c
      exact (refKeys_eq _ _ _).trans (by rw [e0, e1, e2])
    · obtain ⟨e0, e1, e2⟩ := hag c
      exact (refVals_eq _ _).trans (by rw [e0, e2])

end Cert.Proof.KvUp

end
-- ==== Proof.Kpe.lean ====
/- The shared rotary keys of the attention branch: both programs end at 64 columns of the input projection turned by the
   rotary embedding of each token's position, with zero columns after them. -/
module

public import proofs.«01_k».proof.Proof.Gen.Kernel15Ideal.Value
public import proofs.«01_k».proof.Proof.Gen.Reference15Ideal.Run
public import proofs.«01_k».proof.Proof.QUp

@[expose] public section

set_option maxRecDepth 16384

noncomputable section

namespace Cert.Proof.Kpe

open Idealize.ShloMosaic Idealize.ShloMosaic.TcCoe Idealize.SL.Sem
open Cert.Proof.LayerMath Cert.Proof.InProj Cert.Proof.Rope
open Cert.Proof.QUp (angles table table_cos table_sin)

/-- The shared keys' columns of the weights. -/
def keyCols (w : (⟨2, ![4096, 29120]⟩ : Shape).Idx → EReal) : (⟨2, ![4096, 64]⟩ : Shape).Idx → EReal :=
  cols 8576 64 (by decide) w

/-- The shared keys. -/
def shared (a : (⟨2, ![16384, 4096]⟩ : Shape).Idx → EReal) (w : (⟨2, ![4096, 64]⟩ : Shape).Idx → EReal)
    (C S : (⟨2, ![4096, 32]⟩ : Shape).Idx → EReal) (i : (⟨2, ![16384, 128]⟩ : Shape).Idx) : EReal :=
  turned (prodAt a w (i 0)) (fun j => C (ix2 ⟨(i 0 : ℕ) % 4096, by omega⟩ j)) (fun j => S (ix2 ⟨(i 0 : ℕ) % 4096, by omega⟩ j)) (i 1)

section Ref

open Cert.Reference15Ideal Cert.Reference15Ideal.Gen

/-- The reference's columns of the projection. -/
def proj (x : FVec Ideal S4x4096x4096 .f32) (w : FVec Ideal S4096x29120 .f32) : FVec Ideal S4x4096x64 .f32 :=
  extractStridedSlice S4x4096x64 ![0, 0, 2048] (extractStridedSlice S4x4096x2112 ![0, 0, 6528]
    (Host.dotGeneral dot_S4x4096x4096_S4096x29120_S4x4096x29120_2_0_01_1_n_n none x w) slices_S4x4096x29120_S4x4096x2112_0_0_6528)
    slices_S4x4096x2112_S4x4096x64_0_0_2048

theorem proj_apply (x : FVec Ideal S4x4096x4096 .f32) (w : FVec Ideal S4096x29120 .f32) (r : Fin 16384) (k : Fin 64) :
    proj x w (ix3 ⟨r / 4096, by omega⟩ ⟨r % 4096, by omega⟩ k) = prodAt (rows x) (keyCols w) r k := by
  unfold proj prodAt rows keyCols cols
  pointwise
  refine Finset.sum_congr rfl fun j _ => congrArg (fun n => (_ * w (ix2 j n) : EReal)) (Fin.ext ?_)
  dsimp only
  omega

/-- A table of the positions, for every sequence. -/
def spread (A : FVec Ideal S4096x32 .f32) : FVec Ideal S4x4096x32 .f32 :=
  broadcastInDim S4x4096x32 ![0, 1, 2] bcast_S1x4096x32_S4x4096x32_0_1_2 (broadcastInDim S1x4096x32 ![1, 2] bcast_S4096x32_S1x4096x32_1_2 A)

/-- The reference's rotary embedding. -/
def rope (z : FVec Ideal S4x4096x64 .f32) (A : FVec Ideal S4096x32 .f32) : FVec Ideal S4x4096x64 .f32 :=
  concatenate S4x4096x64 2
    [⟨S4x4096x32, subf (mulf (extractStridedSlice S4x4096x32 ![0, 0, 0] z slices_S4x4096x64_S4x4096x32_0_0_0) (spread (Host.cos A)))
      (mulf (extractStridedSlice S4x4096x32 ![0, 0, 32] z slices_S4x4096x64_S4x4096x32_0_0_32) (spread (Host.sin A)))⟩,
     ⟨S4x4096x32, addf (mulf (extractStridedSlice S4x4096x32 ![0, 0, 0] z slices_S4x4096x64_S4x4096x32_0_0_0) (spread (Host.sin A)))
      (mulf (extractStridedSlice S4x4096x32 ![0, 0, 32] z slices_S4x4096x64_S4x4096x32_0_0_32) (spread (Host.cos A)))⟩]
    concatenates_S4x4096x32_S4x4096x32_S4x4096x64_d2

theorem rope_apply (z : FVec Ideal S4x4096x64 .f32) (A : FVec Ideal S4096x32 .f32) (b : Fin 4) (t : Fin 4096) (e : Fin 64) :
    rope z A (ix3 b t e) = turn (N := 64) rfl (fun k => z (ix3 b t k)) (fun j => Host.cos A (ix2 t j)) (fun j => Host.sin A (ix2 t j)) e := by
  unfold rope turn spread
  generalize Host.cos A = C
  generalize Host.sin A = S
  pointwise
  split
  · exact lo_congr (fun k => z (ix3 b t k)) (fun j => C (ix2 t j)) (fun j => S (ix2 t j))
      (by dsimp only <;> omega) (by dsimp only <;> omega) (by dsimp only <;> omega) (by dsimp only <;> omega)
  · exact hi_congr (fun k => z (ix3 b t k)) (fun j => C (ix2 t j)) (fun j => S (ix2 t j))
      (by dsimp only <;> omega) (by dsimp only <;> omega) (by dsimp only <;> omega) (by dsimp only <;> omega)

/-- The reference's result: token by token, zero columns after the keys. -/
def padded (q : FVec Ideal S4x4096x64 .f32) : FVec Ideal S16384x128 .bf16 :=
  truncf .bf16 (pad S16384x128 ![0, 0] ![0, 64] ![0, 0] (shapeCast _ q shapeCasts_S4x4096x64_S16384x64)
    (sitofp .f32 (constantI S_ 32 0#32)) pads_S16384x64_S16384x128_000_0640 h_S_) bitsLt_bf16_f32

theorem padded_apply (q : FVec Ideal S4x4096x64 .f32) (r : Fin 16384) (n : Fin 128) :
    padded q (ix2 r n) = if hn : (n : ℕ) < 64 then q (ix3 ⟨r / 4096, by omega⟩ ⟨r % 4096, by omega⟩ ⟨n, hn⟩) else 0 := by
  unfold padded
  pointwise
  exact dite_congr rfl (fun _ => rfl) fun _ => zero_word

theorem ref_eq (x : FVec Ideal S4x4096x4096 .f32) (w : FVec Ideal S4096x29120 .f32) :
    (padded (rope (proj x w) angles) : S16384x128.Idx → EReal)
      = shared (rows x) (keyCols w) (Host.cos (φ := .f32) angles) (Host.sin (φ := .f32) angles) := by
  refine ext2 fun r n => ?_
  show _ = turned (prodAt (rows x) (keyCols w) r) (fun j => Host.cos (φ := .f32) angles (ix2 ⟨(r : ℕ) % 4096, by omega⟩ j))
    (fun j => Host.sin (φ := .f32) angles (ix2 ⟨(r : ℕ) % 4096, by omega⟩ j)) n
  unfold turned
  rw [padded_apply]
  refine dite_congr rfl (fun hn => ?_) fun _ => rfl
  rw [rope_apply]
  exact turn_congr (fun k => proj_apply x w r k) (fun _ => rfl) (fun _ => rfl) rfl

end Ref

open Cert.Kernel15Ideal Cert.Kernel15Ideal.Gen

variable (m : (ℓ : Loc nD τ sig) → Buf (Elt Ideal) ℓ)

/-- The body's product. -/
def product (a : Vec Ideal S1024x4096 .bf16) (w : Vec Ideal S4096x128 .bf16) : FVec Ideal S1024x128 .f32 :=
  matmul (F := Ideal) (φ₁ := .bf16) (φ₂ := .bf16) dot_S1024x4096_S4096x128_S1024x128_1_0_0_1_n_n none
    (shapeCast S1024x4096 a shapeCasts_S1024x4096_S1024x4096) (shapeCast S4096x128 w shapeCasts_S4096x128_S4096x128)
    (constant S1024x128 .f32 0x00000000#32)

theorem product_apply (a : Vec Ideal S1024x4096 .bf16) (w : Vec Ideal S4096x128 .bf16) (r : Fin 1024) (n : Fin 128) :
    product a w (ix2 r n) = prodAt a w r n := by
  unfold product prodAt
  pointwise

/-- The body's block from its product and its tables. -/
def block (z C S : FVec Ideal S1024x128 .f32) : FVec Ideal S1024x128 .bf16 :=
  truncf .bf16 (addf (mulf z (shapeCast S1024x128 C shapeCasts_S1024x128_S1024x128))
    (mulf (dynamicRotate 1 64#32 none z rotates_S1024x128_d1) (shapeCast S1024x128 S shapeCasts_S1024x128_S1024x128))) bitsLt_bf16_f32

theorem block_apply (z C S : FVec Ideal S1024x128 .f32) (r : Fin 1024) (n : Fin 128) :
    block z C S (ix2 r n) = paired (fun k => z (ix2 r k)) (fun j => C (ix2 r j)) (fun j => S (ix2 r j)) n := by
  unfold block paired
  pointwise
  refine congrArg (fun k => (_ + z (ix2 r k) * _ : EReal)) (Fin.ext ?_)
  dsimp only
  omega

/-- The body's output block at an index. -/
theorem out_apply (a : Vec Ideal S1024x4096 .bf16) (w : Vec Ideal S4096x128 .bf16) (C S : Vec Ideal S1024x128 .f32) (r : Fin 1024)
    (n : Fin 128) : out0_4 a w C S (ix2 r n) = paired (prodAt a w r) (fun j => C (ix2 r j)) (fun j => S (ix2 r j)) n := by
  unfold out0_4
  rw [View.canon_unit_zero (by decide), View.ld_unit_zero (by decide), View.ld_unit_zero (by decide), View.ld_unit_zero (by decide),
    View.ld_unit_zero (by decide)]
  show block (product a w) C S (ix2 r n) = _
  rw [block_apply]
  simp only [product_apply]

/-- The block each window holds at a grid point, and that every block of the result is written back. -/
theorem index_a : ∀ t : Fin grid0.N, win0_0.index t = ![(grid0.coords t 0).val, 0] := by decide +kernel
theorem index_w : ∀ t : Fin grid0.N, win0_1.index t = ![0, 0] := by decide +kernel
theorem index_c : ∀ t : Fin grid0.N, win0_2.index t = ![(grid0.coords t 0).val % 4, 0] := by decide +kernel
theorem index_s : ∀ t : Fin grid0.N, win0_3.index t = ![(grid0.coords t 0).val % 4, 0] := by decide +kernel
theorem index_o : ∀ t : Fin grid0.N, win0_4.index t = ![(grid0.coords t 0).val, 0] := by decide +kernel
theorem covers : (cfg0.win 4).Covers := by decide +kernel

/-- The row of the result that a row of a point's block is, and the row of the tables. -/
def row (t : Fin grid0.N) (r : Fin 1024) : Fin 16384 :=
  ⟨(grid0.coords t 0).val * 1024 + r, by have : (grid0.coords t 0).val < 16 := (grid0.coords t 0).isLt; omega⟩
def tabRow (t : Fin grid0.N) (r : Fin 1024) : Fin 4096 := ⟨(grid0.coords t 0).val % 4 * 1024 + r, by omega⟩

theorem tabRow_eq (t : Fin grid0.N) (r : Fin 1024) : tabRow t r = ⟨(row t r : ℕ) % 4096, by omega⟩ := by
  refine Fin.ext ?_
  show (grid0.coords t 0).val % 4 * 1024 + (r : ℕ) = ((grid0.coords t 0).val * 1024 + (r : ℕ)) % 4096
  omega

theorem read_a (c : Dev nD) (t : Fin grid0.N) (r : Fin 1024) (k : Fin 4096) :
    (iblk m c 0 t : Vec Ideal S1024x4096 .bf16) (ix2 r k) = V m c main_v29 (ix2 (row t r) k) := by
  blk_ext [iblk, index_a t, row]

theorem read_w (c : Dev nD) (t : Fin grid0.N) (k : Fin 4096) (n : Fin 128) :
    (iblk m c 1 t : Vec Ideal S4096x128 .bf16) (ix2 k n) = V m c main_v27 (ix2 k n) := by
  blk_ext [iblk, index_w t]

theorem read_c (c : Dev nD) (t : Fin grid0.N) (r : Fin 1024) (j : Fin 128) :
    (iblk m c 2 t : Vec Ideal S1024x128 .f32) (ix2 r j) = V m c main_v19 (ix2 (tabRow t r) j) := by
  blk_ext [iblk, index_c t, tabRow]

theorem read_s (c : Dev nD) (t : Fin grid0.N) (r : Fin 1024) (j : Fin 128) :
    (iblk m c 3 t : Vec Ideal S1024x128 .f32) (ix2 r j) = V m c main_v21 (ix2 (tabRow t r) j) := by
  blk_ext [iblk, index_s t, tabRow]

theorem x_eq (c : Dev nD) : (V m c main_v29 : S16384x4096.Idx → EReal) = rows (m ((c : Thread nD τ).loc main_arg0)) := by
  entry_read
  exact rows_cast _ _

/-- The host's weights: the columns, then the columns once more, halves swapped. -/
def weights (w : FVec Ideal S4096x29120 .f32) : FVec Ideal S4096x128 .bf16 :=
  truncf .bf16 (concatenate S4096x128 1
    [⟨S4096x64, extractStridedSlice S4096x64 ![0, 8576] w slices_S4096x29120_S4096x64_0_8576⟩,
     ⟨S4096x64, concatenate S4096x64 1
      [⟨S4096x32, extractStridedSlice S4096x32 ![0, 32] (extractStridedSlice S4096x64 ![0, 8576] w slices_S4096x29120_S4096x64_0_8576)
          slices_S4096x64_S4096x32_0_32⟩,
       ⟨S4096x32, extractStridedSlice S4096x32 ![0, 0] (extractStridedSlice S4096x64 ![0, 8576] w slices_S4096x29120_S4096x64_0_8576)
          slices_S4096x64_S4096x32_0_0⟩] concatenates_S4096x32_S4096x32_S4096x64_d1⟩] concatenates_S4096x64_S4096x64_S4096x128_d1)
    bitsLt_bf16_f32

theorem weights_lo (w : FVec Ideal S4096x29120 .f32) (k : Fin 4096) (e : Fin 64) :
    weights w (ix2 k ⟨e, by omega⟩) = keyCols w (ix2 k e) := by
  unfold weights keyCols cols
  pointwise

theorem weights_hi (w : FVec Ideal S4096x29120 .f32) (k : Fin 4096) (e : Fin 64) :
    weights w (ix2 k ⟨64 + e, by omega⟩) = keyCols w (ix2 k ⟨(e + 32) % 64, by omega⟩) := by
  unfold weights keyCols cols
  pointwise
  split_ifs <;> first
    | exact (‹¬ _› rfl).elim
    | exact congrArg (fun j => w (ix2 k j)) (Fin.ext (by dsimp only <;> omega))
    | omega

theorem w_eq (c : Dev nD) : V m c main_v27 = weights (m ((c : Thread nD τ).loc main_arg1)) := by
  unfold V
  simp only [StableHlo.after_cons, StableHlo.after_nil]
  rfl

theorem cos_eq (c : Dev nD) : V m c main_v19 = table (Host.cos angles) (Host.cos angles) := by
  unfold V
  simp only [StableHlo.after_cons, StableHlo.after_nil]
  rfl

theorem sin_eq (c : Dev nD) : V m c main_v21 = table (Host.negf (Host.sin angles)) (Host.sin angles) := by
  unfold V
  simp only [StableHlo.after_cons, StableHlo.after_nil]
  rfl

/-- The result array after the run. -/
theorem arr_eq (c : Dev nD) : (dats m 0 c).arrAt 4 cfg0.N
    = shared (rows (m ((c : Thread nD τ).loc main_arg0))) (keyCols (m ((c : Thread nD τ).loc main_arg1)))
      (Host.cos (φ := .f32) angles) (Host.sin (φ := .f32) angles) := by
  rw [← x_eq m c]
  refine (dats m 0 c).arrAt_eq_of_covers 4 _ covers fun t hf y => ?_
  blk_simp
  rw [after0_4]
  idx_vars y
  rw [out_apply]
  refine Eq.trans ?_ (congrArg _ (idx_eq _ (row t y0) y1 (by blk_simp [index_o t, row]) (by blk_simp [index_o t]))).symm
  have hc : (fun j => (iblk m c 2 t : Vec Ideal S1024x128 .f32) (ix2 y0 j))
      = cosTab (fun j => Host.cos angles (ix2 ⟨(row t y0 : ℕ) % 4096, by omega⟩ j)) := by
    funext j
    rw [read_c, tabRow_eq]
    exact (congrFun (cos_eq m c) _).trans (table_cos _ _ j)
  have hs : (fun j => (iblk m c 3 t : Vec Ideal S1024x128 .f32) (ix2 y0 j))
      = sinTab (fun j => Host.sin angles (ix2 ⟨(row t y0 : ℕ) % 4096, by omega⟩ j)) := by
    funext j
    rw [read_s, tabRow_eq]
    exact (congrFun (sin_eq m c) _).trans (table_sin _ _ j)
  rw [hc, hs]
  refine paired_eq _ _ _ _ _ (fun e => ?_) (fun e => ?_)
  · exact prodAt_congr (fun k => read_a m c t y0 k) (fun j => (read_w m c t j _).trans ((congrFun (w_eq m c) _).trans (weights_lo _ j e)))
  · exact prodAt_congr (fun k => read_a m c t y0 k) (fun j => (read_w m c t j _).trans ((congrFun (w_eq m c) _).trans (weights_hi _ j e)))

/-- The claim: both programs run, and end at the shared keys of their arguments. -/
theorem algebraic : Cert.algebraic_Kernel15Ideal_Reference15Ideal (hKernel15Ideal := Cert.Kernel15Ideal.Gen.facts)
    (hReference15Ideal := Cert.Reference15Ideal.Gen.facts) := fun m ρ m' ρ' _ hag => by
  refine ⟨fun c => shared (rows (m ((c : Thread nD τ).loc main_arg0))) (keyCols (m ((c : Thread nD τ).loc main_arg1)))
    (Host.cos (φ := .f32) angles) (Host.sin (φ := .f32) angles), ?_, ?_⟩
  · exact (θ_run defs _ _).mono (fun r h c => ⟨(h c).1.trans (arr_eq m c), (h c).2⟩)
      (Cert.Kernel15Ideal.Value.run_blocks (F := Ideal) m ρ)
  · refine (θ_run _ _ _).mono (fun r h c => ⟨(h c).1.trans ?_, (h c).2⟩) (Cert.Reference15Ideal.Value.run (F := Ideal) m' ρ')
    obtain ⟨e0, e1⟩ := hag c
    exact (ref_eq _ _).trans (by rw [e0, e1])

end Cert.Proof.Kpe

end
-- ==== Proof.lean ====
/- The proof of the certificate's claims: the frames of the kernels and of the references, the idealizations' ledgers, and
   the value claims, each proved in a module of its own. -/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.AttnClaim
public import proofs.«01_k».proof.Proof.Down
public import proofs.«01_k».proof.Proof.FfnUp
public import proofs.«01_k».proof.Proof.Gates
public import proofs.«01_k».proof.Proof.Merge
public import proofs.«01_k».proof.Proof.OutProj
public import proofs.«01_k».proof.Proof.Norm
public import proofs.«01_k».proof.Proof.ProjA
public import proofs.«01_k».proof.Proof.ProjVG
public import proofs.«01_k».proof.Proof.ProjQK
public import proofs.«01_k».proof.Proof.ProjB
public import proofs.«01_k».proof.Proof.QUp
public import proofs.«01_k».proof.Proof.NormTail
public import proofs.«01_k».proof.Proof.KvUp
public import proofs.«01_k».proof.Proof.Kpe
public import Idealize.ShloMosaic.Lib.Quiescent

@[expose] public section

noncomputable section

namespace Cert.Proof

open Idealize.ShloMosaic Idealize.SL.Sem

/- A reference runs, its arguments unchanged, and no counter moves: it has none. -/

theorem frame_ref : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

theorem frame_ref2 : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run (F := Ideal) m ρ)

theorem frame_ref3 : Cert.quiescent_Reference3Ideal (hReference3Ideal := Cert.Reference3Ideal.Gen.facts) := fun m ρ _ =>
  (θ_run Cert.Reference3Ideal.defs _ _).mono
    (fun r h => ⟨fun c => (h c).2, sem_eq_zero_of_no_sems (by decide) r.2⟩) (Cert.Reference3Ideal.Value.run (F := Ideal) m ρ)

theorem frame_ref4 : Cert.quiescent_Reference4Ideal (hReference4Ideal := Cert.Reference4Ideal.Gen.facts) := fun m ρ _ =>
  (θ_run Cert.Reference4Ideal.defs _ _).mono
    (fun r h => ⟨fun c => (h c).2, sem_eq_zero_of_no_sems (by decide) r.2⟩) (Cert.Reference4Ideal.Value.run (F := Ideal) m ρ)

theorem frame_ref5 : Cert.quiescent_Reference5Ideal (hReference5Ideal := Cert.Reference5Ideal.Gen.facts) := fun m ρ _ =>
  (θ_run Cert.Reference5Ideal.defs _ _).mono
    (fun r h => ⟨fun c => (h c).2, sem_eq_zero_of_no_sems (by decide) r.2⟩) (Cert.Reference5Ideal.Value.run (F := Ideal) m ρ)

theorem frame_ref6 : Cert.quiescent_Reference6Ideal (hReference6Ideal := Cert.Reference6Ideal.Gen.facts) := fun m ρ _ =>
  (θ_run Cert.Reference6Ideal.defs _ _).mono
    (fun r h => ⟨fun c => (h c).2, sem_eq_zero_of_no_sems (by decide) r.2⟩) (Cert.Reference6Ideal.Value.run (F := Ideal) m ρ)

theorem frame_ref7 : Cert.quiescent_Reference7Ideal (hReference7Ideal := Cert.Reference7Ideal.Gen.facts) := fun m ρ _ =>
  (θ_run Cert.Reference7Ideal.defs _ _).mono
    (fun r h => ⟨fun c => (h c).2, sem_eq_zero_of_no_sems (by decide) r.2⟩) (Cert.Reference7Ideal.Value.run (F := Ideal) m ρ)

theorem frame_ref8 : Cert.quiescent_Reference8Ideal (hReference8Ideal := Cert.Reference8Ideal.Gen.facts) := fun m ρ _ =>
  (θ_run Cert.Reference8Ideal.defs _ _).mono
    (fun r h => ⟨fun c => (h c).2, sem_eq_zero_of_no_sems (by decide) r.2⟩) (Cert.Reference8Ideal.Value.run (F := Ideal) m ρ)

theorem frame_ref9 : Cert.quiescent_Reference9Ideal (hReference9Ideal := Cert.Reference9Ideal.Gen.facts) := fun m ρ _ =>
  (θ_run Cert.Reference9Ideal.defs _ _).mono
    (fun r h => ⟨fun c => (h c).2, sem_eq_zero_of_no_sems (by decide) r.2⟩) (Cert.Reference9Ideal.Value.run (F := Ideal) m ρ)

theorem frame_ref10 : Cert.quiescent_Reference10Ideal (hReference10Ideal := Cert.Reference10Ideal.Gen.facts) := fun m ρ _ =>
  (θ_run Cert.Reference10Ideal.defs _ _).mono
    (fun r h => ⟨fun c => (h c).2, sem_eq_zero_of_no_sems (by decide) r.2⟩) (Cert.Reference10Ideal.Value.run (F := Ideal) m ρ)

theorem frame_ref11 : Cert.quiescent_Reference11Ideal (hReference11Ideal := Cert.Reference11Ideal.Gen.facts) := fun m ρ _ =>
  (θ_run Cert.Reference11Ideal.defs _ _).mono
    (fun r h => ⟨fun c => (h c).2.2, sem_eq_zero_of_no_sems (by decide) r.2⟩) (Cert.Reference11Ideal.Value.run (F := Ideal) m ρ)

theorem frame_ref12 : Cert.quiescent_Reference12Ideal (hReference12Ideal := Cert.Reference12Ideal.Gen.facts) := fun m ρ _ =>
  (θ_run Cert.Reference12Ideal.defs _ _).mono
    (fun r h => ⟨fun c => (h c).2, sem_eq_zero_of_no_sems (by decide) r.2⟩) (Cert.Reference12Ideal.Value.run (F := Ideal) m ρ)

theorem frame_ref13 : Cert.quiescent_Reference13Ideal (hReference13Ideal := Cert.Reference13Ideal.Gen.facts) := fun m ρ _ =>
  (θ_run Cert.Reference13Ideal.defs _ _).mono
    (fun r h => ⟨fun c => (h c).2, sem_eq_zero_of_no_sems (by decide) r.2⟩) (Cert.Reference13Ideal.Value.run (F := Ideal) m ρ)

theorem frame_ref14 : Cert.quiescent_Reference14Ideal (hReference14Ideal := Cert.Reference14Ideal.Gen.facts) := fun m ρ _ =>
  (θ_run Cert.Reference14Ideal.defs _ _).mono
    (fun r h => ⟨fun c => (h c).2.2, sem_eq_zero_of_no_sems (by decide) r.2⟩) (Cert.Reference14Ideal.Value.run (F := Ideal) m ρ)

theorem frame_ref15 : Cert.quiescent_Reference15Ideal (hReference15Ideal := Cert.Reference15Ideal.Gen.facts) := fun m ρ _ =>
  (θ_run Cert.Reference15Ideal.defs _ _).mono
    (fun r h => ⟨fun c => (h c).2, sem_eq_zero_of_no_sems (by decide) r.2⟩) (Cert.Reference15Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    AttnClaim.preFacts,
    fun m ρ _ => Cert.Kernel.Gen.frame m ρ,
    fun m ρ _ => Cert.KernelIdeal.Gen.frame m ρ,
    fun m ρ _ => Cert.KernelIdeal.Gen.frame m ρ,
    frame_ref,
    fun m ρ _ => frame_ref m ρ trivial,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    fun m ρ _ => Cert.Kernel6.Gen.frame m ρ, fun m ρ _ => Cert.Kernel6Ideal.Gen.frame m ρ, frame_ref6,
    fun m ρ _ => Cert.Kernel7.Gen.frame m ρ, fun m ρ _ => Cert.Kernel7Ideal.Gen.frame m ρ, frame_ref7,
    fun m ρ _ => Cert.Kernel8.Gen.frame m ρ, fun m ρ _ => Cert.Kernel8Ideal.Gen.frame m ρ, frame_ref8,
    fun m ρ _ => Cert.Kernel9.Gen.frame m ρ, fun m ρ _ => Cert.Kernel9Ideal.Gen.frame m ρ, frame_ref9,
    fun m ρ _ => Cert.Kernel10.Gen.frame m ρ, fun m ρ _ => Cert.Kernel10Ideal.Gen.frame m ρ, frame_ref10,
    fun m ρ _ => Cert.Kernel11.Gen.frame m ρ, fun m ρ _ => Cert.Kernel11Ideal.Gen.frame m ρ, frame_ref11,
    fun m ρ _ => Cert.Kernel12.Gen.frame m ρ, fun m ρ _ => Cert.Kernel12Ideal.Gen.frame m ρ, frame_ref12,
    fun m ρ _ => Cert.Kernel13.Gen.frame m ρ, fun m ρ _ => Cert.Kernel13Ideal.Gen.frame m ρ, frame_ref13,
    fun m ρ _ => Cert.Kernel14.Gen.frame m ρ, fun m ρ _ => Cert.Kernel14Ideal.Gen.frame m ρ, frame_ref14,
    fun m ρ _ => Cert.Kernel15.Gen.frame m ρ, fun m ρ _ => Cert.Kernel15Ideal.Gen.frame m ρ, frame_ref15,
    trivial, AttnClaim.algebraic,
    trivial, Ffn.algebraic,
    trivial, Down.algebraic,
    trivial, Gates.algebraic,
    trivial, Merge.algebraic,
    trivial, OutProj.algebraic,
    trivial, Norm.algebraic,
    trivial, ProjA.algebraic,
    trivial, ProjVG.algebraic,
    trivial, ProjQK.algebraic,
    trivial, ProjB.algebraic,
    trivial, QUp.algebraic,
    trivial, NormTail.algebraic,
    trivial, KvUp.algebraic,
    trivial, Kpe.algebraic⟩

end Cert.Proof

end
